-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2 = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v119_1)) (v1 : (c : Dev Cert.Kernel3Ideal.nD) → Buf (Elt Ideal) ((c.tc : Thread Cert.Kernel3Ideal.nD Cert.Kernel3Ideal.τ).loc Cert.Kernel3Ideal.main_v119_3)) (v2 : (c : Dev Cert.Kernel3Ideal.nD) → Buf (Elt Ideal) ((c.tc : Thread Cert.Kernel3Ideal.nD Cert.Kernel3Ideal.τ).loc Cert.Kernel3Ideal.main_v119_6)) (v3 : (c : Dev Cert.Kernel3Ideal.nD) → Buf (Elt Ideal) ((c.tc : Thread Cert.Kernel3Ideal.nD Cert.Kernel3Ideal.τ).loc Cert.Kernel3Ideal.main_v119_7)) (v4 : (c : Dev Cert.Kernel3Ideal.nD) → Buf (Elt Ideal) ((c.tc : Thread Cert.Kernel3Ideal.nD Cert.Kernel3Ideal.τ).loc Cert.Kernel3Ideal.main_v119_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v119_1) = v0 c
          ∧ r.2.mem ((c.tc : Thread Cert.Kernel3Ideal.nD Cert.Kernel3Ideal.τ).loc Cert.Kernel3Ideal.main_v119_3) = v1 c
          ∧ r.2.mem ((c.tc : Thread Cert.Kernel3Ideal.nD Cert.Kernel3Ideal.τ).loc Cert.Kernel3Ideal.main_v119_6) = v2 c
          ∧ r.2.mem ((c.tc : Thread Cert.Kernel3Ideal.nD Cert.Kernel3Ideal.τ).loc Cert.Kernel3Ideal.main_v119_7) = v3 c
          ∧ r.2.mem ((c.tc : Thread Cert.Kernel3Ideal.nD Cert.Kernel3Ideal.τ).loc Cert.Kernel3Ideal.main_v119_8) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v224) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v225) = v2 c
          ∧ r.2.mem ((c.tc : Thread Cert.Reference3Ideal.nD Cert.Reference3Ideal.τ).loc Cert.Reference3Ideal.main_v227) = v3 c
          ∧ r.2.mem ((c.tc : Thread Cert.Reference3Ideal.nD Cert.Reference3Ideal.τ).loc Cert.Reference3Ideal.main_v228) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v122_1)) (v1 : (c : Dev Cert.Kernel4Ideal.nD) → Buf (Elt Ideal) ((c.tc : Thread Cert.Kernel4Ideal.nD Cert.Kernel4Ideal.τ).loc Cert.Kernel4Ideal.main_v122_3)) (v2 : (c : Dev Cert.Kernel4Ideal.nD) → Buf (Elt Ideal) ((c.tc : Thread Cert.Kernel4Ideal.nD Cert.Kernel4Ideal.τ).loc Cert.Kernel4Ideal.main_v122_6)) (v3 : (c : Dev Cert.Kernel4Ideal.nD) → Buf (Elt Ideal) ((c.tc : Thread Cert.Kernel4Ideal.nD Cert.Kernel4Ideal.τ).loc Cert.Kernel4Ideal.main_v122_7)) (v4 : (c : Dev Cert.Kernel4Ideal.nD) → Buf (Elt Ideal) ((c.tc : Thread Cert.Kernel4Ideal.nD Cert.Kernel4Ideal.τ).loc Cert.Kernel4Ideal.main_v122_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v122_1) = v0 c
          ∧ r.2.mem ((c.tc : Thread Cert.Kernel4Ideal.nD Cert.Kernel4Ideal.τ).loc Cert.Kernel4Ideal.main_v122_3) = v1 c
          ∧ r.2.mem ((c.tc : Thread Cert.Kernel4Ideal.nD Cert.Kernel4Ideal.τ).loc Cert.Kernel4Ideal.main_v122_6) = v2 c
          ∧ r.2.mem ((c.tc : Thread Cert.Kernel4Ideal.nD Cert.Kernel4Ideal.τ).loc Cert.Kernel4Ideal.main_v122_7) = v3 c
          ∧ r.2.mem ((c.tc : Thread Cert.Kernel4Ideal.nD Cert.Kernel4Ideal.τ).loc Cert.Kernel4Ideal.main_v122_8) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v220) = v0 c
          ∧ r.2.mem ((c.tc : Thread Cert.Reference4Ideal.nD Cert.Reference4Ideal.τ).loc Cert.Reference4Ideal.main_v221) = v1 c
          ∧ r.2.mem ((c.tc : Thread Cert.Reference4Ideal.nD Cert.Reference4Ideal.τ).loc Cert.Reference4Ideal.main_v222) = v2 c
          ∧ r.2.mem ((c.tc : Thread Cert.Reference4Ideal.nD Cert.Reference4Ideal.τ).loc Cert.Reference4Ideal.main_v224) = v3 c
          ∧ r.2.mem ((c.tc : Thread Cert.Reference4Ideal.nD Cert.Reference4Ideal.τ).loc Cert.Reference4Ideal.main_v225) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_inputs : Cert.Pre_finite_inputs.Facts) (hPre_routed : Cert.Pre_routed.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_inputs.lean ====
abbrev S8x4096x8x2x32 : Shape := ⟨5, ![8, 4096, 8, 2, 32]⟩
abbrev S8x4096x8x64 : Shape := ⟨4, ![8, 4096, 8, 64]⟩
abbrev S4x32 : Shape := ⟨2, ![4, 32]⟩
abbrev S64 : Shape := ⟨1, ![64]⟩
abbrev S_ : Shape := ⟨0, ![]⟩

class Facts : Prop where
  bcast_S_S8x4096x8x2x32 : S_.BroadcastsInDim S8x4096x8x2x32 (![] : Fin 0 → Fin S8x4096x8x2x32.rank)
  bcast_S_S8x4096x8x64 : S_.BroadcastsInDim S8x4096x8x64 (![] : Fin 0 → Fin S8x4096x8x64.rank)
  bcast_S_S4x32 : S_.BroadcastsInDim S4x32 (![] : Fin 0 → Fin S4x32.rank)

variable [Facts]

def fn {F : FTy → Type} [FloatOps F] (main_arg0 : FVec F S8x4096x8x2x32 .f32) (main_arg1 : FVec F S8x4096x8x2x32 .f32) (main_arg2 : FVec F S8x4096x8x64 .f32) (main_arg3 : FVec F S4x32 .f32) (main_arg4 : FVec F S64 .f32) : IVec S8x4096x8x2x32 1 × IVec S8x4096x8x2x32 1 × IVec S8x4096x8x64 1 × IVec S4x32 1 :=
  let main_v0 : FVec F S8x4096x8x2x32 .f32 := Host.absf main_arg0
  let main_cst : FVec F S_ .f32 := constant S_ .f32 0x7F800000#32
  let main_v1 : FVec F S8x4096x8x2x32 .f32 := broadcastInDim S8x4096x8x2x32 ![] bcast_S_S8x4096x8x2x32 main_cst
  let main_v2 : IVec S8x4096x8x2x32 1 := cmpf .olt main_v0 main_v1
  let main_v3 : FVec F S8x4096x8x2x32 .f32 := Host.absf main_arg1
  let main_cst_0 : FVec F S_ .f32 := constant S_ .f32 0x7F800000#32
  let main_v4 : FVec F S8x4096x8x2x32 .f32 := broadcastInDim S8x4096x8x2x32 ![] bcast_S_S8x4096x8x2x32 main_cst_0
  let main_v5 : IVec S8x4096x8x2x32 1 := cmpf .olt main_v3 main_v4
  let main_v6 : FVec F S8x4096x8x64 .f32 := Host.absf main_arg2
  let main_cst_1 : FVec F S_ .f32 := constant S_ .f32 0x7F800000#32
  let main_v7 : FVec F S8x4096x8x64 .f32 := broadcastInDim S8x4096x8x64 ![] bcast_S_S8x4096x8x64 main_cst_1
  let main_v8 : IVec S8x4096x8x64 1 := cmpf .olt main_v6 main_v7
  let main_v9 : FVec F S4x32 .f32 := Host.absf main_arg3
  let main_cst_2 : FVec F S_ .f32 := constant S_ .f32 0x7F800000#32
  let main_v10 : FVec F S4x32 .f32 := broadcastInDim S4x32 ![] bcast_S_S4x32 main_cst_2
  let main_v11 : IVec S4x32 1 := cmpf .olt main_v9 main_v10
  (main_v2, main_v5, main_v8, main_v11)
-- ==== Pre_routed.lean ====
abbrev S289 : Shape := ⟨1, ![289]⟩
abbrev S1 : Shape := ⟨1, ![1]⟩
abbrev S147968x1024 : Shape := ⟨2, ![147968, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S289 : S_.BroadcastsInDim S289 (![] : Fin 0 → Fin S289.rank)
  bcast_S_S1 : S_.BroadcastsInDim S1 (![] : Fin 0 → Fin S1.rank)

variable [Facts]

def fn {F : FTy → Type} [FloatOps F] (main_arg0 : IVec S289 32) (main_arg1 : IVec S1 32) (main_arg2 : FVec F S147968x1024 .f32) (main_arg3 : FVec F S32x1024x2048 .f32) (main_arg4 : FVec F S32x1x2048 .f32) (main_arg5 : FVec F S32x1024x1024 .f32) (main_arg6 : FVec F S32x1x1024 .f32) : IVec S289 1 × IVec S1 1 :=
  let main_c : IVec S_ 32 := constantI S_ 32 0#32
  let main_v0 : IVec S289 32 := broadcastInDim S289 ![] bcast_S_S289 main_c
  let main_v1 : IVec S289 1 := cmpi .sge main_arg0 main_v0
  let main_c_0 : IVec S_ 32 := constantI S_ 32 32#32
  let main_v2 : IVec S289 32 := broadcastInDim S289 ![] bcast_S_S289 main_c_0
  let main_v3 : IVec S289 1 := cmpi .slt main_arg0 main_v2
  let main_v4 : IVec S289 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 289#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Kernel.lean ====
abbrev S8x4096x8x2x32 : Shape := ⟨5, ![8, 4096, 8, 2, 32]⟩
abbrev S8x4096x8x64 : Shape := ⟨4, ![8, 4096, 8, 64]⟩
abbrev S4x32 : Shape := ⟨2, ![4, 32]⟩
abbrev S64 : Shape := ⟨1, ![64]⟩
abbrev S_ : Shape := ⟨0, ![]⟩
abbrev S8x4096x512 : Shape := ⟨3, ![8, 4096, 512]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x512x128 : Shape := ⟨3, ![1, 512, 128]⟩
abbrev S1x4096x128 : Shape := ⟨3, ![1, 4096, 128]⟩
abbrev S512x128 : Shape := ⟨2, ![512, 128]⟩
abbrev S1x32 : Shape := ⟨2, ![1, 32]⟩
abbrev S1 : Shape := ⟨1, ![1]⟩
abbrev S1x1 : Shape := ⟨2, ![1, 1]⟩
abbrev S512x512 : Shape := ⟨2, ![512, 512]⟩
abbrev S32x512 : Shape := ⟨2, ![32, 512]⟩
abbrev S32x128 : Shape := ⟨2, ![32, 128]⟩
abbrev S32 : Shape := ⟨1, ![32]⟩
abbrev S32x1 : Shape := ⟨2, ![32, 1]⟩
abbrev S512 : Shape := ⟨1, ![512]⟩
abbrev S512x1 : Shape := ⟨2, ![512, 1]⟩

abbrev nBuf : Space → Nat
  | .hbm => 22
  | .vmem => 10
  | .smem => 0
  | _ => 0

abbrev bufTy : (tb : Table) → Fin (tcTables nBuf tb) → BufTy
  | .hbm, ⟨0, _⟩ => ⟨S8x4096x8x2x32, .f32⟩
  | .hbm, ⟨1, _⟩ => ⟨S8x4096x8x2x32, .f32⟩
  | .hbm, ⟨2, _⟩ => ⟨S8x4096x8x64, .f32⟩
  | .hbm, ⟨3, _⟩ => ⟨S4x32, .f32⟩
  | .hbm, ⟨4, _⟩ => ⟨S64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4096x512, .f32⟩
  | .hbm, ⟨10, _⟩ => ⟨S8x4096x512, .f32⟩
  | .hbm, ⟨11, _⟩ => ⟨S8x4096x512, .f32⟩
  | .hbm, ⟨12, _⟩ => ⟨S8x4096x512, .bf16⟩
  | .hbm, ⟨13, _⟩ => ⟨S8x4096x512, .f32⟩
  | .hbm, ⟨14, _⟩ => ⟨S8x4096x512, .bf16⟩
  | .hbm, ⟨15, _⟩ => ⟨S8x4096x512, .f32⟩
  | .hbm, ⟨16, _⟩ => ⟨S8x4096x512, .bf16⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S1x128, .f32⟩
  | .hbm, ⟨21, _⟩ => ⟨S8x4096x512, .bf16⟩
  | .local _ .vmem, ⟨0, _⟩ => ⟨S4x32, .f32⟩
  | .local _ .vmem, ⟨1, _⟩ => ⟨S1x512x128, .bf16⟩
  | .local _ .vmem, ⟨2, _⟩ => ⟨S1x512x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x128, .f32⟩
  | .local _ .vmem, ⟨8, _⟩ => ⟨S1x512x128, .bf16⟩
  | .local _ .vmem, ⟨9, _⟩ => ⟨S1x512x128, .bf16⟩
  | _, _ => ⟨S8x4096x8x2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 8], ![false, false, false]⟩

@[reducible] def k0_t1_loop (i : grid0.Coords) : Scf.Loop 32 :=
  let c0_i32_26 : BitVec 32 := 0#32
  let arg2 : BitVec 32 := BitVec.ofNat 32 (i 2).val
  let c512_i32 : BitVec 32 := 512#32
  let v55 : BitVec 32 := Scalar.muli arg2 c512_i32
  let c0_i32_21 : BitVec 32 := 0#32
  let v65 : BitVec 1 := Scalar.cmpi .sgt v55 c0_i32_21
  let v66 : BitVec 32 := Scalar.extui v65
  let c0_i32_22 : BitVec 32 := 0#32
  let v67 : BitVec 1 := Scalar.cmpi .slt v55 c0_i32_22
  let v68 : BitVec 32 := Scalar.extui v67
  let v69 : BitVec 32 := Scalar.subi v66 v68
  let c512_i32_20 : BitVec 32 := 512#32
  let c0_i32_23 : BitVec 32 := 0#32
  let v70 : BitVec 1 := Scalar.cmpi .sgt c512_i32_20 c0_i32_23
  let v71 : BitVec 32 := Scalar.extui v70
  let c0_i32_24 : BitVec 32 := 0#32
  let v72 : BitVec 1 := Scalar.cmpi .slt c512_i32_20 c0_i32_24
  let v73 : BitVec 32 := Scalar.extui v72
  let v74 : BitVec 32 := Scalar.subi v71 v73
  let v75 : BitVec 1 := Scalar.cmpi .ne v69 v74
  let v76 : BitVec 32 := Scalar.remsi v55 c512_i32_20
  let c0_i32_25 : BitVec 32 := 0#32
  let v77 : BitVec 1 := Scalar.cmpi .ne v76 c0_i32_25
  let v78 : BitVec 1 := Scalar.andi v75 v77
  let v64 : BitVec 32 := Scalar.divsi v55 c512_i32_20
  let c1_i32 : BitVec 32 := 1#32
  let v79 : BitVec 32 := Scalar.subi v64 c1_i32
  let v80 : BitVec 32 := Scalar.select v78 v79 v64
  let v81 : BitVec 32 := Scalar.subi v80 c0_i32_26
  let c1_i32_27 : BitVec 32 := 1#32
  let v83 : BitVec 32 := Scalar.divsi v81 c1_i32_27
  let v84 : BitVec 32 := Scalar.muli v83 c1_i32_27
  let v85 : BitVec 32 := Scalar.addi c0_i32_26 v84
  let c1_i32_28 : BitVec 32 := 1#32
  ⟨c0_i32_26, v85, c1_i32_28⟩
def k0_mult1 (i : grid0.Coords) (k0_t1 : Fin (k0_t1_loop i).trips) : BitVec 32 :=
  let c0_i32_26 : BitVec 32 := 0#32
  let c1_i32_28 : BitVec 32 := 1#32
  let arg9 : BitVec 32 := Scf.iv c0_i32_26 c1_i32_28 k0_t1
  let c512_i32_195 : BitVec 32 := 512#32
  let v1210 : BitVec 32 := Scalar.muli arg9 c512_i32_195
  v1210
def k0_off1 (i : grid0.Coords) (k0_t1 : Fin (k0_t1_loop i).trips) : Fin 3 → Nat :=
  let c0_196 : Index := 0#32
  let c0_i32_26 : BitVec 32 := 0#32
  let c1_i32_28 : BitVec 32 := 1#32
  let arg9 : BitVec 32 := Scf.iv c0_i32_26 c1_i32_28 k0_t1
  let c512_i32_195 : BitVec 32 := 512#32
  let v1210 : BitVec 32 := Scalar.muli arg9 c512_i32_195
  let v1211 : BitVec 32 := v1210
  let v1212 : Index := Scalar.indexCast v1211
  let c0_197 : Index := 0#32
  ![0, v1212.toNat, 0]
@[reducible] def k0_t2_loop (i : grid0.Coords) : Scf.Loop 32 :=
  let c0_i32_26 : BitVec 32 := 0#32
  let arg2 : BitVec 32 := BitVec.ofNat 32 (i 2).val
  let c512_i32 : BitVec 32 := 512#32
  let v55 : BitVec 32 := Scalar.muli arg2 c512_i32
  let c0_i32_21 : BitVec 32 := 0#32
  let v65 : BitVec 1 := Scalar.cmpi .sgt v55 c0_i32_21
  let v66 : BitVec 32 := Scalar.extui v65
  let c0_i32_22 : BitVec 32 := 0#32
  let v67 : BitVec 1 := Scalar.cmpi .slt v55 c0_i32_22
  let v68 : BitVec 32 := Scalar.extui v67
  let v69 : BitVec 32 := Scalar.subi v66 v68
  let c512_i32_20 : BitVec 32 := 512#32
  let c0_i32_23 : BitVec 32 := 0#32
  let v70 : BitVec 1 := Scalar.cmpi .sgt c512_i32_20 c0_i32_23
  let v71 : BitVec 32 := Scalar.extui v70
  let c0_i32_24 : BitVec 32 := 0#32
  let v72 : BitVec 1 := Scalar.cmpi .slt c512_i32_20 c0_i32_24
  let v73 : BitVec 32 := Scalar.extui v72
  let v74 : BitVec 32 := Scalar.subi v71 v73
  let v75 : BitVec 1 := Scalar.cmpi .ne v69 v74
  let v76 : BitVec 32 := Scalar.remsi v55 c512_i32_20
  let c0_i32_25 : BitVec 32 := 0#32
  let v77 : BitVec 1 := Scalar.cmpi .ne v76 c0_i32_25
  let v78 : BitVec 1 := Scalar.andi v75 v77
  let v64 : BitVec 32 := Scalar.divsi v55 c512_i32_20
  let c1_i32 : BitVec 32 := 1#32
  let v79 : BitVec 32 := Scalar.subi v64 c1_i32
  let v80 : BitVec 32 := Scalar.select v78 v79 v64
  let v81 : BitVec 32 := Scalar.subi v80 c0_i32_26
  let c1_i32_27 : BitVec 32 := 1#32
  let v83 : BitVec 32 := Scalar.divsi v81 c1_i32_27
  let v84 : BitVec 32 := Scalar.muli v83 c1_i32_27
  let v85 : BitVec 32 := Scalar.addi c0_i32_26 v84
  let v82 : BitVec 32 := Scalar.addi c0_i32_26 v81
  let c1_i32_29 : BitVec 32 := 1#32
  ⟨v85, v82, c1_i32_29⟩
def k0_mult2 (i : grid0.Coords) (k0_t2 : Fin (k0_t2_loop i).trips) : BitVec 32 :=
  let c0_i32_26 : BitVec 32 := 0#32
  let arg2 : BitVec 32 := BitVec.ofNat 32 (i 2).val
  let c512_i32 : BitVec 32 := 512#32
  let v55 : BitVec 32 := Scalar.muli arg2 c512_i32
  let c0_i32_21 : BitVec 32 := 0#32
  let v65 : BitVec 1 := Scalar.cmpi .sgt v55 c0_i32_21
  let v66 : BitVec 32 := Scalar.extui v65
  let c0_i32_22 : BitVec 32 := 0#32
  let v67 : BitVec 1 := Scalar.cmpi .slt v55 c0_i32_22
  let v68 : BitVec 32 := Scalar.extui v67
  let v69 : BitVec 32 := Scalar.subi v66 v68
  let c512_i32_20 : BitVec 32 := 512#32
  let c0_i32_23 : BitVec 32 := 0#32
  let v70 : BitVec 1 := Scalar.cmpi .sgt c512_i32_20 c0_i32_23
  let v71 : BitVec 32 := Scalar.extui v70
  let c0_i32_24 : BitVec 32 := 0#32
  let v72 : BitVec 1 := Scalar.cmpi .slt c512_i32_20 c0_i32_24
  let v73 : BitVec 32 := Scalar.extui v72
  let v74 : BitVec 32 := Scalar.subi v71 v73
  let v75 : BitVec 1 := Scalar.cmpi .ne v69 v74
  let v76 : BitVec 32 := Scalar.remsi v55 c512_i32_20
  let c0_i32_25 : BitVec 32 := 0#32
  let v77 : BitVec 1 := Scalar.cmpi .ne v76 c0_i32_25
  let v78 : BitVec 1 := Scalar.andi v75 v77
  let v64 : BitVec 32 := Scalar.divsi v55 c512_i32_20
  let c1_i32 : BitVec 32 := 1#32
  let v79 : BitVec 32 := Scalar.subi v64 c1_i32
  let v80 : BitVec 32 := Scalar.select v78 v79 v64
  let v81 : BitVec 32 := Scalar.subi v80 c0_i32_26
  let c1_i32_27 : BitVec 32 := 1#32
  let v83 : BitVec 32 := Scalar.divsi v81 c1_i32_27
  let v84 : BitVec 32 := Scalar.muli v83 c1_i32_27
  let v85 : BitVec 32 := Scalar.addi c0_i32_26 v84
  let c1_i32_29 : BitVec 32 := 1#32
  let arg9 : BitVec 32 := Scf.iv v85 c1_i32_29 k0_t2
  let c512_i32_195 : BitVec 32 := 512#32
  let v1210 : BitVec 32 := Scalar.muli arg9 c512_i32_195
  v1210
def k0_off2 (i : grid0.Coords) (k0_t2 : Fin (k0_t2_loop i).trips) : Fin 3 → Nat :=
  let c0_196 : Index := 0#32
  let c0_i32_26 : BitVec 32 := 0#32
  let arg2 : BitVec 32 := BitVec.ofNat 32 (i 2).val
  let c512_i32 : BitVec 32 := 512#32
  let v55 : BitVec 32 := Scalar.muli arg2 c512_i32
  let c0_i32_21 : BitVec 32 := 0#32
  let v65 : BitVec 1 := Scalar.cmpi .sgt v55 c0_i32_21
  let v66 : BitVec 32 := Scalar.extui v65
  let c0_i32_22 : BitVec 32 := 0#32
  let v67 : BitVec 1 := Scalar.cmpi .slt v55 c0_i32_22
  let v68 : BitVec 32 := Scalar.extui v67
  let v69 : BitVec 32 := Scalar.subi v66 v68
  let c512_i32_20 : BitVec 32 := 512#32
  let c0_i32_23 : BitVec 32 := 0#32
  let v70 : BitVec 1 := Scalar.cmpi .sgt c512_i32_20 c0_i32_23
  let v71 : BitVec 32 := Scalar.extui v70
  let c0_i32_24 : BitVec 32 := 0#32
  let v72 : BitVec 1 := Scalar.cmpi .slt c512_i32_20 c0_i32_24
  let v73 : BitVec 32 := Scalar.extui v72
  let v74 : BitVec 32 := Scalar.subi v71 v73
  let v75 : BitVec 1 := Scalar.cmpi .ne v69 v74
  let v76 : BitVec 32 := Scalar.remsi v55 c512_i32_20
  let c0_i32_25 : BitVec 32 := 0#32
  let v77 : BitVec 1 := Scalar.cmpi .ne v76 c0_i32_25
  let v78 : BitVec 1 := Scalar.andi v75 v77
  let v64 : BitVec 32 := Scalar.divsi v55 c512_i32_20
  let c1_i32 : BitVec 32 := 1#32
  let v79 : BitVec 32 := Scalar.subi v64 c1_i32
  let v80 : BitVec 32 := Scalar.select v78 v79 v64
  let v81 : BitVec 32 := Scalar.subi v80 c0_i32_26
  let c1_i32_27 : BitVec 32 := 1#32
  let v83 : BitVec 32 := Scalar.divsi v81 c1_i32_27
  let v84 : BitVec 32 := Scalar.muli v83 c1_i32_27
  let v85 : BitVec 32 := Scalar.addi c0_i32_26 v84
  let c1_i32_29 : BitVec 32 := 1#32
  let arg9 : BitVec 32 := Scf.iv v85 c1_i32_29 k0_t2
  let c512_i32_195 : BitVec 32 := 512#32
  let v1210 : BitVec 32 := Scalar.muli arg9 c512_i32_195
  let v1211 : BitVec 32 := v1210
  let v1212 : Index := Scalar.indexCast v1211
  let c0_197 : Index := 0#32
  ![0, v1212.toNat, 0]
def k0_mult3 (i : grid0.Coords) : BitVec 32 :=
  let arg2 : BitVec 32 := BitVec.ofNat 32 (i 2).val
  let c512_i32 : BitVec 32 := 512#32
  let v55 : BitVec 32 := Scalar.muli arg2 c512_i32
  let c0_i32_21 : BitVec 32 := 0#32
  let v65 : BitVec 1 := Scalar.cmpi .sgt v55 c0_i32_21
  let v66 : BitVec 32 := Scalar.extui v65
  let c0_i32_22 : BitVec 32 := 0#32
  let v67 : BitVec 1 := Scalar.cmpi .slt v55 c0_i32_22
  let v68 : BitVec 32 := Scalar.extui v67
  let v69 : BitVec 32 := Scalar.subi v66 v68
  let c512_i32_20 : BitVec 32 := 512#32
  let c0_i32_23 : BitVec 32 := 0#32
  let v70 : BitVec 1 := Scalar.cmpi .sgt c512_i32_20 c0_i32_23
  let v71 : BitVec 32 := Scalar.extui v70
  let c0_i32_24 : BitVec 32 := 0#32
  let v72 : BitVec 1 := Scalar.cmpi .slt c512_i32_20 c0_i32_24
  let v73 : BitVec 32 := Scalar.extui v72
  let v74 : BitVec 32 := Scalar.subi v71 v73
  let v75 : BitVec 1 := Scalar.cmpi .ne v69 v74
  let v76 : BitVec 32 := Scalar.remsi v55 c512_i32_20
  let c0_i32_25 : BitVec 32 := 0#32
  let v77 : BitVec 1 := Scalar.cmpi .ne v76 c0_i32_25
  let v78 : BitVec 1 := Scalar.andi v75 v77
  let v64 : BitVec 32 := Scalar.divsi v55 c512_i32_20
  let c1_i32 : BitVec 32 := 1#32
  let v79 : BitVec 32 := Scalar.subi v64 c1_i32
  let v80 : BitVec 32 := Scalar.select v78 v79 v64
  let c512_i32_30 : BitVec 32 := 512#32
  let v88 : BitVec 32 := Scalar.muli v80 c512_i32_30
  v88
def k0_off3 (i : grid0.Coords) : Fin 3 → Nat :=
  let c0_31 : Index := 0#32
  let arg2 : BitVec 32 := BitVec.ofNat 32 (i 2).val
  let c512_i32 : BitVec 32 := 512#32
  let v55 : BitVec 32 := Scalar.muli arg2 c512_i32
  let c0_i32_21 : BitVec 32 := 0#32
  let v65 : BitVec 1 := Scalar.cmpi .sgt v55 c0_i32_21
  let v66 : BitVec 32 := Scalar.extui v65
  let c0_i32_22 : BitVec 32 := 0#32
  let v67 : BitVec 1 := Scalar.cmpi .slt v55 c0_i32_22
  let v68 : BitVec 32 := Scalar.extui v67
  let v69 : BitVec 32 := Scalar.subi v66 v68
  let c512_i32_20 : BitVec 32 := 512#32
  let c0_i32_23 : BitVec 32 := 0#32
  let v70 : BitVec 1 := Scalar.cmpi .sgt c512_i32_20 c0_i32_23
  let v71 : BitVec 32 := Scalar.extui v70
  let c0_i32_24 : BitVec 32 := 0#32
  let v72 : BitVec 1 := Scalar.cmpi .slt c512_i32_20 c0_i32_24
  let v73 : BitVec 32 := Scalar.extui v72
  let v74 : BitVec 32 := Scalar.subi v71 v73
  let v75 : BitVec 1 := Scalar.cmpi .ne v69 v74
  let v76 : BitVec 32 := Scalar.remsi v55 c512_i32_20
  let c0_i32_25 : BitVec 32 := 0#32
  let v77 : BitVec 1 := Scalar.cmpi .ne v76 c0_i32_25
  let v78 : BitVec 1 := Scalar.andi v75 v77
  let v64 : BitVec 32 := Scalar.divsi v55 c512_i32_20
  let c1_i32 : BitVec 32 := 1#32
  let v79 : BitVec 32 := Scalar.subi v64 c1_i32
  let v80 : BitVec 32 := Scalar.select v78 v79 v64
  let c512_i32_30 : BitVec 32 := 512#32
  let v88 : BitVec 32 := Scalar.muli v80 c512_i32_30
  let v89 : BitVec 32 := v88
  let v90 : Index := Scalar.indexCast v89
  let c0_32 : Index := 0#32
  ![0, v90.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x8x2x32 : Shape := ⟨5, ![8, 4096, 8, 2, 32]⟩
abbrev S8x4096x8x64 : Shape := ⟨4, ![8, 4096, 8, 64]⟩
abbrev S4x32 : Shape := ⟨2, ![4, 32]⟩
abbrev S64 : Shape := ⟨1, ![64]⟩
abbrev S1x32 : Shape := ⟨2, ![1, 32]⟩
abbrev S32 : Shape := ⟨1, ![32]⟩
abbrev S_ : Shape := ⟨0, ![]⟩
abbrev S4096 : Shape := ⟨1, ![4096]⟩
abbrev S8x8x2x4096x4096 : Shape := ⟨5, ![8, 8, 2, 4096, 4096]⟩
abbrev S1x4096 : Shape := ⟨2, ![1, 4096]⟩
abbrev S4096x1 : Shape := ⟨2, ![4096, 1]⟩
abbrev S4096x4096 : Shape := ⟨2, ![4096, 4096]⟩
abbrev S1x1x1x4096x4096 : Shape := ⟨5, ![1, 1, 1, 4096, 4096]⟩
abbrev S8x8x2x4096 : Shape := ⟨4, ![8, 8, 2, 4096]⟩
abbrev S8x8x2x4096x1 : Shape := ⟨5, ![8, 8, 2, 4096, 1]⟩
abbrev S8x8x1x4096x4096 : Shape := ⟨5, ![8, 8, 1, 4096, 4096]⟩
abbrev S8x8x4096x4096 : Shape := ⟨4, ![8, 8, 4096, 4096]⟩
abbrev S8x8x64x4096 : Shape := ⟨4, ![8, 8, 64, 4096]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x512 : Shape := ⟨3, ![8, 4096, 512]⟩

abbrev nBuf : Space → Nat
  | .hbm => 89
  | .vmem => 0
  | .smem => 0
  | _ => 0

abbrev bufTy : (tb : Table) → Fin (tcTables nBuf tb) → BufTy
  | .hbm, ⟨0, _⟩ => ⟨S8x4096x8x2x32, .f32⟩
  | .hbm, ⟨1, _⟩ => ⟨S8x4096x8x2x32, .f32⟩
  | .hbm, ⟨2, _⟩ => ⟨S8x4096x8x64, .f32⟩
  | .hbm, ⟨3, _⟩ => ⟨S4x32, .f32⟩
  | .hbm, ⟨4, _⟩ => ⟨S64, .f32⟩
  | .hbm, ⟨5, _⟩ => ⟨S1x32, .f32⟩
  | .hbm, ⟨6, _⟩ => ⟨S32, .f32⟩
  | .hbm, ⟨7, _⟩ => ⟨S1x32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x32, .f32⟩
  | .hbm, ⟨14, _⟩ => ⟨S32, .f32⟩
  | .hbm, ⟨15, _⟩ => ⟨S1x32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096, .i32⟩
  | .hbm, ⟨25, _⟩ => ⟨S8x8x2x4096x4096, .f32⟩
  | .hbm, ⟨26, _⟩ => ⟨S_, .f32⟩
  | .hbm, ⟨27, _⟩ => ⟨S8x8x2x4096x4096, .f32⟩
  | .hbm, ⟨28, _⟩ => ⟨S8x8x2x4096x4096, .f32⟩
  | .hbm, ⟨29, _⟩ => ⟨S1x4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S1x1x1x4096x4096, .i1⟩
  | .hbm, ⟨35, _⟩ => ⟨S_, .f32⟩
  | .hbm, ⟨36, _⟩ => ⟨S_, .f32⟩
  | .hbm, ⟨37, _⟩ => ⟨S8x8x2x4096x4096, .i1⟩
  | .hbm, ⟨38, _⟩ => ⟨S8x8x2x4096x4096, .f32⟩
  | .hbm, ⟨39, _⟩ => ⟨S8x8x2x4096x4096, .f32⟩
  | .hbm, ⟨40, _⟩ => ⟨S_, .f32⟩
  | .hbm, ⟨41, _⟩ => ⟨S8x8x2x4096, .f32⟩
  | .hbm, ⟨42, _⟩ => ⟨S8x8x2x4096x1, .f32⟩
  | .hbm, ⟨43, _⟩ => ⟨S8x8x2x4096x4096, .f32⟩
  | .hbm, ⟨44, _⟩ => ⟨S8x8x2x4096x4096, .f32⟩
  | .hbm, ⟨45, _⟩ => ⟨S8x8x2x4096x4096, .f32⟩
  | .hbm, ⟨46, _⟩ => ⟨S_, .f32⟩
  | .hbm, ⟨47, _⟩ => ⟨S_, .f32⟩
  | .hbm, ⟨48, _⟩ => ⟨S8x8x2x4096x4096, .i1⟩
  | .hbm, ⟨49, _⟩ => ⟨S8x8x2x4096x4096, .f32⟩
  | .hbm, ⟨50, _⟩ => ⟨S8x8x2x4096x4096, .f32⟩
  | .hbm, ⟨51, _⟩ => ⟨S_, .f32⟩
  | .hbm, ⟨52, _⟩ => ⟨S8x8x2x4096, .f32⟩
  | .hbm, ⟨53, _⟩ => ⟨S8x8x2x4096x1, .f32⟩
  | .hbm, ⟨54, _⟩ => ⟨S_, .f32⟩
  | .hbm, ⟨55, _⟩ => ⟨S8x8x2x4096x1, .f32⟩
  | .hbm, ⟨56, _⟩ => ⟨S8x8x2x4096x1, .f32⟩
  | .hbm, ⟨57, _⟩ => ⟨S8x8x2x4096x4096, .f32⟩
  | .hbm, ⟨58, _⟩ => ⟨S8x8x2x4096x4096, .f32⟩
  | .hbm, ⟨59, _⟩ => ⟨S8x8x1x4096x4096, .f32⟩
  | .hbm, ⟨60, _⟩ => ⟨S8x8x4096x4096, .f32⟩
  | .hbm, ⟨61, _⟩ => ⟨S8x8x1x4096x4096, .f32⟩
  | .hbm, ⟨62, _⟩ => ⟨S8x8x4096x4096, .f32⟩
  | .hbm, ⟨63, _⟩ => ⟨S8x8x4096x4096, .f32⟩
  | .hbm, ⟨64, _⟩ => ⟨S8x8x4096x4096, .f32⟩
  | .hbm, ⟨65, _⟩ => ⟨S8x8x4096x4096, .f32⟩
  | .hbm, ⟨66, _⟩ => ⟨S8x8x64x4096, .f32⟩
  | .hbm, ⟨67, _⟩ => ⟨S8x4096x8x64, .f32⟩
  | .hbm, ⟨68, _⟩ => ⟨S8x4096x8x64, .f32⟩
  | .hbm, ⟨69, _⟩ => ⟨S_, .f32⟩
  | .hbm, ⟨70, _⟩ => ⟨S8x4096x8, .f32⟩
  | .hbm, ⟨71, _⟩ => ⟨S8x4096x8x1, .f32⟩
  | .hbm, ⟨72, _⟩ => ⟨S_, .f32⟩
  | .hbm, ⟨73, _⟩ => ⟨S8x4096x8x1, .f32⟩
  | .hbm, ⟨74, _⟩ => ⟨S8x4096x8x1, .f32⟩
  | .hbm, ⟨75, _⟩ => ⟨S_, .f32⟩
  | .hbm, ⟨76, _⟩ => ⟨S8x4096x8x1, .f32⟩
  | .hbm, ⟨77, _⟩ => ⟨S8x4096x8x1, .f32⟩
  | .hbm, ⟨78, _⟩ => ⟨S8x4096x8x1, .f32⟩
  | .hbm, ⟨79, _⟩ => ⟨S8x4096x8x64, .f32⟩
  | .hbm, ⟨80, _⟩ => ⟨S8x4096x8x64, .f32⟩
  | .hbm, ⟨81, _⟩ => ⟨S1x1x1x64, .f32⟩
  | .hbm, ⟨82, _⟩ => ⟨S8x4096x8x64, .f32⟩
  | .hbm, ⟨83, _⟩ => ⟨S8x4096x8x64, .f32⟩
  | .hbm, ⟨84, _⟩ => ⟨S_, .f32⟩
  | .hbm, ⟨85, _⟩ => ⟨S8x4096x8x64, .f32⟩
  | .hbm, ⟨86, _⟩ => ⟨S8x4096x8x64, .f32⟩
  | .hbm, ⟨87, _⟩ => ⟨S8x4096x512, .f32⟩
  | .hbm, ⟨88, _⟩ => ⟨S8x4096x512, .bf16⟩
  | _, _ => ⟨S8x4096x8x2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== Kernel2.lean ====
abbrev S289 : Shape := ⟨1, ![289]⟩
abbrev S1 : Shape := ⟨1, ![1]⟩
abbrev S147968x1024 : Shape := ⟨2, ![147968, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S147968x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S147968x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S289, .i32⟩
  | .local _ .smem, ⟨1, _⟩ => ⟨S1, .i32⟩
  | _, _ => ⟨S147968x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![289], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) (v0 : BitVec 32) : Fin 1 → Nat :=
  let arg0 : BitVec 32 := BitVec.ofNat 32 (i 0).val
  let c1_i32 : BitVec 32 := 1#32
  let v1 : BitVec 32 := Scalar.subi v0 c1_i32
  let v2 : BitVec 32 := Scalar.minsi arg0 v1
  let v4 : Index := Scalar.indexCast v2
  ![v4.toNat]

def k0_off3 (i : grid0.Coords) (v0 : BitVec 32) : Fin 1 → Nat :=
  let arg0 : BitVec 32 := BitVec.ofNat 32 (i 0).val
  let c1_i32 : BitVec 32 := 1#32
  let v1 : BitVec 32 := Scalar.subi v0 c1_i32
  let v2 : BitVec 32 := Scalar.minsi arg0 v1
  let c1_i32_0 : BitVec 32 := 1#32
  let v6 : BitVec 32 := Scalar.subi v2 c1_i32_0
  let c0_i32_1 : BitVec 32 := 0#32
  let v7 : BitVec 32 := Scalar.maxsi v6 c0_i32_1
  let v8 : Index := Scalar.indexCast v7
  ![v8.toNat]

def k0_chk1 (i : grid0.Coords) (v0 : BitVec 32) : Prop :=
  (∀ a, (k0_off2 i v0) a + S1.size a ≤ S289.size a) ∧
  (∀ a, (k0_off3 i v0) a + S1.size a ≤ S289.size a)
theorem k0_off2_inb : ∀ (i : grid0.Coords) (v0 : BitVec 32) (k0_hw1 : k0_chk1 i v0), ∀ a, (k0_off2 i v0) a + S1.size a ≤ S289.size a := fun i v0 k0_hw1 => k0_hw1.1
theorem k0_off3_inb : ∀ (i : grid0.Coords) (v0 : BitVec 32) (k0_hw1 : k0_chk1 i v0), ∀ a, (k0_off3 i v0) a + S1.size a ≤ S289.size a := fun i v0 k0_hw1 => k0_hw1.2

def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_4 : BitVec 32 := 0#32
  let v17 : BitVec 1 := Scalar.cmpi .ne v16 c0_i32_4
  v17

def k0_cond3 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_6 : BitVec 32 := 0#32
  let v21 : BitVec 1 := Scalar.cmpi .ne v20 c0_i32_6
  v21

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S289 : Shape := ⟨1, ![289]⟩
abbrev S1 : Shape := ⟨1, ![1]⟩
abbrev S147968x1024 : Shape := ⟨2, ![147968, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S289x512x1024 : Shape := ⟨3, ![289, 512, 1024]⟩
abbrev S_ : Shape := ⟨0, ![]⟩
abbrev S289x1 : Shape := ⟨2, ![289, 1]⟩
abbrev S289x1024x2048 : Shape := ⟨3, ![289, 1024, 2048]⟩
abbrev S289x512x2048 : Shape := ⟨3, ![289, 512, 2048]⟩
abbrev S289x1x2048 : Shape := ⟨3, ![289, 1, 2048]⟩
abbrev S289x1024x1024 : Shape := ⟨3, ![289, 1024, 1024]⟩
abbrev S289x1x1024 : Shape := ⟨3, ![289, 1, 1024]⟩
abbrev S289x1x1 : Shape := ⟨3, ![289, 1, 1]⟩

abbrev nBuf : Space → Nat
  | .hbm => 89
  | .vmem => 0
  | .smem => 0
  | _ => 0

abbrev bufTy : (tb : Table) → Fin (tcTables nBuf tb) → BufTy
  | .hbm, ⟨0, _⟩ => ⟨S289, .i32⟩
  | .hbm, ⟨1, _⟩ => ⟨S1, .i32⟩
  | .hbm, ⟨2, _⟩ => ⟨S147968x1024, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S289x512x1024, .f32⟩
  | .hbm, ⟨8, _⟩ => ⟨S_, .i32⟩
  | .hbm, ⟨9, _⟩ => ⟨S289, .i32⟩
  | .hbm, ⟨10, _⟩ => ⟨S289, .i1⟩
  | .hbm, ⟨11, _⟩ => ⟨S_, .i32⟩
  | .hbm, ⟨12, _⟩ => ⟨S289, .i32⟩
  | .hbm, ⟨13, _⟩ => ⟨S289, .i32⟩
  | .hbm, ⟨14, _⟩ => ⟨S289, .i32⟩
  | .hbm, ⟨15, _⟩ => ⟨S289x1, .i32⟩
  | .hbm, ⟨16, _⟩ => ⟨S289x1024x2048, .f32⟩
  | .hbm, ⟨17, _⟩ => ⟨S289x512x2048, .f32⟩
  | .hbm, ⟨18, _⟩ => ⟨S_, .i32⟩
  | .hbm, ⟨19, _⟩ => ⟨S289, .i32⟩
  | .hbm, ⟨20, _⟩ => ⟨S289, .i1⟩
  | .hbm, ⟨21, _⟩ => ⟨S_, .i32⟩
  | .hbm, ⟨22, _⟩ => ⟨S289, .i32⟩
  | .hbm, ⟨23, _⟩ => ⟨S289, .i32⟩
  | .hbm, ⟨24, _⟩ => ⟨S289, .i32⟩
  | .hbm, ⟨25, _⟩ => ⟨S289x1, .i32⟩
  | .hbm, ⟨26, _⟩ => ⟨S289x1x2048, .f32⟩
  | .hbm, ⟨27, _⟩ => ⟨S289x512x2048, .f32⟩
  | .hbm, ⟨28, _⟩ => ⟨S289x512x2048, .f32⟩
  | .hbm, ⟨29, _⟩ => ⟨S289x512x1024, .f32⟩
  | .hbm, ⟨30, _⟩ => ⟨S289x512x1024, .f32⟩
  | .hbm, ⟨31, _⟩ => ⟨S_, .f32⟩
  | .hbm, ⟨32, _⟩ => ⟨S289x512x1024, .f32⟩
  | .hbm, ⟨33, _⟩ => ⟨S289x512x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S289x512x1024, .f32⟩
  | .hbm, ⟨38, _⟩ => ⟨S289x512x1024, .f32⟩
  | .hbm, ⟨39, _⟩ => ⟨S_, .f32⟩
  | .hbm, ⟨40, _⟩ => ⟨S289x512x1024, .f32⟩
  | .hbm, ⟨41, _⟩ => ⟨S289x512x1024, .f32⟩
  | .hbm, ⟨42, _⟩ => ⟨S_, .f32⟩
  | .hbm, ⟨43, _⟩ => ⟨S289x512x1024, .f32⟩
  | .hbm, ⟨44, _⟩ => ⟨S289x512x1024, .f32⟩
  | .hbm, ⟨45, _⟩ => ⟨S289x512x1024, .f32⟩
  | .hbm, ⟨46, _⟩ => ⟨S289x512x1024, .f32⟩
  | .hbm, ⟨47, _⟩ => ⟨S_, .f32⟩
  | .hbm, ⟨48, _⟩ => ⟨S289x512x1024, .f32⟩
  | .hbm, ⟨49, _⟩ => ⟨S289x512x1024, .f32⟩
  | .hbm, ⟨50, _⟩ => ⟨S_, .f32⟩
  | .hbm, ⟨51, _⟩ => ⟨S289x512x1024, .f32⟩
  | .hbm, ⟨52, _⟩ => ⟨S289x512x1024, .f32⟩
  | .hbm, ⟨53, _⟩ => ⟨S289x512x1024, .f32⟩
  | .hbm, ⟨54, _⟩ => ⟨S_, .f32⟩
  | .hbm, ⟨55, _⟩ => ⟨S289x512x1024, .f32⟩
  | .hbm, ⟨56, _⟩ => ⟨S289x512x1024, .f32⟩
  | .hbm, ⟨57, _⟩ => ⟨S289x512x1024, .f32⟩
  | .hbm, ⟨58, _⟩ => ⟨S_, .i32⟩
  | .hbm, ⟨59, _⟩ => ⟨S289, .i32⟩
  | .hbm, ⟨60, _⟩ => ⟨S289, .i1⟩
  | .hbm, ⟨61, _⟩ => ⟨S_, .i32⟩
  | .hbm, ⟨62, _⟩ => ⟨S289, .i32⟩
  | .hbm, ⟨63, _⟩ => ⟨S289, .i32⟩
  | .hbm, ⟨64, _⟩ => ⟨S289, .i32⟩
  | .hbm, ⟨65, _⟩ => ⟨S289x1, .i32⟩
  | .hbm, ⟨66, _⟩ => ⟨S289x1024x1024, .f32⟩
  | .hbm, ⟨67, _⟩ => ⟨S289x512x1024, .f32⟩
  | .hbm, ⟨68, _⟩ => ⟨S_, .i32⟩
  | .hbm, ⟨69, _⟩ => ⟨S289, .i32⟩
  | .hbm, ⟨70, _⟩ => ⟨S289, .i1⟩
  | .hbm, ⟨71, _⟩ => ⟨S_, .i32⟩
  | .hbm, ⟨72, _⟩ => ⟨S289, .i32⟩
  | .hbm, ⟨73, _⟩ => ⟨S289, .i32⟩
  | .hbm, ⟨74, _⟩ => ⟨S289, .i32⟩
  | .hbm, ⟨75, _⟩ => ⟨S289x1, .i32⟩
  | .hbm, ⟨76, _⟩ => ⟨S289x1x1024, .f32⟩
  | .hbm, ⟨77, _⟩ => ⟨S289x512x1024, .f32⟩
  | .hbm, ⟨78, _⟩ => ⟨S289x512x1024, .f32⟩
  | .hbm, ⟨79, _⟩ => ⟨S289, .i32⟩
  | .hbm, ⟨80, _⟩ => ⟨S289, .i32⟩
  | .hbm, ⟨81, _⟩ => ⟨S289, .i1⟩
  | .hbm, ⟨82, _⟩ => ⟨S289x1x1, .i1⟩
  | .hbm, ⟨83, _⟩ => ⟨S_, .f32⟩
  | .hbm, ⟨84, _⟩ => ⟨S_, .f32⟩
  | .hbm, ⟨85, _⟩ => ⟨S289x512x1024, .i1⟩
  | .hbm, ⟨86, _⟩ => ⟨S289x512x1024, .f32⟩
  | .hbm, ⟨87, _⟩ => ⟨S289x512x1024, .f32⟩
  | .hbm, ⟨88, _⟩ => ⟨S147968x1024, .f32⟩
  | _, _ => ⟨S289, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v56 : Ref sig .tc := ⟨.hbm, 87, rfl⟩
abbrev main_v57 : Ref sig .tc := ⟨.hbm, 88, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x1x1024 : Shape := ⟨3, ![8, 1, 1024]⟩
abbrev S1024 : Shape := ⟨1, ![1024]⟩
abbrev S1024x2840 : Shape := ⟨2, ![1024, 2840]⟩
abbrev S32 : Shape := ⟨1, ![32]⟩
abbrev S64 : Shape := ⟨1, ![64]⟩
abbrev S2x64 : Shape := ⟨2, ![2, 64]⟩
abbrev S1x1024 : Shape := ⟨2, ![1, 1024]⟩
abbrev S_ : Shape := ⟨0, ![]⟩
abbrev S1024x2944 : Shape := ⟨2, ![1024, 2944]⟩
abbrev S1x32 : Shape := ⟨2, ![1, 32]⟩
abbrev S16x32 : Shape := ⟨2, ![16, 32]⟩
abbrev S512 : Shape := ⟨1, ![512]⟩
abbrev S1x512 : Shape := ⟨2, ![1, 512]⟩
abbrev S2x512 : Shape := ⟨2, ![2, 512]⟩
abbrev S1x64 : Shape := ⟨2, ![1, 64]⟩
abbrev S8x64 : Shape := ⟨2, ![8, 64]⟩
abbrev S128 : Shape := ⟨1, ![128]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S4096 : Shape := ⟨1, ![4096]⟩
abbrev S4 : Shape := ⟨1, ![4]⟩
abbrev S4096x1 : Shape := ⟨2, ![4096, 1]⟩
abbrev S1x4 : Shape := ⟨2, ![1, 4]⟩
abbrev S4096x4 : Shape := ⟨2, ![4096, 4]⟩
abbrev S4096x24 : Shape := ⟨2, ![4096, 24]⟩
abbrev S4096x32 : Shape := ⟨2, ![4096, 32]⟩
abbrev S4096x28 : Shape := ⟨2, ![4096, 28]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S1x4096x128 : Shape := ⟨3, ![1, 4096, 128]⟩
abbrev S3x4096x128 : Shape := ⟨3, ![3, 4096, 128]⟩
abbrev S8 : Shape := ⟨1, ![8]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x2x64 : Shape := ⟨4, ![1, 4096, 2, 64]⟩
abbrev S8x4096x512 : Shape := ⟨3, ![8, 4096, 512]⟩
abbrev S8x4096x256 : Shape := ⟨3, ![8, 4096, 256]⟩
abbrev S8x4096x384 : Shape := ⟨3, ![8, 4096, 384]⟩
abbrev S8x4096x128 : Shape := ⟨3, ![8, 4096, 128]⟩
abbrev S1x512x1024 : Shape := ⟨3, ![1, 512, 1024]⟩
abbrev S1x1x1024 : Shape := ⟨3, ![1, 1, 1024]⟩
abbrev S3x512x128 : Shape := ⟨3, ![3, 512, 128]⟩
abbrev S1x512x512 : Shape := ⟨3, ![1, 512, 512]⟩
abbrev S1x512x256 : Shape := ⟨3, ![1, 512, 256]⟩
abbrev S1x512x384 : Shape := ⟨3, ![1, 512, 384]⟩
abbrev S1x512x128 : Shape := ⟨3, ![1, 512, 128]⟩
abbrev S512x1024 : Shape := ⟨2, ![512, 1024]⟩
abbrev S512x1 : Shape := ⟨2, ![512, 1]⟩
abbrev S512x2944 : Shape := ⟨2, ![512, 2944]⟩
abbrev S512x512 : Shape := ⟨2, ![512, 512]⟩
abbrev S512x256 : Shape := ⟨2, ![512, 256]⟩
abbrev S512x128 : Shape := ⟨2, ![512, 128]⟩
abbrev S512x384 : Shape := ⟨2, ![512, 384]⟩

abbrev nBuf : Space → Nat
  | .hbm => 230
  | .vmem => 41
  | .smem => 0
  | _ => 0

abbrev hbmTy0_0 (i : Nat) : BufTy := match i % 128 with
  | 0 => ⟨S8x4096x1024, .f32⟩
  | 1 => ⟨S8x1x1024, .f32⟩
  | 2 => ⟨S8x1x1024, .f32⟩
  | 3 => ⟨S1024, .f32⟩
  | 4 => ⟨S1024x2840, .f32⟩
  | 5 => ⟨S32, .f32⟩
  | 6 => ⟨S32, .f32⟩
  | 7 => ⟨S64, .f32⟩
  | 8 => ⟨S2x64, .f32⟩
  | 9 => ⟨S1x1024, .f32⟩
  | 10 => ⟨S_, .i32⟩
  | 11 => ⟨S_, .f32⟩
  | 12 => ⟨S1024x2944, .f32⟩
  | 13 => ⟨S1024x2944, .bf16⟩
  | 14 => ⟨S1x32, .f32⟩
  | 15 => ⟨S16x32, .f32⟩
  | 16 => ⟨S512, .f32⟩
  | 17 => ⟨S1x32, .f32⟩
  | 18 => ⟨S16x32, .f32⟩
  | 19 => ⟨S512, .f32⟩
  | 20 => ⟨S1x512, .f32⟩
  | 21 => ⟨S1x512, .f32⟩
  | 22 => ⟨S2x512, .f32⟩
  | 23 => ⟨S1x64, .f32⟩
  | 24 => ⟨S8x64, .f32⟩
  | 25 => ⟨S512, .f32⟩
  | 26 => ⟨S1x512, .f32⟩
  | 27 => ⟨S1x64, .f32⟩
  | 28 => ⟨S64, .f32⟩
  | 29 => ⟨S1x64, .f32⟩
  | 30 => ⟨S2x64, .f32⟩
  | 31 => ⟨S128, .f32⟩
  | 32 => ⟨S1x64, .f32⟩
  | 33 => ⟨S64, .f32⟩
  | 34 => ⟨S1x64, .f32⟩
  | 35 => ⟨S2x64, .f32⟩
  | 36 => ⟨S128, .f32⟩
  | 37 => ⟨S256, .f32⟩
  | 38 => ⟨S1x256, .f32⟩
  | 39 => ⟨S256, .i32⟩
  | 40 => ⟨S256x1, .i32⟩
  | 41 => ⟨S_, .i32⟩
  | 42 => ⟨S_, .i32⟩
  | 43 => ⟨S256x1, .i32⟩
  | 44 => ⟨S256x1, .i32⟩
  | 45 => ⟨S256x1, .i32⟩
  | 46 => ⟨S_, .i32⟩
  | 47 => ⟨S256x1, .i32⟩
  | 48 => ⟨S256x1, .i1⟩
  | 49 => ⟨S256x1, .i32⟩
  | 50 => ⟨S256x1, .i32⟩
  | 51 => ⟨S_, .i32⟩
  | 52 => ⟨S256x1, .i32⟩
  | 53 => ⟨S256x1, .i1⟩
  | 54 => ⟨S256x1, .i1⟩
  | 55 => ⟨S_, .i32⟩
  | 56 => ⟨S256x1, .i32⟩
  | 57 => ⟨S256x1, .i32⟩
  | 58 => ⟨S256x1, .i32⟩
  | 59 => ⟨S1x256, .i32⟩
  | 60 => ⟨S_, .i32⟩
  | 61 => ⟨S_, .i32⟩
  | 62 => ⟨S1x256, .i32⟩
  | 63 => ⟨S1x256, .i32⟩
  | 64 => ⟨S1x256, .i32⟩
  | 65 => ⟨S_, .i32⟩
  | 66 => ⟨S1x256, .i32⟩
  | 67 => ⟨S1x256, .i1⟩
  | 68 => ⟨S1x256, .i32⟩
  | 69 => ⟨S1x256, .i32⟩
  | 70 => ⟨S_, .i32⟩
  | 71 => ⟨S1x256, .i32⟩
  | 72 => ⟨S1x256, .i1⟩
  | 73 => ⟨S1x256, .i1⟩
  | 74 => ⟨S_, .i32⟩
  | 75 => ⟨S1x256, .i32⟩
  | 76 => ⟨S1x256, .i32⟩
  | 77 => ⟨S1x256, .i32⟩
  | 78 => ⟨S256x256, .i32⟩
  | 79 => ⟨S256x256, .i32⟩
  | 80 => ⟨S256x256, .i1⟩
  | 81 => ⟨S_, .f32⟩
  | 82 => ⟨S_, .f32⟩
  | 83 => ⟨S256x256, .f32⟩
  | 84 => ⟨S256x256, .f32⟩
  | 85 => ⟨S256x256, .f32⟩
  | 86 => ⟨S256x256, .bf16⟩
  | 87 => ⟨S256, .i32⟩
  | 88 => ⟨S256x1, .i32⟩
  | 89 => ⟨S_, .i32⟩
  | 90 => ⟨S_, .i32⟩
  | 91 => ⟨S256x1, .i32⟩
  | 92 => ⟨S256x1, .i32⟩
  | 93 => ⟨S256x1, .i32⟩
  | 94 => ⟨S_, .i32⟩
  | 95 => ⟨S256x1, .i32⟩
  | 96 => ⟨S256x1, .i1⟩
  | 97 => ⟨S256x1, .i32⟩
  | 98 => ⟨S256x1, .i32⟩
  | 99 => ⟨S_, .i32⟩
  | 100 => ⟨S256x1, .i32⟩
  | 101 => ⟨S256x1, .i1⟩
  | 102 => ⟨S256x1, .i1⟩
  | 103 => ⟨S_, .i32⟩
  | 104 => ⟨S256x1, .i32⟩
  | 105 => ⟨S256x1, .i32⟩
  | 106 => ⟨S256x1, .i32⟩
  | 107 => ⟨S1x256, .i32⟩
  | 108 => ⟨S_, .i32⟩
  | 109 => ⟨S_, .i32⟩
  | 110 => ⟨S1x256, .i32⟩
  | 111 => ⟨S1x256, .i32⟩
  | 112 => ⟨S1x256, .i32⟩
  | 113 => ⟨S_, .i32⟩
  | 114 => ⟨S1x256, .i32⟩
  | 115 => ⟨S1x256, .i1⟩
  | 116 => ⟨S1x256, .i32⟩
  | 117 => ⟨S1x256, .i32⟩
  | 118 => ⟨S_, .i32⟩
  | 119 => ⟨S1x256, .i32⟩
  | 120 => ⟨S1x256, .i1⟩
  | 121 => ⟨S1x256, .i1⟩
  | 122 => ⟨S_, .i32⟩
  | 123 => ⟨S1x256, .i32⟩
  | 124 => ⟨S1x256, .i32⟩
  | 125 => ⟨S1x256, .i32⟩
  | 126 => ⟨S256x256, .i32⟩
  | 127 => ⟨S256x256, .i32⟩
  | _ => ⟨S8x4096x1024, .f32⟩

abbrev hbmTy0_1 (i : Nat) : BufTy := match i % 128 with
  | 0 => ⟨S256x256, .i1⟩
  | 1 => ⟨S_, .f32⟩
  | 2 => ⟨S_, .f32⟩
  | 3 => ⟨S256x256, .f32⟩
  | 4 => ⟨S256x256, .f32⟩
  | 5 => ⟨S256x256, .f32⟩
  | 6 => ⟨S256x256, .bf16⟩
  | 7 => ⟨S4096, .i32⟩
  | 8 => ⟨S4, .f32⟩
  | 9 => ⟨S4, .f32⟩
  | 10 => ⟨S_, .f32⟩
  | 11 => ⟨S4, .f32⟩
  | 12 => ⟨S4, .f32⟩
  | 13 => ⟨S_, .f32⟩
  | 14 => ⟨S4, .f32⟩
  | 15 => ⟨S4, .f32⟩
  | 16 => ⟨S4096, .f32⟩
  | 17 => ⟨S4096x1, .f32⟩
  | 18 => ⟨S1x4, .f32⟩
  | 19 => ⟨S4096x4, .f32⟩
  | 20 => ⟨S4096x4, .f32⟩
  | 21 => ⟨S4096x4, .f32⟩
  | 22 => ⟨S4096x4, .f32⟩
  | 23 => ⟨S4096x4, .f32⟩
  | 24 => ⟨S_, .f32⟩
  | 25 => ⟨S4096x24, .f32⟩
  | 26 => ⟨S4096x32, .f32⟩
  | 27 => ⟨S4096x4, .f32⟩
  | 28 => ⟨S_, .f32⟩
  | 29 => ⟨S4096x28, .f32⟩
  | 30 => ⟨S4096x32, .f32⟩
  | 31 => ⟨S_, .f32⟩
  | 32 => ⟨S4096x4, .f32⟩
  | 33 => ⟨S_, .f32⟩
  | 34 => ⟨S4096x24, .f32⟩
  | 35 => ⟨S4096x32, .f32⟩
  | 36 => ⟨S1x4096x1x32, .f32⟩
  | 37 => ⟨S1x4096x4x32, .f32⟩
  | 38 => ⟨S4096x128, .f32⟩
  | 39 => ⟨S1x4096x1x32, .f32⟩
  | 40 => ⟨S1x4096x4x32, .f32⟩
  | 41 => ⟨S4096x128, .f32⟩
  | 42 => ⟨S1x4096x1x32, .f32⟩
  | 43 => ⟨S1x4096x4x32, .f32⟩
  | 44 => ⟨S4096x128, .f32⟩
  | 45 => ⟨S1x4096x128, .f32⟩
  | 46 => ⟨S1x4096x128, .f32⟩
  | 47 => ⟨S1x4096x128, .f32⟩
  | 48 => ⟨S3x4096x128, .f32⟩
  | 49 => ⟨S8, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S4096, .f32⟩
  | 58 => ⟨S4096x1, .f32⟩
  | 59 => ⟨S1x8, .f32⟩
  | 60 => ⟨S4096x8, .f32⟩
  | 61 => ⟨S4096x8, .f32⟩
  | 62 => ⟨S4096x8, .f32⟩
  | 63 => ⟨S4096x8, .f32⟩
  | 64 => ⟨S4096x8, .f32⟩
  | 65 => ⟨S_, .f32⟩
  | 66 => ⟨S4096x48, .f32⟩
  | 67 => ⟨S4096x64, .f32⟩
  | 68 => ⟨S4096x8, .f32⟩
  | 69 => ⟨S_, .f32⟩
  | 70 => ⟨S4096x56, .f32⟩
  | 71 => ⟨S4096x64, .f32⟩
  | 72 => ⟨S_, .f32⟩
  | 73 => ⟨S4096x8, .f32⟩
  | 74 => ⟨S_, .f32⟩
  | 75 => ⟨S4096x48, .f32⟩
  | 76 => ⟨S4096x64, .f32⟩
  | 77 => ⟨S1x4096x1x64, .f32⟩
  | 78 => ⟨S1x4096x2x64, .f32⟩
  | 79 => ⟨S4096x128, .f32⟩
  | 80 => ⟨S1x4096x1x64, .f32⟩
  | 81 => ⟨S1x4096x2x64, .f32⟩
  | 82 => ⟨S4096x128, .f32⟩
  | 83 => ⟨S1x4096x1x64, .f32⟩
  | 84 => ⟨S1x4096x2x64, .f32⟩
  | 85 => ⟨S4096x128, .f32⟩
  | 86 => ⟨S1x4096x128, .f32⟩
  | 87 => ⟨S1x4096x128, .f32⟩
  | 88 => ⟨S1x4096x128, .f32⟩
  | 89 => ⟨S3x4096x128, .f32⟩
  | 90 => ⟨S8x4096x512, .bf16⟩
  | 91 => ⟨S8x4096x512, .f32⟩
  | 92 => ⟨S8x4096x512, .bf16⟩
  | 93 => ⟨S8x4096x512, .f32⟩
  | 94 => ⟨S8x4096x512, .bf16⟩
  | 95 => ⟨S8x4096x512, .f32⟩
  | 96 => ⟨S8x4096x256, .f32⟩
  | 97 => ⟨S8x4096x256, .f32⟩
  | 98 => ⟨S8x4096x256, .f32⟩
  | 99 => ⟨S8x4096x384, .bf16⟩
  | 100 => ⟨S8x4096x384, .bf16⟩
  | 101 => ⟨S8x4096x128, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2944, .bf16⟩
  | .local _ .vmem, ⟨8, _⟩ => ⟨S2x512, .f32⟩
  | .local _ .vmem, ⟨9, _⟩ => ⟨S1x512, .f32⟩
  | .local _ .vmem, ⟨10, _⟩ => ⟨S1x256, .f32⟩
  | .local _ .vmem, ⟨11, _⟩ => ⟨S256x256, .bf16⟩
  | .local _ .vmem, ⟨12, _⟩ => ⟨S256x256, .bf16⟩
  | .local _ .vmem, ⟨13, _⟩ => ⟨S3x512x128, .f32⟩
  | .local _ .vmem, ⟨14, _⟩ => ⟨S3x512x128, .f32⟩
  | .local _ .vmem, ⟨15, _⟩ => ⟨S3x512x128, .f32⟩
  | .local _ .vmem, ⟨16, _⟩ => ⟨S3x512x128, .f32⟩
  | .local _ .vmem, ⟨17, _⟩ => ⟨S1x512x512, .bf16⟩
  | .local _ .vmem, ⟨18, _⟩ => ⟨S1x512x512, .bf16⟩
  | .local _ .vmem, ⟨19, _⟩ => ⟨S1x512x512, .f32⟩
  | .local _ .vmem, ⟨20, _⟩ => ⟨S1x512x512, .f32⟩
  | .local _ .vmem, ⟨21, _⟩ => ⟨S1x512x512, .bf16⟩
  | .local _ .vmem, ⟨22, _⟩ => ⟨S1x512x512, .bf16⟩
  | .local _ .vmem, ⟨23, _⟩ => ⟨S1x512x512, .f32⟩
  | .local _ .vmem, ⟨24, _⟩ => ⟨S1x512x512, .f32⟩
  | .local _ .vmem, ⟨25, _⟩ => ⟨S1x512x512, .bf16⟩
  | .local _ .vmem, ⟨26, _⟩ => ⟨S1x512x512, .bf16⟩
  | .local _ .vmem, ⟨27, _⟩ => ⟨S1x512x512, .f32⟩
  | .local _ .vmem, ⟨28, _⟩ => ⟨S1x512x512, .f32⟩
  | .local _ .vmem, ⟨29, _⟩ => ⟨S1x512x256, .f32⟩
  | .local _ .vmem, ⟨30, _⟩ => ⟨S1x512x256, .f32⟩
  | .local _ .vmem, ⟨31, _⟩ => ⟨S1x512x256, .f32⟩
  | .local _ .vmem, ⟨32, _⟩ => ⟨S1x512x256, .f32⟩
  | .local _ .vmem, ⟨33, _⟩ => ⟨S1x512x256, .f32⟩
  | .local _ .vmem, ⟨34, _⟩ => ⟨S1x512x256, .f32⟩
  | .local _ .vmem, ⟨35, _⟩ => ⟨S1x512x384, .bf16⟩
  | .local _ .vmem, ⟨36, _⟩ => ⟨S1x512x384, .bf16⟩
  | .local _ .vmem, ⟨37, _⟩ => ⟨S1x512x384, .bf16⟩
  | .local _ .vmem, ⟨38, _⟩ => ⟨S1x512x384, .bf16⟩
  | .local _ .vmem, ⟨39, _⟩ => ⟨S1x512x128, .f32⟩
  | .local _ .vmem, ⟨40, _⟩ => ⟨S1x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v30 : Ref sig .tc := ⟨.hbm, 58, rfl⟩
abbrev main_v31 : Ref sig .tc := ⟨.hbm, 59, rfl⟩
abbrev main_c_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_c : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_0 : Ref sig .tc := ⟨.hbm, 74, rfl⟩
abbrev main_call2_v12 : Ref sig .tc := ⟨.hbm, 75, rfl⟩
abbrev main_call2_v13 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst : Ref sig .tc := ⟨.hbm, 81, rfl⟩
abbrev main_cst_2 : Ref sig .tc := ⟨.hbm, 82, rfl⟩
abbrev main_call3_v0 : Ref sig .tc := ⟨.hbm, 83, rfl⟩
abbrev main_call3_v1 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_c_3 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_v5 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_c : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_c_0 : Ref sig .tc := ⟨.hbm, 103, rfl⟩
abbrev main_call4_v12 : Ref sig .tc := ⟨.hbm, 104, rfl⟩
abbrev main_call4_v13 : Ref sig .tc := ⟨.hbm, 105, rfl⟩
abbrev main_v40 : Ref sig .tc := ⟨.hbm, 106, rfl⟩
abbrev main_v41 : Ref sig .tc := ⟨.hbm, 107, rfl⟩
abbrev main_c_4 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_v6 : Ref sig .tc := ⟨.hbm, 115, rfl⟩
abbrev main_call5_v7 : Ref sig .tc := ⟨.hbm, 116, rfl⟩
abbrev main_call5_v8 : Ref sig .tc := ⟨.hbm, 117, rfl⟩
abbrev main_call5_c : Ref sig .tc := ⟨.hbm, 118, rfl⟩
abbrev main_call5_v9 : Ref sig .tc := ⟨.hbm, 119, rfl⟩
abbrev main_call5_v10 : Ref sig .tc := ⟨.hbm, 120, rfl⟩
abbrev main_call5_v11 : Ref sig .tc := ⟨.hbm, 121, rfl⟩
abbrev main_call5_c_0 : Ref sig .tc := ⟨.hbm, 122, rfl⟩
abbrev main_call5_v12 : Ref sig .tc := ⟨.hbm, 123, rfl⟩
abbrev main_call5_v13 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_cst_5 : Ref sig .tc := ⟨.hbm, 129, rfl⟩
abbrev main_cst_6 : Ref sig .tc := ⟨.hbm, 130, rfl⟩
abbrev main_call6_v0 : Ref sig .tc := ⟨.hbm, 131, rfl⟩
abbrev main_call6_v1 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_cst_7 : Ref sig .tc := ⟨.hbm, 138, rfl⟩
abbrev main_v51 : Ref sig .tc := ⟨.hbm, 139, rfl⟩
abbrev main_v52 : Ref sig .tc := ⟨.hbm, 140, rfl⟩
abbrev main_cst_8 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_cst_9 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_cst_10 : Ref sig .tc := ⟨.hbm, 156, rfl⟩
abbrev main_v66 : Ref sig .tc := ⟨.hbm, 157, rfl⟩
abbrev main_v67 : Ref sig .tc := ⟨.hbm, 158, rfl⟩
abbrev main_cst_11 : Ref sig .tc := ⟨.hbm, 159, rfl⟩
abbrev main_v68 : Ref sig .tc := ⟨.hbm, 160, rfl⟩
abbrev main_cst_12 : Ref sig .tc := ⟨.hbm, 161, rfl⟩
abbrev main_v69 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_cst_13 : Ref sig .tc := ⟨.hbm, 179, rfl⟩
abbrev main_v86 : Ref sig .tc := ⟨.hbm, 180, rfl⟩
abbrev main_v87 : Ref sig .tc := ⟨.hbm, 181, rfl⟩
abbrev main_cst_14 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_cst_15 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_cst_16 : Ref sig .tc := ⟨.hbm, 197, rfl⟩
abbrev main_v101 : Ref sig .tc := ⟨.hbm, 198, rfl⟩
abbrev main_v102 : Ref sig .tc := ⟨.hbm, 199, rfl⟩
abbrev main_cst_17 : Ref sig .tc := ⟨.hbm, 200, rfl⟩
abbrev main_v103 : Ref sig .tc := ⟨.hbm, 201, rfl⟩
abbrev main_cst_18 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_v119_0 : Ref sig .tc := ⟨.hbm, 218, rfl⟩
abbrev main_v119_1 : Ref sig .tc := ⟨.hbm, 219, rfl⟩
abbrev main_v119_2 : Ref sig .tc := ⟨.hbm, 220, rfl⟩
abbrev main_v119_3 : Ref sig .tc := ⟨.hbm, 221, rfl⟩
abbrev main_v119_4 : Ref sig .tc := ⟨.hbm, 222, rfl⟩
abbrev main_v119_5 : Ref sig .tc := ⟨.hbm, 223, rfl⟩
abbrev main_v119_6 : Ref sig .tc := ⟨.hbm, 224, rfl⟩
abbrev main_v119_7 : Ref sig .tc := ⟨.hbm, 225, rfl⟩
abbrev main_v119_8 : Ref sig .tc := ⟨.hbm, 226, rfl⟩
abbrev main_v119_9 : Ref sig .tc := ⟨.hbm, 227, rfl⟩
abbrev main_v119_10 : Ref sig .tc := ⟨.hbm, 228, rfl⟩
abbrev main_v119_11 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S3x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S3x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x384 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x384 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Reference3Ideal.lean ====
abbrev S8x4096x1024 : Shape := ⟨3, ![8, 4096, 1024]⟩
abbrev S8x1x1024 : Shape := ⟨3, ![8, 1, 1024]⟩
abbrev S1024 : Shape := ⟨1, ![1024]⟩
abbrev S1024x2840 : Shape := ⟨2, ![1024, 2840]⟩
abbrev S32 : Shape := ⟨1, ![32]⟩
abbrev S64 : Shape := ⟨1, ![64]⟩
abbrev S2x64 : Shape := ⟨2, ![2, 64]⟩
abbrev S4096 : Shape := ⟨1, ![4096]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2840 : Shape := ⟨3, ![8, 4096, 2840]⟩
abbrev S8x4096x512 : Shape := ⟨3, ![8, 4096, 512]⟩
abbrev S8x4096x384 : Shape := ⟨3, ![8, 4096, 384]⟩
abbrev S8x4096x24 : Shape := ⟨3, ![8, 4096, 24]⟩
abbrev S8x4096x16x32 : Shape := ⟨4, ![8, 4096, 16, 32]⟩
abbrev S8x4096x16 : Shape := ⟨3, ![8, 4096, 16]⟩
abbrev S8x4096x16x1 : Shape := ⟨4, ![8, 4096, 16, 1]⟩
abbrev S1x1x1x32 : Shape := ⟨4, ![1, 1, 1, 32]⟩
abbrev S4 : Shape := ⟨1, ![4]⟩
abbrev S4096x1 : Shape := ⟨2, ![4096, 1]⟩
abbrev S1x4 : Shape := ⟨2, ![1, 4]⟩
abbrev S4096x4 : Shape := ⟨2, ![4096, 4]⟩
abbrev S4096x1x4 : Shape := ⟨3, ![4096, 1, 4]⟩
abbrev S8x4096x16x4 : Shape := ⟨4, ![8, 4096, 16, 4]⟩
abbrev S8x4096x16x24 : Shape := ⟨4, ![8, 4096, 16, 24]⟩
abbrev S1x4096x1x4 : Shape := ⟨4, ![1, 4096, 1, 4]⟩
abbrev S8x4096x3x2x64 : Shape := ⟨5, ![8, 4096, 3, 2, 64]⟩
abbrev S8x4096x1x2x64 : Shape := ⟨5, ![8, 4096, 1, 2, 64]⟩
abbrev S8x4096x2x64 : Shape := ⟨4, ![8, 4096, 2, 64]⟩
abbrev S8 : Shape := ⟨1, ![8]⟩
abbrev S1x8 : Shape := ⟨2, ![1, 8]⟩
abbrev S4096x8 : Shape := ⟨2, ![4096, 8]⟩
abbrev S4096x1x8 : Shape := ⟨3, ![4096, 1, 8]⟩
abbrev S8x4096x2x8 : Shape := ⟨4, ![8, 4096, 2, 8]⟩
abbrev S8x4096x2x48 : Shape := ⟨4, ![8, 4096, 2, 48]⟩
abbrev S1x4096x1x8 : Shape := ⟨4, ![1, 4096, 1, 8]⟩
abbrev S1x64 : Shape := ⟨2, ![1, 64]⟩
abbrev S8x4096x2 : Shape := ⟨3, ![8, 4096, 2]⟩
abbrev S8x4096x2x1 : Shape := ⟨4, ![8, 4096, 2, 1]⟩
abbrev S1x1x1x64 : Shape := ⟨4, ![1, 1, 1, 64]⟩
abbrev S8x4096x2x2x64 : Shape := ⟨5, ![8, 4096, 2, 2, 64]⟩
abbrev S8x4096x256 : Shape := ⟨3, ![8, 4096, 256]⟩

abbrev nBuf : Space → Nat
  | .hbm => 259
  | .vmem => 0
  | .smem => 0
  | _ => 0

abbrev hbmTy0_0 (i : Nat) : BufTy := match i % 128 with
  | 0 => ⟨S8x4096x1024, .f32⟩
  | 1 => ⟨S8x1x1024, .f32⟩
  | 2 => ⟨S8x1x1024, .f32⟩
  | 3 => ⟨S1024, .f32⟩
  | 4 => ⟨S1024x2840, .f32⟩
  | 5 => ⟨S32, .f32⟩
  | 6 => ⟨S32, .f32⟩
  | 7 => ⟨S64, .f32⟩
  | 8 => ⟨S2x64, .f32⟩
  | 9 => ⟨S4096, .i32⟩
  | 10 => ⟨S8x4096x1024, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x1024, .f32⟩
  | 22 => ⟨S8x4096x1024, .f32⟩
  | 23 => ⟨S1x1x1024, .f32⟩
  | 24 => ⟨S8x4096x1024, .f32⟩
  | 25 => ⟨S8x4096x1024, .f32⟩
  | 26 => ⟨S_, .f32⟩
  | 27 => ⟨S8x1x1024, .f32⟩
  | 28 => ⟨S8x1x1024, .f32⟩
  | 29 => ⟨S8x4096x1024, .f32⟩
  | 30 => ⟨S8x4096x1024, .f32⟩
  | 31 => ⟨S8x4096x1024, .f32⟩
  | 32 => ⟨S8x4096x1024, .f32⟩
  | 33 => ⟨S8x4096x2840, .f32⟩
  | 34 => ⟨S8x4096x512, .f32⟩
  | 35 => ⟨S8x4096x512, .f32⟩
  | 36 => ⟨S8x4096x512, .f32⟩
  | 37 => ⟨S8x4096x512, .f32⟩
  | 38 => ⟨S8x4096x384, .f32⟩
  | 39 => ⟨S8x4096x384, .f32⟩
  | 40 => ⟨S8x4096x24, .f32⟩
  | 41 => ⟨S8x4096x16x32, .f32⟩
  | 42 => ⟨S8x4096x16x32, .f32⟩
  | 43 => ⟨S_, .f32⟩
  | 44 => ⟨S8x4096x16, .f32⟩
  | 45 => ⟨S8x4096x16x1, .f32⟩
  | 46 => ⟨S_, .f32⟩
  | 47 => ⟨S8x4096x16x1, .f32⟩
  | 48 => ⟨S8x4096x16x1, .f32⟩
  | 49 => ⟨S_, .f32⟩
  | 50 => ⟨S8x4096x16x1, .f32⟩
  | 51 => ⟨S8x4096x16x1, .f32⟩
  | 52 => ⟨S8x4096x16x1, .f32⟩
  | 53 => ⟨S8x4096x16x32, .f32⟩
  | 54 => ⟨S8x4096x16x32, .f32⟩
  | 55 => ⟨S1x1x1x32, .f32⟩
  | 56 => ⟨S8x4096x16x32, .f32⟩
  | 57 => ⟨S8x4096x16x32, .f32⟩
  | 58 => ⟨S4, .f32⟩
  | 59 => ⟨S4, .f32⟩
  | 60 => ⟨S_, .f32⟩
  | 61 => ⟨S4, .f32⟩
  | 62 => ⟨S4, .f32⟩
  | 63 => ⟨S_, .f32⟩
  | 64 => ⟨S4, .f32⟩
  | 65 => ⟨S4, .f32⟩
  | 66 => ⟨S4096, .f32⟩
  | 67 => ⟨S4096x1, .f32⟩
  | 68 => ⟨S1x4, .f32⟩
  | 69 => ⟨S4096x4, .f32⟩
  | 70 => ⟨S4096x4, .f32⟩
  | 71 => ⟨S4096x4, .f32⟩
  | 72 => ⟨S4096x4, .f32⟩
  | 73 => ⟨S4096x1x4, .f32⟩
  | 74 => ⟨S4096x4, .f32⟩
  | 75 => ⟨S4096x1x4, .f32⟩
  | 76 => ⟨S8x4096x16x4, .f32⟩
  | 77 => ⟨S8x4096x16x4, .f32⟩
  | 78 => ⟨S8x4096x16x24, .f32⟩
  | 79 => ⟨S1x4096x1x4, .f32⟩
  | 80 => ⟨S8x4096x16x4, .f32⟩
  | 81 => ⟨S8x4096x16x4, .f32⟩
  | 82 => ⟨S1x4096x1x4, .f32⟩
  | 83 => ⟨S8x4096x16x4, .f32⟩
  | 84 => ⟨S8x4096x16x4, .f32⟩
  | 85 => ⟨S8x4096x16x4, .f32⟩
  | 86 => ⟨S1x4096x1x4, .f32⟩
  | 87 => ⟨S8x4096x16x4, .f32⟩
  | 88 => ⟨S8x4096x16x4, .f32⟩
  | 89 => ⟨S1x4096x1x4, .f32⟩
  | 90 => ⟨S8x4096x16x4, .f32⟩
  | 91 => ⟨S8x4096x16x4, .f32⟩
  | 92 => ⟨S8x4096x16x4, .f32⟩
  | 93 => ⟨S8x4096x16x32, .f32⟩
  | 94 => ⟨S8x4096x3x2x64, .f32⟩
  | 95 => ⟨S8x4096x3x2x64, .f32⟩
  | 96 => ⟨S8x4096x1x2x64, .f32⟩
  | 97 => ⟨S8x4096x2x64, .f32⟩
  | 98 => ⟨S8, .f32⟩
  | 99 => ⟨S8, .f32⟩
  | 100 => ⟨S_, .f32⟩
  | 101 => ⟨S8, .f32⟩
  | 102 => ⟨S8, .f32⟩
  | 103 => ⟨S_, .f32⟩
  | 104 => ⟨S8, .f32⟩
  | 105 => ⟨S8, .f32⟩
  | 106 => ⟨S4096, .f32⟩
  | 107 => ⟨S4096x1, .f32⟩
  | 108 => ⟨S1x8, .f32⟩
  | 109 => ⟨S4096x8, .f32⟩
  | 110 => ⟨S4096x8, .f32⟩
  | 111 => ⟨S4096x8, .f32⟩
  | 112 => ⟨S4096x8, .f32⟩
  | 113 => ⟨S4096x1x8, .f32⟩
  | 114 => ⟨S4096x8, .f32⟩
  | 115 => ⟨S4096x1x8, .f32⟩
  | 116 => ⟨S8x4096x2x8, .f32⟩
  | 117 => ⟨S8x4096x2x8, .f32⟩
  | 118 => ⟨S8x4096x2x48, .f32⟩
  | 119 => ⟨S1x4096x1x8, .f32⟩
  | 120 => ⟨S8x4096x2x8, .f32⟩
  | 121 => ⟨S8x4096x2x8, .f32⟩
  | 122 => ⟨S1x4096x1x8, .f32⟩
  | 123 => ⟨S8x4096x2x8, .f32⟩
  | 124 => ⟨S8x4096x2x8, .f32⟩
  | 125 => ⟨S8x4096x2x8, .f32⟩
  | 126 => ⟨S1x4096x1x8, .f32⟩
  | 127 => ⟨S8x4096x2x8, .f32⟩
  | _ => ⟨S8x4096x1024, .f32⟩

abbrev hbmTy0_1 (i : Nat) : BufTy := match i % 128 with
  | 0 => ⟨S8x4096x2x8, .f32⟩
  | 1 => ⟨S1x4096x1x8, .f32⟩
  | 2 => ⟨S8x4096x2x8, .f32⟩
  | 3 => ⟨S8x4096x2x8, .f32⟩
  | 4 => ⟨S8x4096x2x8, .f32⟩
  | 5 => ⟨S8x4096x2x64, .f32⟩
  | 6 => ⟨S8x4096x1x2x64, .f32⟩
  | 7 => ⟨S8x4096x2x64, .f32⟩
  | 8 => ⟨S1x64, .f32⟩
  | 9 => ⟨S64, .f32⟩
  | 10 => ⟨S8x4096x2x64, .f32⟩
  | 11 => ⟨S_, .f32⟩
  | 12 => ⟨S8x4096x2, .f32⟩
  | 13 => ⟨S8x4096x2x1, .f32⟩
  | 14 => ⟨S_, .f32⟩
  | 15 => ⟨S8x4096x2x1, .f32⟩
  | 16 => ⟨S8x4096x2x1, .f32⟩
  | 17 => ⟨S_, .f32⟩
  | 18 => ⟨S8x4096x2x1, .f32⟩
  | 19 => ⟨S8x4096x2x1, .f32⟩
  | 20 => ⟨S8x4096x2x1, .f32⟩
  | 21 => ⟨S8x4096x2x64, .f32⟩
  | 22 => ⟨S8x4096x2x64, .f32⟩
  | 23 => ⟨S1x1x1x64, .f32⟩
  | 24 => ⟨S8x4096x2x64, .f32⟩
  | 25 => ⟨S8x4096x2x64, .f32⟩
  | 26 => ⟨S8, .f32⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S8, .f32⟩
  | 34 => ⟨S4096, .f32⟩
  | 35 => ⟨S4096x1, .f32⟩
  | 36 => ⟨S1x8, .f32⟩
  | 37 => ⟨S4096x8, .f32⟩
  | 38 => ⟨S4096x8, .f32⟩
  | 39 => ⟨S4096x8, .f32⟩
  | 40 => ⟨S4096x8, .f32⟩
  | 41 => ⟨S4096x1x8, .f32⟩
  | 42 => ⟨S4096x8, .f32⟩
  | 43 => ⟨S4096x1x8, .f32⟩
  | 44 => ⟨S8x4096x2x8, .f32⟩
  | 45 => ⟨S8x4096x2x8, .f32⟩
  | 46 => ⟨S8x4096x2x48, .f32⟩
  | 47 => ⟨S1x4096x1x8, .f32⟩
  | 48 => ⟨S8x4096x2x8, .f32⟩
  | 49 => ⟨S8x4096x2x8, .f32⟩
  | 50 => ⟨S1x4096x1x8, .f32⟩
  | 51 => ⟨S8x4096x2x8, .f32⟩
  | 52 => ⟨S8x4096x2x8, .f32⟩
  | 53 => ⟨S8x4096x2x8, .f32⟩
  | 54 => ⟨S1x4096x1x8, .f32⟩
  | 55 => ⟨S8x4096x2x8, .f32⟩
  | 56 => ⟨S8x4096x2x8, .f32⟩
  | 57 => ⟨S1x4096x1x8, .f32⟩
  | 58 => ⟨S8x4096x2x8, .f32⟩
  | 59 => ⟨S8x4096x2x8, .f32⟩
  | 60 => ⟨S8x4096x2x8, .f32⟩
  | 61 => ⟨S8x4096x2x64, .f32⟩
  | 62 => ⟨S8x4096x1x2x64, .f32⟩
  | 63 => ⟨S8x4096x2x64, .f32⟩
  | 64 => ⟨S1x64, .f32⟩
  | 65 => ⟨S64, .f32⟩
  | 66 => ⟨S8x4096x2x64, .f32⟩
  | 67 => ⟨S_, .f32⟩
  | 68 => ⟨S8x4096x2, .f32⟩
  | 69 => ⟨S8x4096x2x1, .f32⟩
  | 70 => ⟨S_, .f32⟩
  | 71 => ⟨S8x4096x2x1, .f32⟩
  | 72 => ⟨S8x4096x2x1, .f32⟩
  | 73 => ⟨S_, .f32⟩
  | 74 => ⟨S8x4096x2x1, .f32⟩
  | 75 => ⟨S8x4096x2x1, .f32⟩
  | 76 => ⟨S8x4096x2x1, .f32⟩
  | 77 => ⟨S8x4096x2x64, .f32⟩
  | 78 => ⟨S8x4096x2x64, .f32⟩
  | 79 => ⟨S1x1x1x64, .f32⟩
  | 80 => ⟨S8x4096x2x64, .f32⟩
  | 81 => ⟨S8x4096x2x64, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S4096, .f32⟩
  | 91 => ⟨S4096x1, .f32⟩
  | 92 => ⟨S1x8, .f32⟩
  | 93 => ⟨S4096x8, .f32⟩
  | 94 => ⟨S4096x8, .f32⟩
  | 95 => ⟨S4096x8, .f32⟩
  | 96 => ⟨S4096x8, .f32⟩
  | 97 => ⟨S4096x1x8, .f32⟩
  | 98 => ⟨S4096x8, .f32⟩
  | 99 => ⟨S4096x1x8, .f32⟩
  | 100 => ⟨S8x4096x2x8, .f32⟩
  | 101 => ⟨S8x4096x2x8, .f32⟩
  | 102 => ⟨S8x4096x2x48, .f32⟩
  | 103 => ⟨S1x4096x1x8, .f32⟩
  | 104 => ⟨S8x4096x2x8, .f32⟩
  | 105 => ⟨S8x4096x2x8, .f32⟩
  | 106 => ⟨S1x4096x1x8, .f32⟩
  | 107 => ⟨S8x4096x2x8, .f32⟩
  | 108 => ⟨S8x4096x2x8, .f32⟩
  | 109 => ⟨S8x4096x2x8, .f32⟩
  | 110 => ⟨S1x4096x1x8, .f32⟩
  | 111 => ⟨S8x4096x2x8, .f32⟩
  | 112 => ⟨S8x4096x2x8, .f32⟩
  | 113 => ⟨S1x4096x1x8, .f32⟩
  | 114 => ⟨S8x4096x2x8, .f32⟩
  | 115 => ⟨S8x4096x2x8, .f32⟩
  | 116 => ⟨S8x4096x2x8, .f32⟩
  | 117 => ⟨S8x4096x2x64, .f32⟩
  | 118 => ⟨S8x4096x1x2x64, .f32⟩
  | 119 => ⟨S8x4096x1x2x64, .f32⟩
  | 120 => ⟨S8x4096x2x2x64, .f32⟩
  | 121 => ⟨S8x4096x1x2x64, .f32⟩
  | 122 => ⟨S8x4096x2x64, .f32⟩
  | 123 => ⟨S8x4096x1x2x64, .f32⟩
  | 124 => ⟨S8x4096x1x2x64, .f32⟩
  | 125 => ⟨S8x4096x2x2x64, .f32⟩
  | 126 => ⟨S8x4096x512, .f32⟩
  | 127 => ⟨S8x4096x256, .f32⟩
  | _ => ⟨S8x4096x1024, .f32⟩

abbrev hbmTy0_2 (i : Nat) : BufTy := match i % 128 with
  | 0 => ⟨S8x4096x2x2x64, .f32⟩
  | 1 => ⟨S8x4096x256, .f32⟩
  | 2 => ⟨S8x4096x256, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_8 : Ref sig .tc := ⟨.hbm, 100, rfl⟩
abbrev main_v82 : Ref sig .tc := ⟨.hbm, 101, rfl⟩
abbrev main_v83 : Ref sig .tc := ⟨.hbm, 102, rfl⟩
abbrev main_cst_9 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_cst_10 : Ref sig .tc := ⟨.hbm, 139, rfl⟩
abbrev main_v119 : Ref sig .tc := ⟨.hbm, 140, rfl⟩
abbrev main_v120 : Ref sig .tc := ⟨.hbm, 141, rfl⟩
abbrev main_cst_11 : Ref sig .tc := ⟨.hbm, 142, rfl⟩
abbrev main_v121 : Ref sig .tc := ⟨.hbm, 143, rfl⟩
abbrev main_v122 : Ref sig .tc := ⟨.hbm, 144, rfl⟩
abbrev main_cst_12 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_cst_13 : Ref sig .tc := ⟨.hbm, 156, rfl⟩
abbrev main_v133 : Ref sig .tc := ⟨.hbm, 157, rfl⟩
abbrev main_v134 : Ref sig .tc := ⟨.hbm, 158, rfl⟩
abbrev main_cst_14 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_cst_15 : Ref sig .tc := ⟨.hbm, 195, rfl⟩
abbrev main_v170 : Ref sig .tc := ⟨.hbm, 196, rfl⟩
abbrev main_v171 : Ref sig .tc := ⟨.hbm, 197, rfl⟩
abbrev main_cst_16 : Ref sig .tc := ⟨.hbm, 198, rfl⟩
abbrev main_v172 : Ref sig .tc := ⟨.hbm, 199, rfl⟩
abbrev main_v173 : Ref sig .tc := ⟨.hbm, 200, rfl⟩
abbrev main_cst_17 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_cst_18 : Ref sig .tc := ⟨.hbm, 212, rfl⟩
abbrev main_v184 : Ref sig .tc := ⟨.hbm, 213, rfl⟩
abbrev main_v185 : Ref sig .tc := ⟨.hbm, 214, rfl⟩
abbrev main_cst_19 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩

abbrev nD : Nat := 1
abbrev τ : Topo := Topo.v7x

variable {F : FTy → Type} [FloatOps F]
-- ==== Kernel4.lean ====
abbrev S32x1x1024 : Shape := ⟨3, ![32, 1, 1024]⟩
abbrev S1024 : Shape := ⟨1, ![1024]⟩
abbrev S1024x2840 : Shape := ⟨2, ![1024, 2840]⟩
abbrev S32 : Shape := ⟨1, ![32]⟩
abbrev S64 : Shape := ⟨1, ![64]⟩
abbrev S2x64 : Shape := ⟨2, ![2, 64]⟩
abbrev S1x1024 : Shape := ⟨2, ![1, 1024]⟩
abbrev S_ : Shape := ⟨0, ![]⟩
abbrev S1024x2944 : Shape := ⟨2, ![1024, 2944]⟩
abbrev S1x32 : Shape := ⟨2, ![1, 32]⟩
abbrev S16x32 : Shape := ⟨2, ![16, 32]⟩
abbrev S512 : Shape := ⟨1, ![512]⟩
abbrev S1x512 : Shape := ⟨2, ![1, 512]⟩
abbrev S2x512 : Shape := ⟨2, ![2, 512]⟩
abbrev S1x64 : Shape := ⟨2, ![1, 64]⟩
abbrev S8x64 : Shape := ⟨2, ![8, 64]⟩
abbrev S128 : Shape := ⟨1, ![128]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x32x1024 : Shape := ⟨3, ![1, 32, 1024]⟩
abbrev S4 : Shape := ⟨1, ![4]⟩
abbrev S32x1 : Shape := ⟨2, ![32, 1]⟩
abbrev S1x4 : Shape := ⟨2, ![1, 4]⟩
abbrev S32x4 : Shape := ⟨2, ![32, 4]⟩
abbrev S32x24 : Shape := ⟨2, ![32, 24]⟩
abbrev S32x32 : Shape := ⟨2, ![32, 32]⟩
abbrev S32x28 : Shape := ⟨2, ![32, 28]⟩
abbrev S1x32x1x32 : Shape := ⟨4, ![1, 32, 1, 32]⟩
abbrev S1x32x4x32 : Shape := ⟨4, ![1, 32, 4, 32]⟩
abbrev S32x128 : Shape := ⟨2, ![32, 128]⟩
abbrev S1x32x128 : Shape := ⟨3, ![1, 32, 128]⟩
abbrev S3x32x128 : Shape := ⟨3, ![3, 32, 128]⟩
abbrev S8 : Shape := ⟨1, ![8]⟩
abbrev S1x8 : Shape := ⟨2, ![1, 8]⟩
abbrev S32x8 : Shape := ⟨2, ![32, 8]⟩
abbrev S32x48 : Shape := ⟨2, ![32, 48]⟩
abbrev S32x64 : Shape := ⟨2, ![32, 64]⟩
abbrev S32x56 : Shape := ⟨2, ![32, 56]⟩
abbrev S1x32x1x64 : Shape := ⟨4, ![1, 32, 1, 64]⟩
abbrev S1x32x2x64 : Shape := ⟨4, ![1, 32, 2, 64]⟩
abbrev S1x32x512 : Shape := ⟨3, ![1, 32, 512]⟩
abbrev S1x32x256 : Shape := ⟨3, ![1, 32, 256]⟩
abbrev S1x32x384 : Shape := ⟨3, ![1, 32, 384]⟩
abbrev S32x1024 : Shape := ⟨2, ![32, 1024]⟩
abbrev S32x2944 : Shape := ⟨2, ![32, 2944]⟩
abbrev S32x512 : Shape := ⟨2, ![32, 512]⟩
abbrev S32x256 : Shape := ⟨2, ![32, 256]⟩
abbrev S32x384 : Shape := ⟨2, ![32, 384]⟩

abbrev nBuf : Space → Nat
  | .hbm => 234
  | .vmem => 24
  | .smem => 0
  | _ => 0

abbrev hbmTy0_0 (i : Nat) : BufTy := match i % 128 with
  | 0 => ⟨S32x1x1024, .f32⟩
  | 1 => ⟨S32x1x1024, .f32⟩
  | 2 => ⟨S32x1x1024, .f32⟩
  | 3 => ⟨S1024, .f32⟩
  | 4 => ⟨S1024x2840, .f32⟩
  | 5 => ⟨S32, .f32⟩
  | 6 => ⟨S32, .f32⟩
  | 7 => ⟨S64, .f32⟩
  | 8 => ⟨S2x64, .f32⟩
  | 9 => ⟨S1x1024, .f32⟩
  | 10 => ⟨S_, .i32⟩
  | 11 => ⟨S_, .f32⟩
  | 12 => ⟨S1024x2944, .f32⟩
  | 13 => ⟨S1024x2944, .bf16⟩
  | 14 => ⟨S1x32, .f32⟩
  | 15 => ⟨S16x32, .f32⟩
  | 16 => ⟨S512, .f32⟩
  | 17 => ⟨S1x32, .f32⟩
  | 18 => ⟨S16x32, .f32⟩
  | 19 => ⟨S512, .f32⟩
  | 20 => ⟨S1x512, .f32⟩
  | 21 => ⟨S1x512, .f32⟩
  | 22 => ⟨S2x512, .f32⟩
  | 23 => ⟨S1x64, .f32⟩
  | 24 => ⟨S8x64, .f32⟩
  | 25 => ⟨S512, .f32⟩
  | 26 => ⟨S1x512, .f32⟩
  | 27 => ⟨S1x64, .f32⟩
  | 28 => ⟨S64, .f32⟩
  | 29 => ⟨S1x64, .f32⟩
  | 30 => ⟨S2x64, .f32⟩
  | 31 => ⟨S128, .f32⟩
  | 32 => ⟨S1x64, .f32⟩
  | 33 => ⟨S64, .f32⟩
  | 34 => ⟨S1x64, .f32⟩
  | 35 => ⟨S2x64, .f32⟩
  | 36 => ⟨S128, .f32⟩
  | 37 => ⟨S256, .f32⟩
  | 38 => ⟨S1x256, .f32⟩
  | 39 => ⟨S256, .i32⟩
  | 40 => ⟨S256x1, .i32⟩
  | 41 => ⟨S_, .i32⟩
  | 42 => ⟨S_, .i32⟩
  | 43 => ⟨S256x1, .i32⟩
  | 44 => ⟨S256x1, .i32⟩
  | 45 => ⟨S256x1, .i32⟩
  | 46 => ⟨S_, .i32⟩
  | 47 => ⟨S256x1, .i32⟩
  | 48 => ⟨S256x1, .i1⟩
  | 49 => ⟨S256x1, .i32⟩
  | 50 => ⟨S256x1, .i32⟩
  | 51 => ⟨S_, .i32⟩
  | 52 => ⟨S256x1, .i32⟩
  | 53 => ⟨S256x1, .i1⟩
  | 54 => ⟨S256x1, .i1⟩
  | 55 => ⟨S_, .i32⟩
  | 56 => ⟨S256x1, .i32⟩
  | 57 => ⟨S256x1, .i32⟩
  | 58 => ⟨S256x1, .i32⟩
  | 59 => ⟨S1x256, .i32⟩
  | 60 => ⟨S_, .i32⟩
  | 61 => ⟨S_, .i32⟩
  | 62 => ⟨S1x256, .i32⟩
  | 63 => ⟨S1x256, .i32⟩
  | 64 => ⟨S1x256, .i32⟩
  | 65 => ⟨S_, .i32⟩
  | 66 => ⟨S1x256, .i32⟩
  | 67 => ⟨S1x256, .i1⟩
  | 68 => ⟨S1x256, .i32⟩
  | 69 => ⟨S1x256, .i32⟩
  | 70 => ⟨S_, .i32⟩
  | 71 => ⟨S1x256, .i32⟩
  | 72 => ⟨S1x256, .i1⟩
  | 73 => ⟨S1x256, .i1⟩
  | 74 => ⟨S_, .i32⟩
  | 75 => ⟨S1x256, .i32⟩
  | 76 => ⟨S1x256, .i32⟩
  | 77 => ⟨S1x256, .i32⟩
  | 78 => ⟨S256x256, .i32⟩
  | 79 => ⟨S256x256, .i32⟩
  | 80 => ⟨S256x256, .i1⟩
  | 81 => ⟨S_, .f32⟩
  | 82 => ⟨S_, .f32⟩
  | 83 => ⟨S256x256, .f32⟩
  | 84 => ⟨S256x256, .f32⟩
  | 85 => ⟨S256x256, .f32⟩
  | 86 => ⟨S256x256, .f32⟩
  | 87 => ⟨S256, .i32⟩
  | 88 => ⟨S256x1, .i32⟩
  | 89 => ⟨S_, .i32⟩
  | 90 => ⟨S_, .i32⟩
  | 91 => ⟨S256x1, .i32⟩
  | 92 => ⟨S256x1, .i32⟩
  | 93 => ⟨S256x1, .i32⟩
  | 94 => ⟨S_, .i32⟩
  | 95 => ⟨S256x1, .i32⟩
  | 96 => ⟨S256x1, .i1⟩
  | 97 => ⟨S256x1, .i32⟩
  | 98 => ⟨S256x1, .i32⟩
  | 99 => ⟨S_, .i32⟩
  | 100 => ⟨S256x1, .i32⟩
  | 101 => ⟨S256x1, .i1⟩
  | 102 => ⟨S256x1, .i1⟩
  | 103 => ⟨S_, .i32⟩
  | 104 => ⟨S256x1, .i32⟩
  | 105 => ⟨S256x1, .i32⟩
  | 106 => ⟨S256x1, .i32⟩
  | 107 => ⟨S1x256, .i32⟩
  | 108 => ⟨S_, .i32⟩
  | 109 => ⟨S_, .i32⟩
  | 110 => ⟨S1x256, .i32⟩
  | 111 => ⟨S1x256, .i32⟩
  | 112 => ⟨S1x256, .i32⟩
  | 113 => ⟨S_, .i32⟩
  | 114 => ⟨S1x256, .i32⟩
  | 115 => ⟨S1x256, .i1⟩
  | 116 => ⟨S1x256, .i32⟩
  | 117 => ⟨S1x256, .i32⟩
  | 118 => ⟨S_, .i32⟩
  | 119 => ⟨S1x256, .i32⟩
  | 120 => ⟨S1x256, .i1⟩
  | 121 => ⟨S1x256, .i1⟩
  | 122 => ⟨S_, .i32⟩
  | 123 => ⟨S1x256, .i32⟩
  | 124 => ⟨S1x256, .i32⟩
  | 125 => ⟨S1x256, .i32⟩
  | 126 => ⟨S256x256, .i32⟩
  | 127 => ⟨S256x256, .i32⟩
  | _ => ⟨S32x1x1024, .f32⟩

abbrev hbmTy0_1 (i : Nat) : BufTy := match i % 128 with
  | 0 => ⟨S256x256, .i1⟩
  | 1 => ⟨S_, .f32⟩
  | 2 => ⟨S_, .f32⟩
  | 3 => ⟨S256x256, .f32⟩
  | 4 => ⟨S256x256, .f32⟩
  | 5 => ⟨S256x256, .f32⟩
  | 6 => ⟨S256x256, .f32⟩
  | 7 => ⟨S1x32x1024, .f32⟩
  | 8 => ⟨S1x32x1024, .f32⟩
  | 9 => ⟨S1x32x1024, .f32⟩
  | 10 => ⟨S_, .i32⟩
  | 11 => ⟨S32, .i32⟩
  | 12 => ⟨S4, .f32⟩
  | 13 => ⟨S4, .f32⟩
  | 14 => ⟨S_, .f32⟩
  | 15 => ⟨S4, .f32⟩
  | 16 => ⟨S4, .f32⟩
  | 17 => ⟨S_, .f32⟩
  | 18 => ⟨S4, .f32⟩
  | 19 => ⟨S4, .f32⟩
  | 20 => ⟨S32, .f32⟩
  | 21 => ⟨S32x1, .f32⟩
  | 22 => ⟨S1x4, .f32⟩
  | 23 => ⟨S32x4, .f32⟩
  | 24 => ⟨S32x4, .f32⟩
  | 25 => ⟨S32x4, .f32⟩
  | 26 => ⟨S32x4, .f32⟩
  | 27 => ⟨S32x4, .f32⟩
  | 28 => ⟨S_, .f32⟩
  | 29 => ⟨S32x24, .f32⟩
  | 30 => ⟨S32x32, .f32⟩
  | 31 => ⟨S32x4, .f32⟩
  | 32 => ⟨S_, .f32⟩
  | 33 => ⟨S32x28, .f32⟩
  | 34 => ⟨S32x32, .f32⟩
  | 35 => ⟨S_, .f32⟩
  | 36 => ⟨S32x4, .f32⟩
  | 37 => ⟨S_, .f32⟩
  | 38 => ⟨S32x24, .f32⟩
  | 39 => ⟨S32x32, .f32⟩
  | 40 => ⟨S1x32x1x32, .f32⟩
  | 41 => ⟨S1x32x4x32, .f32⟩
  | 42 => ⟨S32x128, .f32⟩
  | 43 => ⟨S1x32x1x32, .f32⟩
  | 44 => ⟨S1x32x4x32, .f32⟩
  | 45 => ⟨S32x128, .f32⟩
  | 46 => ⟨S1x32x1x32, .f32⟩
  | 47 => ⟨S1x32x4x32, .f32⟩
  | 48 => ⟨S32x128, .f32⟩
  | 49 => ⟨S1x32x128, .f32⟩
  | 50 => ⟨S1x32x128, .f32⟩
  | 51 => ⟨S1x32x128, .f32⟩
  | 52 => ⟨S3x32x128, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S32, .f32⟩
  | 62 => ⟨S32x1, .f32⟩
  | 63 => ⟨S1x8, .f32⟩
  | 64 => ⟨S32x8, .f32⟩
  | 65 => ⟨S32x8, .f32⟩
  | 66 => ⟨S32x8, .f32⟩
  | 67 => ⟨S32x8, .f32⟩
  | 68 => ⟨S32x8, .f32⟩
  | 69 => ⟨S_, .f32⟩
  | 70 => ⟨S32x48, .f32⟩
  | 71 => ⟨S32x64, .f32⟩
  | 72 => ⟨S32x8, .f32⟩
  | 73 => ⟨S_, .f32⟩
  | 74 => ⟨S32x56, .f32⟩
  | 75 => ⟨S32x64, .f32⟩
  | 76 => ⟨S_, .f32⟩
  | 77 => ⟨S32x8, .f32⟩
  | 78 => ⟨S_, .f32⟩
  | 79 => ⟨S32x48, .f32⟩
  | 80 => ⟨S32x64, .f32⟩
  | 81 => ⟨S1x32x1x64, .f32⟩
  | 82 => ⟨S1x32x2x64, .f32⟩
  | 83 => ⟨S32x128, .f32⟩
  | 84 => ⟨S1x32x1x64, .f32⟩
  | 85 => ⟨S1x32x2x64, .f32⟩
  | 86 => ⟨S32x128, .f32⟩
  | 87 => ⟨S1x32x1x64, .f32⟩
  | 88 => ⟨S1x32x2x64, .f32⟩
  | 89 => ⟨S32x128, .f32⟩
  | 90 => ⟨S1x32x128, .f32⟩
  | 91 => ⟨S1x32x128, .f32⟩
  | 92 => ⟨S1x32x128, .f32⟩
  | 93 => ⟨S3x32x128, .f32⟩
  | 94 => ⟨S1x32x512, .f32⟩
  | 95 => ⟨S1x32x512, .f32⟩
  | 96 => ⟨S1x32x512, .bf16⟩
  | 97 => ⟨S1x32x512, .f32⟩
  | 98 => ⟨S1x32x512, .bf16⟩
  | 99 => ⟨S1x32x512, .f32⟩
  | 100 => ⟨S1x32x256, .f32⟩
  | 101 => ⟨S1x32x256, .f32⟩
  | 102 => ⟨S1x32x256, .f32⟩
  | 103 => ⟨S1x32x384, .bf16⟩
  | 104 => ⟨S1x32x384, .bf16⟩
  | 105 => ⟨S1x32x128, .f32⟩
  | _ => ⟨S32x1x1024, .f32⟩

abbrev hbmTy (i : Nat) : BufTy := match i / 128 with
  | 0 => hbmTy0_0 i
  | 1 => hbmTy0_1 i
  | _ => ⟨S32x1x1024, .f32⟩

abbrev bufTy : (tb : Table) → Fin (tcTables nBuf tb) → BufTy
  | .hbm, ⟨i, _⟩ => hbmTy i
  | .local _ .vmem, ⟨0, _⟩ => ⟨S1x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x1024, .f32⟩
  | .local _ .vmem, ⟨4, _⟩ => ⟨S1024x2944, .bf16⟩
  | .local _ .vmem, ⟨5, _⟩ => ⟨S2x512, .f32⟩
  | .local _ .vmem, ⟨6, _⟩ => ⟨S1x512, .f32⟩
  | .local _ .vmem, ⟨7, _⟩ => ⟨S1x256, .f32⟩
  | .local _ .vmem, ⟨8, _⟩ => ⟨S256x256, .f32⟩
  | .local _ .vmem, ⟨9, _⟩ => ⟨S256x256, .f32⟩
  | .local _ .vmem, ⟨10, _⟩ => ⟨S3x32x128, .f32⟩
  | .local _ .vmem, ⟨11, _⟩ => ⟨S3x32x128, .f32⟩
  | .local _ .vmem, ⟨12, _⟩ => ⟨S1x32x512, .f32⟩
  | .local _ .vmem, ⟨13, _⟩ => ⟨S1x32x512, .f32⟩
  | .local _ .vmem, ⟨14, _⟩ => ⟨S1x32x512, .bf16⟩
  | .local _ .vmem, ⟨15, _⟩ => ⟨S1x32x512, .f32⟩
  | .local _ .vmem, ⟨16, _⟩ => ⟨S1x32x512, .bf16⟩
  | .local _ .vmem, ⟨17, _⟩ => ⟨S1x32x512, .f32⟩
  | .local _ .vmem, ⟨18, _⟩ => ⟨S1x32x256, .f32⟩
  | .local _ .vmem, ⟨19, _⟩ => ⟨S1x32x256, .f32⟩
  | .local _ .vmem, ⟨20, _⟩ => ⟨S1x32x256, .f32⟩
  | .local _ .vmem, ⟨21, _⟩ => ⟨S1x32x384, .bf16⟩
  | .local _ .vmem, ⟨22, _⟩ => ⟨S1x32x384, .bf16⟩
  | .local _ .vmem, ⟨23, _⟩ => ⟨S1x32x128, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v30 : Ref sig .tc := ⟨.hbm, 58, rfl⟩
abbrev main_v31 : Ref sig .tc := ⟨.hbm, 59, rfl⟩
abbrev main_c_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_c : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_0 : Ref sig .tc := ⟨.hbm, 74, rfl⟩
abbrev main_call2_v12 : Ref sig .tc := ⟨.hbm, 75, rfl⟩
abbrev main_call2_v13 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst : Ref sig .tc := ⟨.hbm, 81, rfl⟩
abbrev main_cst_2 : Ref sig .tc := ⟨.hbm, 82, rfl⟩
abbrev main_call3_v0 : Ref sig .tc := ⟨.hbm, 83, rfl⟩
abbrev main_call3_v1 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_c_3 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_v5 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_c : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_c_0 : Ref sig .tc := ⟨.hbm, 103, rfl⟩
abbrev main_call4_v12 : Ref sig .tc := ⟨.hbm, 104, rfl⟩
abbrev main_call4_v13 : Ref sig .tc := ⟨.hbm, 105, rfl⟩
abbrev main_v40 : Ref sig .tc := ⟨.hbm, 106, rfl⟩
abbrev main_v41 : Ref sig .tc := ⟨.hbm, 107, rfl⟩
abbrev main_c_4 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_v6 : Ref sig .tc := ⟨.hbm, 115, rfl⟩
abbrev main_call5_v7 : Ref sig .tc := ⟨.hbm, 116, rfl⟩
abbrev main_call5_v8 : Ref sig .tc := ⟨.hbm, 117, rfl⟩
abbrev main_call5_c : Ref sig .tc := ⟨.hbm, 118, rfl⟩
abbrev main_call5_v9 : Ref sig .tc := ⟨.hbm, 119, rfl⟩
abbrev main_call5_v10 : Ref sig .tc := ⟨.hbm, 120, rfl⟩
abbrev main_call5_v11 : Ref sig .tc := ⟨.hbm, 121, rfl⟩
abbrev main_call5_c_0 : Ref sig .tc := ⟨.hbm, 122, rfl⟩
abbrev main_call5_v12 : Ref sig .tc := ⟨.hbm, 123, rfl⟩
abbrev main_call5_v13 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_cst_5 : Ref sig .tc := ⟨.hbm, 129, rfl⟩
abbrev main_cst_6 : Ref sig .tc := ⟨.hbm, 130, rfl⟩
abbrev main_call6_v0 : Ref sig .tc := ⟨.hbm, 131, rfl⟩
abbrev main_call6_v1 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_c_7 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_cst_8 : Ref sig .tc := ⟨.hbm, 142, rfl⟩
abbrev main_v54 : Ref sig .tc := ⟨.hbm, 143, rfl⟩
abbrev main_v55 : Ref sig .tc := ⟨.hbm, 144, rfl⟩
abbrev main_cst_9 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_cst_10 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_cst_11 : Ref sig .tc := ⟨.hbm, 160, rfl⟩
abbrev main_v69 : Ref sig .tc := ⟨.hbm, 161, rfl⟩
abbrev main_v70 : Ref sig .tc := ⟨.hbm, 162, rfl⟩
abbrev main_cst_12 : Ref sig .tc := ⟨.hbm, 163, rfl⟩
abbrev main_v71 : Ref sig .tc := ⟨.hbm, 164, rfl⟩
abbrev main_cst_13 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_cst_14 : Ref sig .tc := ⟨.hbm, 183, rfl⟩
abbrev main_v89 : Ref sig .tc := ⟨.hbm, 184, rfl⟩
abbrev main_v90 : Ref sig .tc := ⟨.hbm, 185, rfl⟩
abbrev main_cst_15 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_cst_16 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_cst_17 : Ref sig .tc := ⟨.hbm, 201, rfl⟩
abbrev main_v104 : Ref sig .tc := ⟨.hbm, 202, rfl⟩
abbrev main_v105 : Ref sig .tc := ⟨.hbm, 203, rfl⟩
abbrev main_cst_18 : Ref sig .tc := ⟨.hbm, 204, rfl⟩
abbrev main_v106 : Ref sig .tc := ⟨.hbm, 205, rfl⟩
abbrev main_cst_19 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122_0 : Ref sig .tc := ⟨.hbm, 222, rfl⟩
abbrev main_v122_1 : Ref sig .tc := ⟨.hbm, 223, rfl⟩
abbrev main_v122_2 : Ref sig .tc := ⟨.hbm, 224, rfl⟩
abbrev main_v122_3 : Ref sig .tc := ⟨.hbm, 225, rfl⟩
abbrev main_v122_4 : Ref sig .tc := ⟨.hbm, 226, rfl⟩
abbrev main_v122_5 : Ref sig .tc := ⟨.hbm, 227, rfl⟩
abbrev main_v122_6 : Ref sig .tc := ⟨.hbm, 228, rfl⟩
abbrev main_v122_7 : Ref sig .tc := ⟨.hbm, 229, rfl⟩
abbrev main_v122_8 : Ref sig .tc := ⟨.hbm, 230, rfl⟩
abbrev main_v122_9 : Ref sig .tc := ⟨.hbm, 231, rfl⟩
abbrev main_v122_10 : Ref sig .tc := ⟨.hbm, 232, rfl⟩
abbrev main_v122_11 : Ref sig .tc := ⟨.hbm, 233, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S3x32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S1x32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x32x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x32x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x32x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1x32x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x32x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]

abbrev stage0_18 : Fin 1 → Memref sig .tc .vmem S1x32x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]

abbrev stage0_19 : Fin 1 → Memref sig .tc .vmem S1x32x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, true]

abbrev stage0_20 : Fin 1 → Memref sig .tc .vmem S1x32x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true, true]

abbrev stage0_21 : Fin 1 → Memref sig .tc .vmem S1x32x384 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true, true]

abbrev stage0_22 : Fin 1 → Memref sig .tc .vmem S1x32x384 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true, true]

abbrev stage0_23 : Fin 1 → Memref sig .tc .vmem S1x32x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true, true]
-- ==== Reference4Ideal.lean ====
abbrev S32x1x1024 : Shape := ⟨3, ![32, 1, 1024]⟩
abbrev S1024 : Shape := ⟨1, ![1024]⟩
abbrev S1024x2840 : Shape := ⟨2, ![1024, 2840]⟩
abbrev S32 : Shape := ⟨1, ![32]⟩
abbrev S64 : Shape := ⟨1, ![64]⟩
abbrev S2x64 : Shape := ⟨2, ![2, 64]⟩
abbrev S1 : Shape := ⟨1, ![1]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x2840 : Shape := ⟨3, ![32, 1, 2840]⟩
abbrev S32x1x512 : Shape := ⟨3, ![32, 1, 512]⟩
abbrev S32x1x384 : Shape := ⟨3, ![32, 1, 384]⟩
abbrev S32x1x24 : Shape := ⟨3, ![32, 1, 24]⟩
abbrev S32x1x16x32 : Shape := ⟨4, ![32, 1, 16, 32]⟩
abbrev S32x1x16 : Shape := ⟨3, ![32, 1, 16]⟩
abbrev S32x1x16x1 : Shape := ⟨4, ![32, 1, 16, 1]⟩
abbrev S1x1x1x32 : Shape := ⟨4, ![1, 1, 1, 32]⟩
abbrev S4 : Shape := ⟨1, ![4]⟩
abbrev S1x1 : Shape := ⟨2, ![1, 1]⟩
abbrev S1x4 : Shape := ⟨2, ![1, 4]⟩
abbrev S1x1x4 : Shape := ⟨3, ![1, 1, 4]⟩
abbrev S32x1x16x4 : Shape := ⟨4, ![32, 1, 16, 4]⟩
abbrev S32x1x16x24 : Shape := ⟨4, ![32, 1, 16, 24]⟩
abbrev S1x1x1x4 : Shape := ⟨4, ![1, 1, 1, 4]⟩
abbrev S32x1x3x2x64 : Shape := ⟨5, ![32, 1, 3, 2, 64]⟩
abbrev S32x1x1x2x64 : Shape := ⟨5, ![32, 1, 1, 2, 64]⟩
abbrev S32x1x2x64 : Shape := ⟨4, ![32, 1, 2, 64]⟩
abbrev S8 : Shape := ⟨1, ![8]⟩
abbrev S1x8 : Shape := ⟨2, ![1, 8]⟩
abbrev S1x1x8 : Shape := ⟨3, ![1, 1, 8]⟩
abbrev S32x1x2x8 : Shape := ⟨4, ![32, 1, 2, 8]⟩
abbrev S32x1x2x48 : Shape := ⟨4, ![32, 1, 2, 48]⟩
abbrev S1x1x1x8 : Shape := ⟨4, ![1, 1, 1, 8]⟩
abbrev S1x64 : Shape := ⟨2, ![1, 64]⟩
abbrev S32x1x2 : Shape := ⟨3, ![32, 1, 2]⟩
abbrev S32x1x2x1 : Shape := ⟨4, ![32, 1, 2, 1]⟩
abbrev S1x1x1x64 : Shape := ⟨4, ![1, 1, 1, 64]⟩
abbrev S32x1x2x2x64 : Shape := ⟨5, ![32, 1, 2, 2, 64]⟩
abbrev S1x32x512 : Shape := ⟨3, ![1, 32, 512]⟩
abbrev S1x32x256 : Shape := ⟨3, ![1, 32, 256]⟩

abbrev nBuf : Space → Nat
  | .hbm => 257
  | .vmem => 0
  | .smem => 0
  | _ => 0

abbrev hbmTy0_0 (i : Nat) : BufTy := match i % 128 with
  | 0 => ⟨S32x1x1024, .f32⟩
  | 1 => ⟨S32x1x1024, .f32⟩
  | 2 => ⟨S32x1x1024, .f32⟩
  | 3 => ⟨S1024, .f32⟩
  | 4 => ⟨S1024x2840, .f32⟩
  | 5 => ⟨S32, .f32⟩
  | 6 => ⟨S32, .f32⟩
  | 7 => ⟨S64, .f32⟩
  | 8 => ⟨S2x64, .f32⟩
  | 9 => ⟨S1, .i32⟩
  | 10 => ⟨S_, .i32⟩
  | 11 => ⟨S1, .i32⟩
  | 12 => ⟨S1, .i32⟩
  | 13 => ⟨S32x1x1024, .f32⟩
  | 14 => ⟨S_, .f32⟩
  | 15 => ⟨S32x1, .f32⟩
  | 16 => ⟨S32x1x1, .f32⟩
  | 17 => ⟨S_, .f32⟩
  | 18 => ⟨S32x1x1, .f32⟩
  | 19 => ⟨S32x1x1, .f32⟩
  | 20 => ⟨S_, .f32⟩
  | 21 => ⟨S32x1x1, .f32⟩
  | 22 => ⟨S32x1x1, .f32⟩
  | 23 => ⟨S32x1x1, .f32⟩
  | 24 => ⟨S32x1x1024, .f32⟩
  | 25 => ⟨S32x1x1024, .f32⟩
  | 26 => ⟨S1x1x1024, .f32⟩
  | 27 => ⟨S32x1x1024, .f32⟩
  | 28 => ⟨S32x1x1024, .f32⟩
  | 29 => ⟨S_, .f32⟩
  | 30 => ⟨S32x1x1024, .f32⟩
  | 31 => ⟨S32x1x1024, .f32⟩
  | 32 => ⟨S32x1x1024, .f32⟩
  | 33 => ⟨S32x1x1024, .f32⟩
  | 34 => ⟨S32x1x2840, .f32⟩
  | 35 => ⟨S32x1x512, .f32⟩
  | 36 => ⟨S32x1x512, .f32⟩
  | 37 => ⟨S32x1x512, .f32⟩
  | 38 => ⟨S32x1x512, .f32⟩
  | 39 => ⟨S32x1x384, .f32⟩
  | 40 => ⟨S32x1x384, .f32⟩
  | 41 => ⟨S32x1x24, .f32⟩
  | 42 => ⟨S32x1x16x32, .f32⟩
  | 43 => ⟨S32x1x16x32, .f32⟩
  | 44 => ⟨S_, .f32⟩
  | 45 => ⟨S32x1x16, .f32⟩
  | 46 => ⟨S32x1x16x1, .f32⟩
  | 47 => ⟨S_, .f32⟩
  | 48 => ⟨S32x1x16x1, .f32⟩
  | 49 => ⟨S32x1x16x1, .f32⟩
  | 50 => ⟨S_, .f32⟩
  | 51 => ⟨S32x1x16x1, .f32⟩
  | 52 => ⟨S32x1x16x1, .f32⟩
  | 53 => ⟨S32x1x16x1, .f32⟩
  | 54 => ⟨S32x1x16x32, .f32⟩
  | 55 => ⟨S32x1x16x32, .f32⟩
  | 56 => ⟨S1x1x1x32, .f32⟩
  | 57 => ⟨S32x1x16x32, .f32⟩
  | 58 => ⟨S32x1x16x32, .f32⟩
  | 59 => ⟨S4, .f32⟩
  | 60 => ⟨S4, .f32⟩
  | 61 => ⟨S_, .f32⟩
  | 62 => ⟨S4, .f32⟩
  | 63 => ⟨S4, .f32⟩
  | 64 => ⟨S_, .f32⟩
  | 65 => ⟨S4, .f32⟩
  | 66 => ⟨S4, .f32⟩
  | 67 => ⟨S1, .f32⟩
  | 68 => ⟨S1x1, .f32⟩
  | 69 => ⟨S1x4, .f32⟩
  | 70 => ⟨S1x4, .f32⟩
  | 71 => ⟨S1x4, .f32⟩
  | 72 => ⟨S1x4, .f32⟩
  | 73 => ⟨S1x1x4, .f32⟩
  | 74 => ⟨S1x4, .f32⟩
  | 75 => ⟨S1x1x4, .f32⟩
  | 76 => ⟨S32x1x16x4, .f32⟩
  | 77 => ⟨S32x1x16x4, .f32⟩
  | 78 => ⟨S32x1x16x24, .f32⟩
  | 79 => ⟨S1x1x1x4, .f32⟩
  | 80 => ⟨S32x1x16x4, .f32⟩
  | 81 => ⟨S32x1x16x4, .f32⟩
  | 82 => ⟨S1x1x1x4, .f32⟩
  | 83 => ⟨S32x1x16x4, .f32⟩
  | 84 => ⟨S32x1x16x4, .f32⟩
  | 85 => ⟨S32x1x16x4, .f32⟩
  | 86 => ⟨S1x1x1x4, .f32⟩
  | 87 => ⟨S32x1x16x4, .f32⟩
  | 88 => ⟨S32x1x16x4, .f32⟩
  | 89 => ⟨S1x1x1x4, .f32⟩
  | 90 => ⟨S32x1x16x4, .f32⟩
  | 91 => ⟨S32x1x16x4, .f32⟩
  | 92 => ⟨S32x1x16x4, .f32⟩
  | 93 => ⟨S32x1x16x32, .f32⟩
  | 94 => ⟨S32x1x3x2x64, .f32⟩
  | 95 => ⟨S32x1x3x2x64, .f32⟩
  | 96 => ⟨S32x1x1x2x64, .f32⟩
  | 97 => ⟨S32x1x2x64, .f32⟩
  | 98 => ⟨S8, .f32⟩
  | 99 => ⟨S8, .f32⟩
  | 100 => ⟨S_, .f32⟩
  | 101 => ⟨S8, .f32⟩
  | 102 => ⟨S8, .f32⟩
  | 103 => ⟨S_, .f32⟩
  | 104 => ⟨S8, .f32⟩
  | 105 => ⟨S8, .f32⟩
  | 106 => ⟨S1, .f32⟩
  | 107 => ⟨S1x1, .f32⟩
  | 108 => ⟨S1x8, .f32⟩
  | 109 => ⟨S1x8, .f32⟩
  | 110 => ⟨S1x8, .f32⟩
  | 111 => ⟨S1x8, .f32⟩
  | 112 => ⟨S1x1x8, .f32⟩
  | 113 => ⟨S1x8, .f32⟩
  | 114 => ⟨S1x1x8, .f32⟩
  | 115 => ⟨S32x1x2x8, .f32⟩
  | 116 => ⟨S32x1x2x8, .f32⟩
  | 117 => ⟨S32x1x2x48, .f32⟩
  | 118 => ⟨S1x1x1x8, .f32⟩
  | 119 => ⟨S32x1x2x8, .f32⟩
  | 120 => ⟨S32x1x2x8, .f32⟩
  | 121 => ⟨S1x1x1x8, .f32⟩
  | 122 => ⟨S32x1x2x8, .f32⟩
  | 123 => ⟨S32x1x2x8, .f32⟩
  | 124 => ⟨S32x1x2x8, .f32⟩
  | 125 => ⟨S1x1x1x8, .f32⟩
  | 126 => ⟨S32x1x2x8, .f32⟩
  | 127 => ⟨S32x1x2x8, .f32⟩
  | _ => ⟨S32x1x1024, .f32⟩

abbrev hbmTy0_1 (i : Nat) : BufTy := match i % 128 with
  | 0 => ⟨S1x1x1x8, .f32⟩
  | 1 => ⟨S32x1x2x8, .f32⟩
  | 2 => ⟨S32x1x2x8, .f32⟩
  | 3 => ⟨S32x1x2x8, .f32⟩
  | 4 => ⟨S32x1x2x64, .f32⟩
  | 5 => ⟨S32x1x1x2x64, .f32⟩
  | 6 => ⟨S32x1x2x64, .f32⟩
  | 7 => ⟨S1x64, .f32⟩
  | 8 => ⟨S64, .f32⟩
  | 9 => ⟨S32x1x2x64, .f32⟩
  | 10 => ⟨S_, .f32⟩
  | 11 => ⟨S32x1x2, .f32⟩
  | 12 => ⟨S32x1x2x1, .f32⟩
  | 13 => ⟨S_, .f32⟩
  | 14 => ⟨S32x1x2x1, .f32⟩
  | 15 => ⟨S32x1x2x1, .f32⟩
  | 16 => ⟨S_, .f32⟩
  | 17 => ⟨S32x1x2x1, .f32⟩
  | 18 => ⟨S32x1x2x1, .f32⟩
  | 19 => ⟨S32x1x2x1, .f32⟩
  | 20 => ⟨S32x1x2x64, .f32⟩
  | 21 => ⟨S32x1x2x64, .f32⟩
  | 22 => ⟨S1x1x1x64, .f32⟩
  | 23 => ⟨S32x1x2x64, .f32⟩
  | 24 => ⟨S32x1x2x64, .f32⟩
  | 25 => ⟨S8, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S1, .f32⟩
  | 34 => ⟨S1x1, .f32⟩
  | 35 => ⟨S1x8, .f32⟩
  | 36 => ⟨S1x8, .f32⟩
  | 37 => ⟨S1x8, .f32⟩
  | 38 => ⟨S1x8, .f32⟩
  | 39 => ⟨S1x1x8, .f32⟩
  | 40 => ⟨S1x8, .f32⟩
  | 41 => ⟨S1x1x8, .f32⟩
  | 42 => ⟨S32x1x2x8, .f32⟩
  | 43 => ⟨S32x1x2x8, .f32⟩
  | 44 => ⟨S32x1x2x48, .f32⟩
  | 45 => ⟨S1x1x1x8, .f32⟩
  | 46 => ⟨S32x1x2x8, .f32⟩
  | 47 => ⟨S32x1x2x8, .f32⟩
  | 48 => ⟨S1x1x1x8, .f32⟩
  | 49 => ⟨S32x1x2x8, .f32⟩
  | 50 => ⟨S32x1x2x8, .f32⟩
  | 51 => ⟨S32x1x2x8, .f32⟩
  | 52 => ⟨S1x1x1x8, .f32⟩
  | 53 => ⟨S32x1x2x8, .f32⟩
  | 54 => ⟨S32x1x2x8, .f32⟩
  | 55 => ⟨S1x1x1x8, .f32⟩
  | 56 => ⟨S32x1x2x8, .f32⟩
  | 57 => ⟨S32x1x2x8, .f32⟩
  | 58 => ⟨S32x1x2x8, .f32⟩
  | 59 => ⟨S32x1x2x64, .f32⟩
  | 60 => ⟨S32x1x1x2x64, .f32⟩
  | 61 => ⟨S32x1x2x64, .f32⟩
  | 62 => ⟨S1x64, .f32⟩
  | 63 => ⟨S64, .f32⟩
  | 64 => ⟨S32x1x2x64, .f32⟩
  | 65 => ⟨S_, .f32⟩
  | 66 => ⟨S32x1x2, .f32⟩
  | 67 => ⟨S32x1x2x1, .f32⟩
  | 68 => ⟨S_, .f32⟩
  | 69 => ⟨S32x1x2x1, .f32⟩
  | 70 => ⟨S32x1x2x1, .f32⟩
  | 71 => ⟨S_, .f32⟩
  | 72 => ⟨S32x1x2x1, .f32⟩
  | 73 => ⟨S32x1x2x1, .f32⟩
  | 74 => ⟨S32x1x2x1, .f32⟩
  | 75 => ⟨S32x1x2x64, .f32⟩
  | 76 => ⟨S32x1x2x64, .f32⟩
  | 77 => ⟨S1x1x1x64, .f32⟩
  | 78 => ⟨S32x1x2x64, .f32⟩
  | 79 => ⟨S32x1x2x64, .f32⟩
  | 80 => ⟨S8, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S1, .f32⟩
  | 89 => ⟨S1x1, .f32⟩
  | 90 => ⟨S1x8, .f32⟩
  | 91 => ⟨S1x8, .f32⟩
  | 92 => ⟨S1x8, .f32⟩
  | 93 => ⟨S1x8, .f32⟩
  | 94 => ⟨S1x1x8, .f32⟩
  | 95 => ⟨S1x8, .f32⟩
  | 96 => ⟨S1x1x8, .f32⟩
  | 97 => ⟨S32x1x2x8, .f32⟩
  | 98 => ⟨S32x1x2x8, .f32⟩
  | 99 => ⟨S32x1x2x48, .f32⟩
  | 100 => ⟨S1x1x1x8, .f32⟩
  | 101 => ⟨S32x1x2x8, .f32⟩
  | 102 => ⟨S32x1x2x8, .f32⟩
  | 103 => ⟨S1x1x1x8, .f32⟩
  | 104 => ⟨S32x1x2x8, .f32⟩
  | 105 => ⟨S32x1x2x8, .f32⟩
  | 106 => ⟨S32x1x2x8, .f32⟩
  | 107 => ⟨S1x1x1x8, .f32⟩
  | 108 => ⟨S32x1x2x8, .f32⟩
  | 109 => ⟨S32x1x2x8, .f32⟩
  | 110 => ⟨S1x1x1x8, .f32⟩
  | 111 => ⟨S32x1x2x8, .f32⟩
  | 112 => ⟨S32x1x2x8, .f32⟩
  | 113 => ⟨S32x1x2x8, .f32⟩
  | 114 => ⟨S32x1x2x64, .f32⟩
  | 115 => ⟨S32x1x1x2x64, .f32⟩
  | 116 => ⟨S32x1x1x2x64, .f32⟩
  | 117 => ⟨S32x1x2x2x64, .f32⟩
  | 118 => ⟨S32x1x1x2x64, .f32⟩
  | 119 => ⟨S32x1x2x64, .f32⟩
  | 120 => ⟨S32x1x1x2x64, .f32⟩
  | 121 => ⟨S32x1x1x2x64, .f32⟩
  | 122 => ⟨S32x1x2x2x64, .f32⟩
  | 123 => ⟨S1x32x512, .f32⟩
  | 124 => ⟨S1x32x512, .f32⟩
  | 125 => ⟨S1x32x256, .f32⟩
  | 126 => ⟨S32x1x2x2x64, .f32⟩
  | 127 => ⟨S1x32x256, .f32⟩
  | _ => ⟨S32x1x1024, .f32⟩

abbrev hbmTy0_2 (i : Nat) : BufTy := match i % 128 with
  | 0 => ⟨S1x32x256, .f32⟩
  | _ => ⟨S32x1x1024, .f32⟩

abbrev hbmTy (i : Nat) : BufTy := match i / 128 with
  | 0 => hbmTy0_0 i
  | 1 => hbmTy0_1 i
  | 2 => hbmTy0_2 i
  | _ => ⟨S32x1x1024, .f32⟩

abbrev bufTy : (tb : Table) → Fin (tcTables nBuf tb) → BufTy
  | .hbm, ⟨i, _⟩ => hbmTy i
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_8 : Ref sig .tc := ⟨.hbm, 100, rfl⟩
abbrev main_v81 : Ref sig .tc := ⟨.hbm, 101, rfl⟩
abbrev main_v82 : Ref sig .tc := ⟨.hbm, 102, rfl⟩
abbrev main_cst_9 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_10 : Ref sig .tc := ⟨.hbm, 138, rfl⟩
abbrev main_v117 : Ref sig .tc := ⟨.hbm, 139, rfl⟩
abbrev main_v118 : Ref sig .tc := ⟨.hbm, 140, rfl⟩
abbrev main_cst_11 : Ref sig .tc := ⟨.hbm, 141, rfl⟩
abbrev main_v119 : Ref sig .tc := ⟨.hbm, 142, rfl⟩
abbrev main_v120 : Ref sig .tc := ⟨.hbm, 143, rfl⟩
abbrev main_cst_12 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_cst_13 : Ref sig .tc := ⟨.hbm, 155, rfl⟩
abbrev main_v131 : Ref sig .tc := ⟨.hbm, 156, rfl⟩
abbrev main_v132 : Ref sig .tc := ⟨.hbm, 157, rfl⟩
abbrev main_cst_14 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_cst_15 : Ref sig .tc := ⟨.hbm, 193, rfl⟩
abbrev main_v167 : Ref sig .tc := ⟨.hbm, 194, rfl⟩
abbrev main_v168 : Ref sig .tc := ⟨.hbm, 195, rfl⟩
abbrev main_cst_16 : Ref sig .tc := ⟨.hbm, 196, rfl⟩
abbrev main_v169 : Ref sig .tc := ⟨.hbm, 197, rfl⟩
abbrev main_v170 : Ref sig .tc := ⟨.hbm, 198, rfl⟩
abbrev main_cst_17 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_cst_18 : Ref sig .tc := ⟨.hbm, 210, rfl⟩
abbrev main_v181 : Ref sig .tc := ⟨.hbm, 211, rfl⟩
abbrev main_v182 : Ref sig .tc := ⟨.hbm, 212, rfl⟩
abbrev main_cst_19 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩

abbrev nD : Nat := 1
abbrev τ : Topo := Topo.v7x

variable {F : FTy → Type} [FloatOps F]
-- ==== Proof.ExpertRun.lean ====
/- One grid point of the expert call, on any tables: where the block's expert differs from the last one's the weights are
   cast into the scratch arrays; a used block is put through the expert; an unused block is zero. -/
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The blocks' experts, the number of used blocks, and the two arrays the weights are cast into. -/
abbrev bes : Memref sig .tc .smem S289 .i32 := Memref.whole main_arg0
abbrev nus : Memref sig .tc .smem S1 .i32 := Memref.whole main_arg1
abbrev up : Memref sig .tc .vmem S1024x2048 .bf16 := Memref.whole cc0_scratch0
abbrev down : Memref sig .tc .vmem S1024x1024 .bf16 := Memref.whole cc0_scratch1

variable (F) in
/-- The number of used blocks as the body loads it. -/
abbrev usedW (T1 : S1.Idx → Elt F .i32) : Elt F .i32 :=
  View.readAt (Elt F) nus.view (Rect.unit (s := S1) ![0] S1.size inb_S1_S1_0).toLoadRect T1 (Shape.Idx.first (numel1_S1.symm ▸ Nat.one_pos))

variable (F) in
/-- Whether the body casts the weights at point `i`, as it computes it. -/
abbrev castW (i : grid0.Coords) (T0 : S289.Idx → Elt F .i32) (T1 : S1.Idx → Elt F .i32) (h : k0_chk1 i (usedW F T1)) : BitVec 1 :=
  Scalar.cmpi .ne (Scalar.extui (Scalar.ori (Scalar.cmpi .eq (BitVec.ofNat 32 (i 0).val) 0#32)
    (Scalar.cmpi .ne
      (View.readAt (Elt F) bes.view (Rect.unit (s := S289) (k0_off2 i (usedW F T1)) S1.size (k0_off2_inb i (usedW F T1) h)).toLoadRect T0
        (Shape.Idx.first (numel1_S1.symm ▸ Nat.one_pos)))
      (View.readAt (Elt F) bes.view (Rect.unit (s := S289) (k0_off3 i (usedW F T1)) S1.size (k0_off3_inb i (usedW F T1) h)).toLoadRect T0
        (Shape.Idx.first (numel1_S1.symm ▸ Nat.one_pos)))))) 0#32

/-- A block is left zero exactly where it is not used. -/
theorem cond3_iff (i : grid0.Coords) (v : BitVec 32) : k0_cond3 i v = 1#1 ↔ ¬ k0_cond2 i v = 1#1 := by
  unfold k0_cond3 k0_cond2
  simp only [Scalar.cmpi, IntOp.cmpi, Scalar.extui, BitVec.sle_eq_not_slt]
  cases BitVec.slt (BitVec.ofNat 32 (i 0).val) v <;> simp

/-- Equal contents, held alike. -/
theorem held {ℓ : Loc nD τ sig} {q : PosShare TreeShare} {a b : Buf (Elt F) ℓ} (h : b = a) : (ℓ ↦{q} b : sProp 𝕄) ⊢ (ℓ ↦{q} a) := by
  rw [h]

/-- The contents of the first scratch array after point `i`: the cast weights where the point casts them. -/
def upAt (i : grid0.Coords) (T0 : S289.Idx → Elt F .i32) (T1 : S1.Idx → Elt F .i32) (h : k0_chk1 i (usedW F T1))
    (x1 : S1x1024x2048.Idx → Elt F .f32) (a0 : S1024x2048.Idx → Elt F .bf16) : S1024x2048.Idx → Elt F .bf16 :=
  if castW F i T0 T1 h = 1#1 then k0_pay1 x1 else a0

/-- The contents of the second scratch array after point `i`. -/
def downAt (i : grid0.Coords) (T0 : S289.Idx → Elt F .i32) (T1 : S1.Idx → Elt F .i32) (h : k0_chk1 i (usedW F T1))
    (x3 : S1x1024x1024.Idx → Elt F .f32) (a1 : S1024x1024.Idx → Elt F .bf16) : S1024x1024.Idx → Elt F .bf16 :=
  if castW F i T0 T1 h = 1#1 then k0_pay2 x3 else a1

/-- The rows that point `i` leaves in the output block. -/
def rowsAt (i : grid0.Coords) (T1 : S1.Idx → Elt F .i32) (x0 : S512x1024.Idx → Elt F .f32) (w : S1024x2048.Idx → Elt F .bf16)
    (x2 : S1x1x2048.Idx → Elt F .f32) (w' : S1024x1024.Idx → Elt F .bf16) (x4 : S1x1x1024.Idx → Elt F .f32) : S512x1024.Idx → Elt F .f32 :=
  if k0_cond2 i (usedW F T1) = 1#1 then k0_pay3 x0 w x2 w' x4 else k0_pay4

/-- Equal operands give equal rows. -/
theorem rows_congr {y0 x0 : FVec F S512x1024 .f32} {y1 x1 : FVec F S1024x2048 .bf16} {y2 x2 : FVec F S1x1x2048 .f32}
    {y3 x3 : FVec F S1024x1024 .bf16} {y4 x4 : FVec F S1x1x1024 .f32} (h0 : y0 = x0) (h1 : y1 = x1) (h2 : y2 = x2) (h3 : y3 = x3) (h4 : y4 = x4) :
    k0_pay3 y0 y1 y2 y3 y4 = k0_pay3 x0 x1 x2 x3 x4 := by
  rw [h0, h1, h2, h3, h4]

/-- A store of a whole scratch array leaves what was stored. -/
theorem up_stored (f : up.view.ty.Contents (Elt F)) (inb : ∀ a, (![0, 0] : Fin 2 → Nat) a + S1024x2048.size a ≤ S1024x2048.size a)
    (w : S1024x2048.Idx → Elt F .bf16) (L : List (View.Piece (Elt F) S1024x2048 .bf16)) {y : S1024x2048.Idx → Elt F .bf16} (h : w = y) :
    up.view.writes (Elt F) f (⟨Rect.unit (s := S1024x2048) ![0, 0] S1024x2048.size inb, w⟩ :: L) = y :=
  ((View.read_whole _ _).symm.trans (View.read_writes_full up.view f inb w L)).trans h

/-- The same of the second scratch array. -/
theorem down_stored (f : down.view.ty.Contents (Elt F)) (inb : ∀ a, (![0, 0] : Fin 2 → Nat) a + S1024x1024.size a ≤ S1024x1024.size a)
    (w : S1024x1024.Idx → Elt F .bf16) (L : List (View.Piece (Elt F) S1024x1024 .bf16)) {y : S1024x1024.Idx → Elt F .bf16} (h : w = y) :
    down.view.writes (Elt F) f (⟨Rect.unit (s := S1024x1024) ![0, 0] S1024x1024.size inb, w⟩ :: L) = y :=
  ((View.read_whole _ _).symm.trans (View.read_writes_full down.view f inb w L)).trans h

set_option maxHeartbeats 8000000 in
/-- One point of the call: from the blocks, the tables and any scratch contents it ends with the scratch arrays and the output
    block as stated. -/
theorem run (c : Dev nD) (i : grid0.Coords) (arg3 : Memref sig .tc .vmem S512x1024 .f32) (harg3 : arg3.IsWhole)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x1024 .f32) (harg8 : arg8.IsWhole) (T0 : S289.Idx → Elt F .i32) (T1 : S1.Idx → Elt F .i32)
    (x0 : S512x1024.Idx → Elt F .f32) (x1 : S1x1024x2048.Idx → Elt F .f32) (x2 : S1x1x2048.Idx → Elt F .f32)
    (x3 : S1x1024x1024.Idx → Elt F .f32) (x4 : S1x1x1024.Idx → Elt F .f32) (k0_hw1 : k0_chk1 i (usedW F T1))
    (a0 : S1024x2048.Idx → Elt F .bf16) (a1 : S1024x1024.Idx → Elt F .bf16) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (arg7.view.loc (c : Thread nD τ) ↦[arg7.view.set]{fullShare} arg7.view.rep x4)
      ∗ (bes.view.loc (c : Thread nD τ) ↦{fullShare.right} T0) ∗ (nus.view.loc (c : Thread nD τ) ↦{fullShare.right} T1)
      ∗ (∃ d, owns (c : Thread nD τ) arg8 fullShare d)
      ∗ (up.view.loc (c : Thread nD τ) ↦{fullShare} a0) ∗ (down.view.loc (c : Thread nD τ) ↦{fullShare} a1)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (bes.view.loc (c : Thread nD τ) ↦{fullShare.right} T0) ∗ (nus.view.loc (c : Thread nD τ) ↦{fullShare.right} T1)
          ∗ owns (c : Thread nD τ) arg8 fullShare
              (rowsAt i T1 x0 (upAt i T0 T1 k0_hw1 x1 a0) x2 (downAt i T0 T1 k0_hw1 x3 a1) x4)
          ∗ (up.view.loc (c : Thread nD τ) ↦{fullShare} upAt i T0 T1 k0_hw1 x1 a0)
          ∗ (down.view.loc (c : Thread nD τ) ↦{fullShare} downAt i T0 T1 k0_hw1 x3 a1)) -∗ K ⟨⟩))
      ⊢ wp frame (wpE (defs₀ (F := F)) Variants.none c none) Set.univ
          (cc0_moe_expert_matmul i bes (Memref.isWhole_whole _) nus (Memref.isWhole_whole _) arg3 harg3 arg4 harg4 arg5 harg5 arg6 harg6 arg7 harg7
            arg8 harg8 up (Memref.isWhole_whole _) down (Memref.isWhole_whole _)) K := by
  have hS0 : up.IsWhole := Memref.isWhole_whole _
  have hS1 : down.IsWhole := Memref.isWhole_whole _
  have hT0 : bes.IsWhole := Memref.isWhole_whole _
  have hT1 : nus.IsWhole := Memref.isWhole_whole _
  by_cases hc1 : castW F i T0 T1 k0_hw1 = 1#1 <;> by_cases k0_h2 : k0_cond2 i (usedW F T1) = 1#1
  · have k0_h3 : ¬ k0_cond3 i (usedW F T1) = 1#1 := fun h => (cond3_iff _ _).mp h k0_h2
    unfold owns rowsAt upAt downAt
    rw [if_pos hc1, if_pos hc1, if_pos k0_h2]
    rw [cc0_moe_expert_matmul_eq_skeleton]; unfold cc0_moe_expert_matmul_skel
    iintro ⟨H0, H1, H2, H3, H4, HT0, HT1, ⟨%d5, %f5, -, HO5⟩, HS0, HS1, Hk⟩
    sl_exec! (disch := first | (guard_target = k0_chk1 _ _; exact k0_hw1) | (guard_target = Scalar.cmpi = _; exact hc1) | (guard_target = k0_cond2 _ _ = _; exact k0_h2) | (guard_target = ¬(k0_cond3 _ _ = _); exact k0_h3))
    sl_step
    iapply Hk
    iframe
    isplitl [HO5]
    · iexists _; isplitr; swap
      · iexact HO5
      · ipureintro
        refine (View.read_writes_full arg8.view _ _ _ _).trans ?_
        refine rows_congr ?_ ?_ ?_ ?_ ?_
        · exact View.readAt_rep_full arg3.view x0 _
        · refine (View.readCov_full up.view _ _ _ _).trans ?_
          exact congrArg k0_pay1 (View.readAt_rep_full arg4.view x1 _)
        · exact View.readAt_rep_full arg5.view x2 _
        · refine (View.readCov_full down.view _ _ _ _).trans ?_
          exact congrArg k0_pay2 (View.readAt_rep_full arg6.view x3 _)
        · exact View.readAt_rep_full arg7.view x4 _
    isplitl [HS0]
    · iapply held; swap
      · iexact HS0
      · refine up_stored _ _ _ _ ?_
        exact congrArg k0_pay1 (View.readAt_rep_full arg4.view x1 _)
    · iapply held; swap
      · iexact HS1
      · refine down_stored _ _ _ _ ?_
        exact congrArg k0_pay2 (View.readAt_rep_full arg6.view x3 _)
  · have k0_h3 : k0_cond3 i (usedW F T1) = 1#1 := (cond3_iff _ _).mpr k0_h2
    unfold owns rowsAt upAt downAt
    rw [if_pos hc1, if_pos hc1, if_neg k0_h2]
    rw [cc0_moe_expert_matmul_eq_skeleton]; unfold cc0_moe_expert_matmul_skel
    iintro ⟨H0, H1, H2, H3, H4, HT0, HT1, ⟨%d5, %f5, -, HO5⟩, HS0, HS1, Hk⟩
    sl_exec! (disch := first | (guard_target = k0_chk1 _ _; exact k0_hw1) | (guard_target = Scalar.cmpi = _; exact hc1) | (guard_target = ¬(Scalar.cmpi = _); exact hc1) | (guard_target = k0_cond2 _ _ = _; exact k0_h2) | (guard_target = ¬(k0_cond2 _ _ = _); exact k0_h2) | (guard_target = k0_cond3 _ _ = _; exact k0_h3) | (guard_target = ¬(k0_cond3 _ _ = _); exact k0_h3))
    sl_step
    iapply Hk
    iframe
    isplitl [HO5]
    · iexists _; isplitr; swap
      · iexact HO5
      · ipureintro
        exact View.read_writes_full arg8.view _ _ _ _
    isplitl [HS0]
    · iapply held; swap
      · iexact HS0
      · refine up_stored _ _ _ _ ?_
        exact congrArg k0_pay1 (View.readAt_rep_full arg4.view x1 _)
    · iapply held; swap
      · iexact HS1
      · refine down_stored _ _ _ _ ?_
        exact congrArg k0_pay2 (View.readAt_rep_full arg6.view x3 _)
  · have k0_h3 : ¬ k0_cond3 i (usedW F T1) = 1#1 := fun h => (cond3_iff _ _).mp h k0_h2
    unfold owns rowsAt upAt downAt
    rw [if_neg hc1, if_neg hc1, if_pos k0_h2]
    rw [cc0_moe_expert_matmul_eq_skeleton]; unfold cc0_moe_expert_matmul_skel
    iintro ⟨H0, H1, H2, H3, H4, HT0, HT1, ⟨%d5, %f5, -, HO5⟩, HS0, HS1, Hk⟩
    sl_exec! (disch := first | (guard_target = k0_chk1 _ _; exact k0_hw1) | (guard_target = Scalar.cmpi = _; exact hc1) | (guard_target = ¬(Scalar.cmpi = _); exact hc1) | (guard_target = k0_cond2 _ _ = _; exact k0_h2) | (guard_target = ¬(k0_cond2 _ _ = _); exact k0_h2) | (guard_target = k0_cond3 _ _ = _; exact k0_h3) | (guard_target = ¬(k0_cond3 _ _ = _); exact k0_h3))
    sl_step
    iapply Hk
    iframe
    iexists _; isplitr; swap
    · iexact HO5
    · ipureintro
      refine (View.read_writes_full arg8.view _ _ _ _).trans ?_
      refine rows_congr ?_ ?_ ?_ ?_ ?_
      · exact View.readAt_rep_full arg3.view x0 _
      · exact (View.readAt_full up.view a0 _).trans (View.read_whole _ _)
      · exact View.readAt_rep_full arg5.view x2 _
      · exact (View.readAt_full down.view a1 _).trans (View.read_whole _ _)
      · exact View.readAt_rep_full arg7.view x4 _
  · have k0_h3 : k0_cond3 i (usedW F T1) = 1#1 := (cond3_iff _ _).mpr k0_h2
    unfold owns rowsAt upAt downAt
    rw [if_neg hc1, if_neg hc1, if_neg k0_h2]
    rw [cc0_moe_expert_matmul_eq_skeleton]; unfold cc0_moe_expert_matmul_skel
    iintro ⟨H0, H1, H2, H3, H4, HT0, HT1, ⟨%d5, %f5, -, HO5⟩, HS0, HS1, Hk⟩
    sl_exec! (disch := first | (guard_target = k0_chk1 _ _; exact k0_hw1) | (guard_target = Scalar.cmpi = _; exact hc1) | (guard_target = ¬(Scalar.cmpi = _); exact hc1) | (guard_target = k0_cond2 _ _ = _; exact k0_h2) | (guard_target = ¬(k0_cond2 _ _ = _); exact k0_h2) | (guard_target = k0_cond3 _ _ = _; exact k0_h3) | (guard_target = ¬(k0_cond3 _ _ = _); exact k0_h3))
    sl_step
    iapply Hk
    iframe
    iexists _; isplitr; swap
    · iexact HO5
    · ipureintro
      exact View.read_writes_full arg8.view _ _ _ _

end Cert.Kernel2Ideal.Experts
-- ==== Proof.ExpertTables.lean ====
/- The two tables of the expert call: what the printed index maps, conditions and loads say of a grid point when every block's
   expert is one of the 32 and between 1 and 289 blocks are used. -/
module

public import proofs.«01_k».proof.Proof.ExpertRun
public import Idealize.ShloMosaic.Lib.Pipeline.ValueKit

@[expose] public section

set_option maxRecDepth 16384

noncomputable section

namespace Cert.Kernel2Ideal.Experts

open Cert.Kernel2Ideal Cert.Kernel2Ideal.Gen
open Idealize.ShloMosaic
open Idealize.ShloMosaic.TcCoe Idealize.ShloMosaic.Tactic
open Idealize.SL.Sem

variable {F : FTy → Type} [FloatOps F]

/-- The tables are in range: every expert is one of the 32, and between one and all of the blocks are used. -/
structure Routed (T0 : S289.Idx → BitVec 32) (T1 : S1.Idx → BitVec 32) : Prop where
  expert : ∀ n : Fin 289, (T0 (ix1 n)).toNat < 32
  pos : 1 ≤ (T1 (ix1 0)).toNat
  le : (T1 (ix1 0)).toNat ≤ 289

/-- Signed comparison of small words. -/
theorem slt_small {a b : BitVec 32} (ha : a.toNat < 1000) (hb : b.toNat < 1000) : a.slt b = decide (a.toNat < b.toNat) := by
  rw [BitVec.slt, BitVec.toInt_eq_toNat_of_lt (by omega), BitVec.toInt_eq_toNat_of_lt (by omega)]
  simp

/-- One less than a positive small word. -/
theorem pred_small {w : BitVec 32} (h1 : 1 ≤ w.toNat) (h2 : w.toNat < 1000) : (w - 1#32).toNat = w.toNat - 1 := by
  rw [BitVec.toNat_sub]; simp; omega

/-- The smaller of two small words. -/
theorem min_small {a b : BitVec 32} (ha : a.toNat < 1000) (hb : b.toNat < 1000) : (Scalar.minsi a b).toNat = min a.toNat b.toNat := by
  show (if a.slt b then a else b).toNat = _
  rw [slt_small ha hb]
  by_cases h : a.toNat < b.toNat <;> simp [h] <;> omega

/-- One less than a small word, kept from going below zero. -/
theorem drop_small {a : BitVec 32} (ha : a.toNat < 1000) : (Scalar.maxsi (a - 1#32) 0#32).toNat = a.toNat - 1 := by
  show (if (0#32).slt (a - 1#32) then a - 1#32 else 0#32).toNat = _
  rcases Nat.eq_zero_or_pos a.toNat with h | h
  · have e : a = 0#32 := BitVec.eq_of_toNat_eq (by simpa using h)
    subst e; decide
  · have e := pred_small h ha
    rw [slt_small (by simp) (by omega), e]
    by_cases h' : 0 < a.toNat - 1 <;> simp [h', e] <;> omega

/-- A grid point's number. -/
theorem point_lt (i : grid0.Coords) : (i 0).val < 289 := (i 0).isLt

theorem point_word (i : grid0.Coords) : (BitVec.ofNat 32 (i 0).val).toNat = (i 0).val := by
  have := point_lt i
  rw [BitVec.toNat_ofNat]; omega

/-- Where the body looks up its block's expert. -/
theorem off2_val (i : grid0.Coords) {w : BitVec 32} (h1 : 1 ≤ w.toNat) (h2 : w.toNat ≤ 289) : k0_off2 i w = ![min (i 0).val (w.toNat - 1)] := by
  have := point_lt i
  show ![(Scalar.minsi (BitVec.ofNat 32 (i 0).val) (w - 1#32)).toNat] = _
  rw [min_small (by rw [point_word]; omega) (by rw [pred_small h1 (by omega)]; omega), point_word, pred_small h1 (by omega)]

/-- Where it looks up the expert of the block before. -/
theorem off3_val (i : grid0.Coords) {w : BitVec 32} (h1 : 1 ≤ w.toNat) (h2 : w.toNat ≤ 289) :
    k0_off3 i w = ![min (i 0).val (w.toNat - 1) - 1] := by
  have := point_lt i
  have e : (Scalar.minsi (BitVec.ofNat 32 (i 0).val) (w - 1#32)).toNat = min (i 0).val (w.toNat - 1) := by
    rw [min_small (by rw [point_word]; omega) (by rw [pred_small h1 (by omega)]; omega), point_word, pred_small h1 (by omega)]
  show ![(Scalar.maxsi (Scalar.minsi (BitVec.ofNat 32 (i 0).val) (w - 1#32) - 1#32) 0#32).toNat] = _
  rw [drop_small (by omega), e]

/-- Both look-ups lie in the table. -/
theorem chk (i : grid0.Coords) {w : BitVec 32} (h1 : 1 ≤ w.toNat) (h2 : w.toNat ≤ 289) : k0_chk1 i w := by
  have := point_lt i
  unfold k0_chk1
  rw [off2_val i h1 h2, off3_val i h1 h2]
  exact ⟨fun a => by fin_cases a; show min (i 0).val (w.toNat - 1) + 1 ≤ 289; omega,
    fun a => by fin_cases a; show min (i 0).val (w.toNat - 1) - 1 + 1 ≤ 289; omega⟩

/-- The used blocks are those before the count. -/
theorem used_iff (i : grid0.Coords) {w : BitVec 32} (h2 : w.toNat ≤ 289) : k0_cond2 i w = 1#1 ↔ (i 0).val < w.toNat := by
  have := point_lt i
  unfold k0_cond2
  simp only [Scalar.cmpi, IntOp.cmpi, Scalar.extui]
  rw [slt_small (by rw [point_word]; omega) (by omega), point_word]
  by_cases h : (i 0).val < w.toNat <;> simp [h]

/-- The count the body loads is the table's only entry. -/
theorem usedW_eq (T1 : S1.Idx → Elt F .i32) : usedW F T1 = T1 (ix1 0) := by
  show T1 _ = T1 _
  congr 1
  funext a; fin_cases a
  exact Subsingleton.elim (α := Fin 1) _ _

/-- A word of the table of experts. -/
theorem word_eq (T0 : S289.Idx → Elt F .i32) {off : Fin 1 → Nat} {n : Fin 289} (h : off = ![n.val]) (inb : ∀ a, off a + S1.size a ≤ S289.size a) :
    View.readAt (Elt F) bes.view (Rect.unit (s := S289) off S1.size inb).toLoadRect T0 (Shape.Idx.first (numel1_S1.symm ▸ Nat.one_pos))
      = T0 (ix1 n) := by
  subst h
  show T0 _ = T0 _
  congr 1
  funext a; fin_cases a
  apply Fin.ext
  show n.val + 1 * _ = n.val
  simp

/-- The block a point works on. -/
def clampAt (i : grid0.Coords) (w : BitVec 32) : Fin 289 := ⟨min (i 0).val (w.toNat - 1), by have := point_lt i; omega⟩

/-- The block before it. -/
def beforeAt (i : grid0.Coords) (w : BitVec 32) : Fin 289 := ⟨min (i 0).val (w.toNat - 1) - 1, by have := point_lt i; omega⟩

/-- The body casts the weights at the first point and where the expert changes. -/
theorem castW_iff (i : grid0.Coords) (T0 : S289.Idx → Elt F .i32) (T1 : S1.Idx → Elt F .i32) (h : k0_chk1 i (usedW F T1))
    (h1 : 1 ≤ (usedW F T1 : BitVec 32).toNat) (h2 : (usedW F T1 : BitVec 32).toNat ≤ 289) :
    castW F i T0 T1 h = 1#1 ↔ (i 0).val = 0 ∨ T0 (ix1 (clampAt i (usedW F T1))) ≠ T0 (ix1 (beforeAt i (usedW F T1))) := by
  have := point_lt i
  unfold castW
  rw [word_eq T0 (n := clampAt i (usedW F T1)) (off2_val i h1 h2), word_eq T0 (n := beforeAt i (usedW F T1)) (off3_val i h1 h2)]
  have e : BitVec.ofNat 32 (i 0).val = 0#32 ↔ (i 0).val = 0 :=
    ⟨fun q => by have := congrArg BitVec.toNat q; rw [point_word] at this; simpa using this, fun q => by rw [q]⟩
  have e' : (BitVec.ofNat 32 (i 0).val == 0#32) = decide ((i 0).val = 0) := by
    by_cases p : (i 0).val = 0 <;> simp only [p, beq_eq_false_iff_ne, beq_iff_eq, decide_true, decide_false, e] <;> exact fun q => p (e.mp q)
  simp only [Scalar.cmpi, IntOp.cmpi, Scalar.extui, Scalar.ori, IntOp.ori, e']
  generalize (T0 (ix1 (clampAt i (usedW F T1))) : BitVec 32) = A
  generalize (T0 (ix1 (beforeAt i (usedW F T1))) : BitVec 32) = B
  show BitVec.ofBool ((BitVec.ofBool (decide ((i 0).val = 0)) ||| BitVec.ofBool (A != B)).setWidth 32 != 0#32) = 1#1 ↔ _ ∨ A ≠ B
  have q : (A != B) = decide (A ≠ B) := by by_cases q : A = B <;> simp [q]
  rw [q]
  by_cases p : (i 0).val = 0 <;> by_cases q : A = B <;> simp [p, q]

end Cert.Kernel2Ideal.Experts
-- ==== Proof.ExpertFrame.lean ====
/- The expert call run over its grid, on any tables in range: what every array holds at the end, and that the arguments are
   left alone. -/
module

public import proofs.«01_k».proof.Proof.ExpertTables
public import Idealize.ShloMosaic.Lib.Pipeline.Quiescent
public import Idealize.ShloMosaic.Lib.Claim

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The staging cells' part of the resources. -/
abbrev EP : Emb (UR sig nD τ) 𝕄 := emb₁

set_option backward.proofsInPublic true in
/-- The tables as the call prefetches them. -/
def pf (T0 : S289.Idx → Elt F .i32) (T1 : S1.Idx → Elt F .i32) : pre0.Contents (Elt F) :=
  fun | ⟨0, _⟩ => T0 | ⟨1, _⟩ => T1 | ⟨_ + 2, h⟩ => absurd h (by simp)

variable (T0 : S289.Idx → Elt F .i32) (T1 : S1.Idx → Elt F .i32)

/-- The expert of a point's block, as the table has it. -/
def expertW (i : grid0.Coords) : BitVec 32 := T0 (ix1 ⟨(i 0).val, point_lt i⟩)

/-- The window on the rows stays on the last used block once the used blocks are done. -/
theorem rows_at (hR : Routed T0 T1) (i : grid0.Coords) :
    cc0_transform_0 inb_S1_S1_0 numel1_S1 (pf T0 T1) i = ![min (i 0).val ((T1 (ix1 0) : BitVec 32).toNat - 1), 0] := by
  have e : (pf T0 T1).at 1 (Rect.unit (s := S1) ![0] S1.size inb_S1_S1_0) numel1_S1 = T1 (ix1 0) := usedW_eq T1
  have p := point_lt i
  have h1 := hR.pos
  have h2 := hR.le
  unfold cc0_transform_0
  rw [e]
  show ![(Scalar.minsi (BitVec.ofNat 32 (i 0).val) ((T1 (ix1 0) : BitVec 32) - 1#32)).toNat, (0#32).toNat] = _
  rw [min_small (by rw [point_word]; omega) (by rw [pred_small h1 (by omega)]; omega), point_word, pred_small h1 (by omega)]
  rfl

/-- The windows on the weights and biases are on the block's expert. -/
theorem weights_at (i : grid0.Coords) : cc0_transform_1 k0_off1_inb numel1_S1 (pf T0 T1) i = ![(expertW T0 i).toNat, 0, 0] := by
  have e : (pf T0 T1).at 0 (Rect.unit (s := S289) (k0_off1 i) S1.size (k0_off1_inb i)) numel1_S1 = expertW T0 i :=
    word_eq T0 (n := ⟨(i 0).val, point_lt i⟩) (by show ![(BitVec.ofNat 32 (i 0).val).toNat] = _; rw [point_word]) (k0_off1_inb i)
  show ![((pf T0 T1).at 0 (Rect.unit (s := S289) (k0_off1 i) S1.size (k0_off1_inb i)) numel1_S1 : BitVec 32).toNat, (0#32).toNat, (0#32).toNat] = _
  rw [e]; rfl

theorem expertW_lt (hR : Routed T0 T1) (i : grid0.Coords) : (expertW T0 i).toNat < 32 := hR.expert _

/-- One of `n` slices lies in the array of them. -/
theorem inside {e n a b : ℕ} (h : e < n) : ∀ k : Fin 3, ((![e, 0, 0] : Fin 3 → ℕ) k + 1) * (![1, a, b] : Fin 3 → ℕ) k ≤ (![n, a, b] : Fin 3 → ℕ) k
  | 0 => by show (e + 1) * 1 ≤ n; omega
  | 1 => by show (0 + 1) * a ≤ a; omega
  | 2 => by show (0 + 1) * b ≤ b; omega

/-- Every block the index maps name lies in its array. -/
theorem ok (hR : Routed T0 T1) : ok0 (pf T0 T1) := by
  have h1 := hR.pos
  have h2 := hR.le
  have r : ∀ i a, (cc0_transform_0 inb_S1_S1_0 numel1_S1 (pf T0 T1) i a + 1) * S512x1024.size a ≤ S147968x1024.size a := fun i a => by
    have p := point_lt i
    rw [rows_at T0 T1 hR]
    fin_cases a
    · show (min (i 0).val ((T1 (ix1 0) : BitVec 32).toNat - 1) + 1) * 512 ≤ 147968; omega
    · exact (by decide : (0 + 1) * 1024 ≤ 1024)
  refine ⟨fun i => ⟨r i, .inl rfl⟩, fun i => ⟨?_, .inl rfl⟩, fun i => ⟨?_, .inl rfl⟩, fun i => ⟨?_, .inl rfl⟩, fun i => ⟨?_, .inl rfl⟩⟩ <;>
    exact fun a => (congrArg (fun v : Fin 3 → ℕ => (v a + 1) * _) (weights_at T0 T1 i)).le.trans (inside (expertW_lt T0 T1 hR i) a)

variable (hR : Routed T0 T1)

/-- The call at the tables. -/
def adm : (pcfg0 (F := F)).Adm := ⟨pf T0 T1, ok T0 T1 hR⟩
abbrev cfgA : Pipeline.Cfg sig Λ₀ := cfg0 (F := F) (adm T0 T1 hR)
abbrev pcs : Fin 1 → Pipeline.Cfg sig Λ₀ := Pipeline.pin (pcfgs (F := F)) fun _ => adm T0 T1 hR

/-- A point's coordinates. -/
abbrev crd (t : Fin (cfgA T0 T1 hR).N) : (cfgA T0 T1 hR).grid.Coords := (cfgA T0 T1 hR).grid.coords t

theorem crd_all : ∀ t : Fin grid0.N, (grid0.coords t 0).val = t.val := by decide +kernel

theorem crd_val (t : Fin (cfgA T0 T1 hR).N) : (crd T0 T1 hR t 0).val = t.val := crd_all t

variable (m : (ℓ : Loc nD τ sig) → Buf (Elt F) ℓ) (ρ : Dev nD → PrngReg)

/-- A window's block at a point, read off its array at launch. -/
def iblk (c : Dev nD) (w : Fin (cfgA T0 T1 hR).W) (t : Fin (cfgA T0 T1 hR).N) :
    (((cfgA T0 T1 hR).win w).xblock (crd T0 T1 hR t)).Idx → Elt F ((cfgA T0 T1 hR).win w).elt :=
  (((cfgA T0 T1 hR).win w).blk t).view.read (Elt F) (m (((cfgA T0 T1 hR).win w).arr.view.loc (c : Thread nD τ)))

/-- An expert's two weight matrices, as one block each. -/
def upOf (c : Dev nD) (e : Fin 32) : S1x1024x2048.Idx → Elt F .f32 :=
  fun y => m ((c : Thread nD τ).loc main_arg3) (ix3 e (y 1) (y 2))
def downOf (c : Dev nD) (e : Fin 32) : S1x1024x1024.Idx → Elt F .f32 :=
  fun y => m ((c : Thread nD τ).loc main_arg5) (ix3 e (y 1) (y 2))

/-- A block's expert. -/
def expertOf (n : ℕ) : Fin 32 := ⟨(T0 (ix1 ⟨n % 289, Nat.mod_lt _ (by decide)⟩) : BitVec 32).toNat, hR.expert _⟩

theorem expertOf_point (t : Fin (cfgA T0 T1 hR).N) : (expertW T0 (crd T0 T1 hR t)).toNat = (expertOf T0 T1 hR t.val).val := by
  have e : (⟨(crd T0 T1 hR t 0).val, point_lt _⟩ : Fin 289) = ⟨t.val % 289, Nat.mod_lt _ (by decide)⟩ := by
    have := point_lt (crd T0 T1 hR t)
    apply Fin.ext
    show (crd T0 T1 hR t 0).val = t.val % 289
    rw [crd_val] at this ⊢
    omega
  unfold expertW expertOf
  rw [e]

/-- Where the windows on the operands lie at a point. -/
theorem index_0 (t : Fin (cfgA T0 T1 hR).N) : ((cfgA T0 T1 hR).win 0).index t = ![min t.val ((T1 (ix1 0) : BitVec 32).toNat - 1), 0] :=
  (rows_at T0 T1 hR (crd T0 T1 hR t)).trans (by rw [crd_val])
theorem index_1 (t : Fin (cfgA T0 T1 hR).N) : ((cfgA T0 T1 hR).win 1).index t = ![(expertOf T0 T1 hR t.val).val, 0, 0] :=
  (weights_at T0 T1 (crd T0 T1 hR t)).trans (by rw [expertOf_point])
theorem index_2 (t : Fin (cfgA T0 T1 hR).N) : ((cfgA T0 T1 hR).win 2).index t = ![(expertOf T0 T1 hR t.val).val, 0, 0] :=
  index_1 T0 T1 hR t
theorem index_3 (t : Fin (cfgA T0 T1 hR).N) : ((cfgA T0 T1 hR).win 3).index t = ![(expertOf T0 T1 hR t.val).val, 0, 0] :=
  index_1 T0 T1 hR t
theorem index_4 (t : Fin (cfgA T0 T1 hR).N) : ((cfgA T0 T1 hR).win 4).index t = ![(expertOf T0 T1 hR t.val).val, 0, 0] :=
  index_1 T0 T1 hR t

/-- The weights' blocks are the block's expert's matrices. -/
theorem read_up (c : Dev nD) (t : Fin (cfgA T0 T1 hR).N) : iblk T0 T1 hR m c 1 t = upOf m c (expertOf T0 T1 hR t.val) := by
  funext y
  blk_simp [iblk, upOf]
  blk_ext [index_1 T0 T1 hR t]
theorem read_down (c : Dev nD) (t : Fin (cfgA T0 T1 hR).N) : iblk T0 T1 hR m c 3 t = downOf m c (expertOf T0 T1 hR t.val) := by
  funext y
  blk_simp [iblk, downOf]
  blk_ext [index_3 T0 T1 hR t]

/-- The number of used blocks. -/
abbrev count : ℕ := (T1 (ix1 0) : BitVec 32).toNat

theorem usedW_val : (usedW F T1 : BitVec 32).toNat = count T1 := by rw [usedW_eq]

theorem chk_at (t : Fin (cfgA T0 T1 hR).N) : k0_chk1 (crd T0 T1 hR t) (usedW F T1) :=
  chk _ (by rw [usedW_val]; exact hR.pos) (by rw [usedW_val]; exact hR.le)

/-- Where a used block's weights are not cast, its expert is the one of the block before. -/
theorem kept (t : Fin (cfgA T0 T1 hR).N) (ht : t.val < count T1) (h : ¬ castW F (crd T0 T1 hR t) T0 T1 (chk_at T0 T1 hR t) = 1#1) :
    0 < t.val ∧ expertOf T0 T1 hR (t.val - 1) = expertOf T0 T1 hR t.val := by
  have h2 := hR.le
  rw [castW_iff _ T0 T1 _ (by rw [usedW_val]; exact hR.pos) (by rw [usedW_val]; exact hR.le), not_or, not_not, crd_val] at h
  refine ⟨Nat.pos_of_ne_zero h.1, ?_⟩
  have e1 : clampAt (crd T0 T1 hR t) (usedW F T1) = ⟨t.val % 289, Nat.mod_lt _ (by decide)⟩ := Fin.ext (by
    show min (crd T0 T1 hR t 0).val ((usedW F T1 : BitVec 32).toNat - 1) = _
    rw [crd_val, usedW_val]; show min _ (count T1 - 1) = t.val % 289; unfold count at *; omega)
  have e2 : beforeAt (crd T0 T1 hR t) (usedW F T1) = ⟨(t.val - 1) % 289, Nat.mod_lt _ (by decide)⟩ := Fin.ext (by
    show min (crd T0 T1 hR t 0).val ((usedW F T1 : BitVec 32).toNat - 1) - 1 = _
    rw [crd_val, usedW_val]; show min _ (count T1 - 1) - 1 = (t.val - 1) % 289; unfold count at *; omega)
  have e := h.2
  rw [e1, e2] at e
  unfold expertOf
  simp only [e]

/-- The scratch arrays hold the weights of the point's expert after it, given that they held the last point's before. -/
theorem up_step (c : Dev nD) (t : Fin (cfgA T0 T1 hR).N) (ht : t.val < count T1) (a : S1024x2048.Idx → Elt F .bf16)
    (ha : 0 < t.val → a = k0_pay1 (upOf m c (expertOf T0 T1 hR (t.val - 1)))) :
    upAt (crd T0 T1 hR t) T0 T1 (chk_at T0 T1 hR t) (iblk T0 T1 hR m c 1 t) a = k0_pay1 (upOf m c (expertOf T0 T1 hR t.val)) := by
  unfold upAt
  split
  · rw [read_up]
  · next h =>
    have k := kept T0 T1 hR t ht h
    rw [ha k.1, k.2]
theorem down_step (c : Dev nD) (t : Fin (cfgA T0 T1 hR).N) (ht : t.val < count T1) (a : S1024x1024.Idx → Elt F .bf16)
    (ha : 0 < t.val → a = k0_pay2 (downOf m c (expertOf T0 T1 hR (t.val - 1)))) :
    downAt (crd T0 T1 hR t) T0 T1 (chk_at T0 T1 hR t) (iblk T0 T1 hR m c 3 t) a = k0_pay2 (downOf m c (expertOf T0 T1 hR t.val)) := by
  unfold downAt
  split
  · rw [read_down]
  · next h =>
    have k := kept T0 T1 hR t ht h
    rw [ha k.1, k.2]

/-- The rows a point leaves. -/
def rowsOf (c : Dev nD) (t : Fin (cfgA T0 T1 hR).N) : S512x1024.Idx → Elt F .f32 :=
  if t.val < count T1 then
    k0_pay3 (iblk T0 T1 hR m c 0 t) (k0_pay1 (upOf m c (expertOf T0 T1 hR t.val))) (iblk T0 T1 hR m c 2 t)
      (k0_pay2 (downOf m c (expertOf T0 T1 hR t.val))) (iblk T0 T1 hR m c 4 t)
  else k0_pay4

theorem rows_step (c : Dev nD) (t : Fin (cfgA T0 T1 hR).N) (a0 : S1024x2048.Idx → Elt F .bf16) (a1 : S1024x1024.Idx → Elt F .bf16)
    (h0 : 0 < t.val ∧ t.val ≤ count T1 → a0 = k0_pay1 (upOf m c (expertOf T0 T1 hR (t.val - 1))))
    (h1 : 0 < t.val ∧ t.val ≤ count T1 → a1 = k0_pay2 (downOf m c (expertOf T0 T1 hR (t.val - 1)))) :
    rowsAt (crd T0 T1 hR t) T1 (iblk T0 T1 hR m c 0 t) (upAt (crd T0 T1 hR t) T0 T1 (chk_at T0 T1 hR t) (iblk T0 T1 hR m c 1 t) a0)
      (iblk T0 T1 hR m c 2 t) (downAt (crd T0 T1 hR t) T0 T1 (chk_at T0 T1 hR t) (iblk T0 T1 hR m c 3 t) a1) (iblk T0 T1 hR m c 4 t)
      = rowsOf T0 T1 hR m c t := by
  have u := used_iff (crd T0 T1 hR t) (w := usedW F T1) (by rw [usedW_val]; exact hR.le)
  rw [crd_val, usedW_val] at u
  unfold rowsAt rowsOf
  by_cases ht : t.val < count T1
  · rw [if_pos (u.mpr ht), if_pos ht]
    exact rows_congr rfl (up_step T0 T1 hR m c t ht a0 fun p => h0 ⟨p, ht.le⟩) rfl (down_step T0 T1 hR m c t ht a1 fun p => h1 ⟨p, ht.le⟩) rfl
  · rw [if_neg fun p => ht (u.mp p), if_neg ht]

/-- What holds between points: after the first, and while blocks are used, the scratch arrays hold the last block's expert's
    weights, cast; and the tables are there to read. -/
def Phi (c : Dev nD) (n : ℕ) : sProp 𝕄 :=
  iprop((∃ a, ⌜0 < n ∧ n ≤ count T1 → a = k0_pay1 (upOf m c (expertOf T0 T1 hR (n - 1)))⌝ ∗ (up.view.loc (c : Thread nD τ) ↦{fullShare} a))
    ∗ (∃ a, ⌜0 < n ∧ n ≤ count T1 → a = k0_pay2 (downOf m c (expertOf T0 T1 hR (n - 1)))⌝ ∗ (down.view.loc (c : Thread nD τ) ↦{fullShare} a))
    ∗ (bes.view.loc (c : Thread nD τ) ↦{fullShare.right} T0) ∗ (nus.view.loc (c : Thread nD τ) ↦{fullShare.right} T1))

/-- What the pipeline's arrays and buffers hold on core `c`. -/
def dats (_ : Fin 1) (c : Dev nD) : Dat τ (Elt F) Unit ℕ (UR sig nD τ) ℕ (cfgA T0 T1 hR) c where
  A w := m (((cfgA T0 T1 hR).win w).arr.view.loc (c : Thread nD τ))
  after w t := match w with
    | ⟨0, _⟩ => iblk T0 T1 hR m c (0 : Fin 6) t
    | ⟨1, _⟩ => iblk T0 T1 hR m c (1 : Fin 6) t
    | ⟨2, _⟩ => iblk T0 T1 hR m c (2 : Fin 6) t
    | ⟨3, _⟩ => iblk T0 T1 hR m c (3 : Fin 6) t
    | ⟨4, _⟩ => iblk T0 T1 hR m c (4 : Fin 6) t
    | ⟨5, _⟩ => rowsOf T0 T1 hR m c t
  Φ t := Phi T0 T1 hR m c t.val
  q _ := fullShare
  owed _ := 0

theorem after_0 (c : Dev nD) (t : Fin (cfgA T0 T1 hR).N) : (dats T0 T1 hR m 0 c).after (0 : Fin 6) t = iblk T0 T1 hR m c (0 : Fin 6) t := rfl
theorem after_1 (c : Dev nD) (t : Fin (cfgA T0 T1 hR).N) : (dats T0 T1 hR m 0 c).after (1 : Fin 6) t = iblk T0 T1 hR m c (1 : Fin 6) t := rfl
theorem after_2 (c : Dev nD) (t : Fin (cfgA T0 T1 hR).N) : (dats T0 T1 hR m 0 c).after (2 : Fin 6) t = iblk T0 T1 hR m c (2 : Fin 6) t := rfl
theorem after_3 (c : Dev nD) (t : Fin (cfgA T0 T1 hR).N) : (dats T0 T1 hR m 0 c).after (3 : Fin 6) t = iblk T0 T1 hR m c (3 : Fin 6) t := rfl
theorem after_4 (c : Dev nD) (t : Fin (cfgA T0 T1 hR).N) : (dats T0 T1 hR m 0 c).after (4 : Fin 6) t = iblk T0 T1 hR m c (4 : Fin 6) t := rfl
theorem after_5 (c : Dev nD) (t : Fin (cfgA T0 T1 hR).N) : (dats T0 T1 hR m 0 c).after (5 : Fin 6) t = rowsOf T0 T1 hR m c t := rfl

/-- An operand's buffer holds its block when the body runs. -/
theorem before_0 (c : Dev nD) (t : Fin (cfgA T0 T1 hR).N) (d) : (dats T0 T1 hR m 0 c).before (0 : Fin 6) t d = iblk T0 T1 hR m c (0 : Fin 6) t :=
  ((dats T0 T1 hR m 0 c).before_in_eq_fetched (0 : Fin 6) rfl (fun _ => rfl) (fun _ _ _ => rfl)
    (fun t => by rw [after_0]; unfold Dat.blockOf iblk; rfl) t d).trans (by unfold Dat.fetched Dat.blockOf iblk; rfl)
theorem before_1 (c : Dev nD) (t : Fin (cfgA T0 T1 hR).N) (d) : (dats T0 T1 hR m 0 c).before (1 : Fin 6) t d = iblk T0 T1 hR m c (1 : Fin 6) t :=
  ((dats T0 T1 hR m 0 c).before_in_eq_fetched (1 : Fin 6) rfl (fun _ => rfl) (fun _ _ _ => rfl)
    (fun t => by rw [after_1]; unfold Dat.blockOf iblk; rfl) t d).trans (by unfold Dat.fetched Dat.blockOf iblk; rfl)
theorem before_2 (c : Dev nD) (t : Fin (cfgA T0 T1 hR).N) (d) : (dats T0 T1 hR m 0 c).before (2 : Fin 6) t d = iblk T0 T1 hR m c (2 : Fin 6) t :=
  ((dats T0 T1 hR m 0 c).before_in_eq_fetched (2 : Fin 6) rfl (fun _ => rfl) (fun _ _ _ => rfl)
    (fun t => by rw [after_2]; unfold Dat.blockOf iblk; rfl) t d).trans (by unfold Dat.fetched Dat.blockOf iblk; rfl)
theorem before_3 (c : Dev nD) (t : Fin (cfgA T0 T1 hR).N) (d) : (dats T0 T1 hR m 0 c).before (3 : Fin 6) t d = iblk T0 T1 hR m c (3 : Fin 6) t :=
  ((dats T0 T1 hR m 0 c).before_in_eq_fetched (3 : Fin 6) rfl (fun _ => rfl) (fun _ _ _ => rfl)
    (fun t => by rw [after_3]; unfold Dat.blockOf iblk; rfl) t d).trans (by unfold Dat.fetched Dat.blockOf iblk; rfl)
theorem before_4 (c : Dev nD) (t : Fin (cfgA T0 T1 hR).N) (d) : (dats T0 T1 hR m 0 c).before (4 : Fin 6) t d = iblk T0 T1 hR m c (4 : Fin 6) t :=
  ((dats T0 T1 hR m 0 c).before_in_eq_fetched (4 : Fin 6) rfl (fun _ => rfl) (fun _ _ _ => rfl)
    (fun t => by rw [after_4]; unfold Dat.blockOf iblk; rfl) t d).trans (by unfold Dat.fetched Dat.blockOf iblk; rfl)

/-- Every point writes the output block: either the expert's rows or zeros. -/
theorem busy (t : Fin (cfgA T0 T1 hR).N) : (cfgA T0 T1 hR).idle (5 : Fin 6) ((cfgA T0 T1 hR).grid.coords t) = false := by
  show (!(k0_cond2 (crd T0 T1 hR t) ((pf T0 T1).atD 1 ![0]) == 1#1) && !(k0_cond3 (crd T0 T1 hR t) ((pf T0 T1).atD 1 ![0]) == 1#1)) = false
  generalize ((pf T0 T1).atD 1 ![0] : BitVec 32) = v
  have := cond3_iff (crd T0 T1 hR t) v
  by_cases h : k0_cond2 (crd T0 T1 hR t) v = 1#1
  · simp [h]
  · simp [h, this.mpr h]

/-- A point's buffers, and the body at it. -/
abbrev stg (w : Fin 6) (t : Fin (cfgA T0 T1 hR).N) := ((cfgA T0 T1 hR).win w).stage ((cfgA T0 T1 hR).slots t w)

abbrev bodyAt (t : Fin (cfgA T0 T1 hR).N) : Prog (TpuEff nD τ sig (Elt F) Λ₀ .tc) PUnit :=
  cc0_moe_expert_matmul (crd T0 T1 hR t) bes (Memref.isWhole_whole _) nus (Memref.isWhole_whole _)
    (spec0_0.stage ((cfgA T0 T1 hR).slots t (0 : Fin 6))) (hstage0_0 (((cfgA T0 T1 hR).slots t (0 : Fin 6)).cast nbuf0_0))
    (spec0_1.stage ((cfgA T0 T1 hR).slots t (1 : Fin 6))) (hstage0_1 (((cfgA T0 T1 hR).slots t (1 : Fin 6)).cast nbuf0_1))
    (spec0_2.stage ((cfgA T0 T1 hR).slots t (2 : Fin 6))) (hstage0_2 (((cfgA T0 T1 hR).slots t (2 : Fin 6)).cast nbuf0_2))
    (spec0_3.stage ((cfgA T0 T1 hR).slots t (3 : Fin 6))) (hstage0_3 (((cfgA T0 T1 hR).slots t (3 : Fin 6)).cast nbuf0_3))
    (spec0_4.stage ((cfgA T0 T1 hR).slots t (4 : Fin 6))) (hstage0_4 (((cfgA T0 T1 hR).slots t (4 : Fin 6)).cast nbuf0_4))
    (spec0_5.stage ((cfgA T0 T1 hR).slots t (5 : Fin 6))) (hstage0_5 (((cfgA T0 T1 hR).slots t (5 : Fin 6)).cast nbuf0_5))
    up (Memref.isWhole_whole _) down (Memref.isWhole_whole _)

set_option maxHeartbeats 4000000 in
/-- The body at a point keeps what holds between points and leaves every buffer as stated. -/
theorem sound_body (c : Dev nD) (t : Fin (cfgA T0 T1 hR).N) :
    iprop((dats T0 T1 hR m 0 c).Φ t.castSucc ∗ (dats T0 T1 hR m 0 c).owesAt () t.castSucc
        ∗ (∃ d, owns (c : Thread nD τ) (spec0_0.stage ((cfgA T0 T1 hR).slots t (0 : Fin 6))) fullShare ((dats T0 T1 hR m 0 c).before (0 : Fin 6) t d))
        ∗ (∃ d, owns (c : Thread nD τ) (spec0_1.stage ((cfgA T0 T1 hR).slots t (1 : Fin 6))) fullShare ((dats T0 T1 hR m 0 c).before (1 : Fin 6) t d))
        ∗ (∃ d, owns (c : Thread nD τ) (spec0_2.stage ((cfgA T0 T1 hR).slots t (2 : Fin 6))) fullShare ((dats T0 T1 hR m 0 c).before (2 : Fin 6) t d))
        ∗ (∃ d, owns (c : Thread nD τ) (spec0_3.stage ((cfgA T0 T1 hR).slots t (3 : Fin 6))) fullShare ((dats T0 T1 hR m 0 c).before (3 : Fin 6) t d))
        ∗ (∃ d, owns (c : Thread nD τ) (spec0_4.stage ((cfgA T0 T1 hR).slots t (4 : Fin 6))) fullShare ((dats T0 T1 hR m 0 c).before (4 : Fin 6) t d))
        ∗ (∃ d, owns (c : Thread nD τ) (spec0_5.stage ((cfgA T0 T1 hR).slots t (5 : Fin 6))) fullShare ((dats T0 T1 hR m 0 c).before (5 : Fin 6) t d)))
      ⊢ wp frame (wpE (defs₀ (F := F)) Variants.none c none) Set.univ (bodyAt T0 T1 hR t) fun _ =>
          iprop((dats T0 T1 hR m 0 c).Φ t.succ ∗ (dats T0 T1 hR m 0 c).owesAt () t.succ
            ∗ bigSep Finset.univ fun w : Fin (cfgA T0 T1 hR).W =>
                match (cfgA T0 T1 hR).idle w ((cfgA T0 T1 hR).grid.coords t) with
                | true =>
                  match ((cfgA T0 T1 hR).win w).flush t with
                  | false => iprop(∃ d, owns (c : Thread nD τ) (stg T0 T1 hR w t) fullShare ((dats T0 T1 hR m 0 c).before w t d))
                  | true => owns (c : Thread nD τ) (stg T0 T1 hR w t) fullShare ((dats T0 T1 hR m 0 c).after w t)
                | false => owns (c : Thread nD τ) (stg T0 T1 hR w t) fullShare ((dats T0 T1 hR m 0 c).after w t)) := by
  rw [bigSep_W0]
  rewrite [busy T0 T1 hR t]
  simp only [before_0, before_1, before_2, before_3, before_4, after_0, after_1, after_2, after_3, after_4, after_5]
  rewrite [show (dats T0 T1 hR m 0 c).Φ t.succ = Phi T0 T1 hR m c (t.val + 1) from rfl,
    show (dats T0 T1 hR m 0 c).Φ t.castSucc = Phi T0 T1 hR m c t.val from rfl,
    show (dats T0 T1 hR m 0 c).owesAt () t.succ = (dats T0 T1 hR m 0 c).owesAt () t.castSucc from rfl]
  unfold Phi
  iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
  iapply (run c (crd T0 T1 hR t) _ _ _ _ _ _ _ _ _ _ _ _ T0 T1 (iblk T0 T1 hR m c (0 : Fin 6) t) (iblk T0 T1 hR m c (1 : Fin 6) t)
    (iblk T0 T1 hR m c (2 : Fin 6) t) (iblk T0 T1 hR m c (3 : Fin 6) t) (iblk T0 T1 hR m c (4 : Fin 6) t) (chk_at T0 T1 hR t) a0 a1 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexists _; iexact H5
  isplitl [HS0]; · iexact HS0
  isplitl [HS1]; · iexact HS1
  rw [rows_step T0 T1 hR m c t a0 a1 ha0 ha1]
  iintro ⟨H0, H1, H2, H3, H4, HT0, HT1, H5, HS0, HS1⟩
  isplitl [HS0 HS1 HT0 HT1]
  · isplitl [HS0]
    · iexists _; isplitr; swap
      · iexact HS0
      · ipureintro
        intro p
        exact up_step T0 T1 hR m c t (by omega) a0 fun q => ha0 ⟨q, by omega⟩
    isplitl [HS1]
    · iexists _; isplitr; swap
      · iexact HS1
      · ipureintro
        intro p
        exact down_step T0 T1 hR m c t (by omega) a1 fun q => ha1 ⟨q, by omega⟩
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  iexact H5

/-- So at every point. -/
theorem body_obligation (c : Dev nD) : BodyObligation (dats T0 T1 hR m 0 c) (defs₀ (F := F)) Variants.none () Set.univ := fun t => by
  rw [bigSep_W0]
  exact sound_body T0 T1 hR m c t

/-- The resources the call starts from. -/
def u₀ : UR sig nD τ :=
  initOf (Pipeline.cells (pcs T0 T1 hR) ((launch0 (F := F)).cellOf_inj fun _ => adm T0 T1 hR))
    (Pipeline.launchToks (pcs T0 T1 hR) ((launch0 (F := F)).cellOf_inj fun _ => adm T0 T1 hR))

theorem share_eq (c : Dev nD) (w : Fin (cfgA T0 T1 hR).W) : (dats T0 T1 hR m 0 c).share w = fullShare := by unfold Dat.share; split <;> rfl

/-- The prefetched tables, one by one. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- What holds before the first point; -/
theorem enter (c : Dev nD) :
    iprop(BI.emp ∗ Pipeline.prefHeld pre0 c (fun _ => fullShare.right) (adm T0 T1 hR).1 ∗ Pipeline.scopedRest spec0 c)
      ⊢ (dats T0 T1 hR m 0 c).Φ 0 := by
  rw [tables_eq, scopedRest0_eq, show (dats T0 T1 hR m 0 c).Φ 0 = Phi T0 T1 hR m c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd h.1 (Nat.lt_irrefl 0)
  isplitl [HS1]
  · iexists a1; isplitr; swap
    · iexact HS1
    · ipureintro; intro h; exact absurd h.1 (Nat.lt_irrefl 0)
  isplitl [HT0]
  · iexact HT0
  iexact HT1

/-- and what is given back after the last. -/
theorem leave (c : Dev nD) : (dats T0 T1 hR m 0 c).Φ (Fin.last (cfgA T0 T1 hR).N) ⊢ iprop(BI.emp ∗ Pipeline.scopedRest spec0 c) := by
  rw [scopedRest0_eq, show (dats T0 T1 hR m 0 c).Φ (Fin.last (cfgA T0 T1 hR).N) = Phi T0 T1 hR m c (cfgA T0 T1 hR).N from rfl]
  unfold Phi
  iintro ⟨⟨%a0, -, HS0⟩, ⟨%a1, -, HS1⟩, -, -⟩
  isplitr; · iempintro
  isplitl [HS0]
  · iexists a0; iexact HS0
  iexists a1; iexact HS1

/-- The end: every array at what the grid computes, the tables as they were. -/
def Ends (r : PUnit × MemSt nD τ sig (Elt F)) : Prop :=
  ∀ c : Dev nD, (∀ w : Fin (cfgA T0 T1 hR).W, r.2.mem (((cfgA T0 T1 hR).win w).arr.view.loc (c : Thread nD τ)) = (dats T0 T1 hR m 0 c).arrAt w (cfgA T0 T1 hR).N)
    ∧ ∀ j, r.2.mem ((c : Thread nD τ).loc (pre0.ref j)) = (adm T0 T1 hR).1 j

variable (h0 : ∀ c : Dev nD, m ((c : Thread nD τ).loc main_arg0) = T0) (h1 : ∀ c : Dev nD, m ((c : Thread nD τ).loc main_arg1) = T1)

include h0 h1 in
theorem tables_held (c : Dev nD) (j : Fin 2) : m ((c : Thread nD τ).loc (pre0.ref j)) = (adm T0 T1 hR).1 j := by
  fin_cases j
  · exact h0 c
  · exact h1 c

include h0 h1 in
set_option backward.isDefEq.respectTransparency.types false in
set_option maxHeartbeats 4000000 in
/-- Every run of the call terminates with the arrays as computed and every semaphore at zero. -/
theorem run_all : θ_run (defs (F := F)) (onTc (τ := τ) (main (F := F))) ⟨m, fun _ => 0, ρ⟩ (fun r => Ends T0 T1 hR m r ∧ r.2.sem = fun _ => 0) :=
  Pipeline.θ_run_region_noSem_pf_quiescent pcfgs (fun _ => adm T0 T1 hR) (dats T0 T1 hR m) () ((launch0 (F := F)).cellOf_inj fun _ => adm T0 T1 hR) (0 : Fin 1)
    (launch0 (F := F)).win.to₀ (launch0 (F := F)).pre EP defs₀ Variants.none m ρ main
    (hbody := fun c => (body_obligation T0 T1 hR m c).loose) (hne := (launch0 (F := F)).block_pos)
    (harr := (launch0 (F := F)).arr_whole) (hstage := (launch0 (F := F)).stage_whole) (howed := fun _ _ => rfl)
    (u₀ := u₀ T0 T1 hR) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hR) (dats T0 T1 hR m) 0 (launch0 (F := F)).win.arr_inj c (launch0 (F := F)).arr_whole
      (share_eq T0 T1 hR m c) _ _ fun _ => rfl)
    (hpf := tables_held T0 T1 hR m h0 h1)
    (X := fun _ => iprop(emp)) (Y := fun _ => iprop(emp)) (Z := fun _ => iprop(emp))
    (hX := fun c => by rw [unscopedRestP0_eq]; iintro -; isplitr <;> iempintro)
    (hin := enter T0 T1 hR m)
    (hout := leave T0 T1 hR m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include h0 h1 in
/-- Such an end has the arguments as they began. -/
theorem Ends.args {r : PUnit × MemSt nD τ sig (Elt F)} (h : Ends T0 T1 hR m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have a := (h c).1
  exact ⟨((h c).2 0).trans (h0 c).symm, ((h c).2 1).trans (h1 c).symm, (a (0 : Fin 6)).trans ((dats T0 T1 hR m 0 c).arrAt_in (0 : Fin 6) rfl _), (a (1 : Fin 6)).trans ((dats T0 T1 hR m 0 c).arrAt_in (1 : Fin 6) rfl _),
    (a (2 : Fin 6)).trans ((dats T0 T1 hR m 0 c).arrAt_in (2 : Fin 6) rfl _), (a (3 : Fin 6)).trans ((dats T0 T1 hR m 0 c).arrAt_in (3 : Fin 6) rfl _), (a (4 : Fin 6)).trans ((dats T0 T1 hR m 0 c).arrAt_in (4 : Fin 6) rfl _)⟩

include hR h0 h1 in
/-- The arguments end as they began, and every semaphore reads zero. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  exact (θ_run defs _ _).mono (fun r h => ⟨h.1.args T0 T1 hR m h0 h1, h.2⟩) (run_all T0 T1 hR m ρ h0 h1)

end Cert.Kernel2Ideal.Experts
-- ==== Proof.ExpertClaims.lean ====
/- The expert call's frames: its precondition, entry by entry, puts the tables in range; and the program as compiled and as
   idealised have the same text. -/
module

public import proofs.«01_k».proof.Defs
public import proofs.«01_k».proof.Proof.ExpertFrame
public import proofs.«01_k».proof.Proof.Gen.Kernel2
public import proofs.«01_k».proof.Proof.Gen.Pre_routed

@[expose] public section

set_option maxRecDepth 16384

noncomputable section

namespace Cert.Kernel2Ideal.Experts

open Idealize.ShloMosaic Idealize.ShloMosaic.TcCoe Idealize.SL.Sem

/-- A word from 0 up and below 32. -/
theorem word_range {a : BitVec 32} (h : IntOp.andi (IntOp.cmpi .sge a 0#32) (IntOp.cmpi .slt a 32#32) = 1#1) : a.toNat < 32 := by
  have h' : BitVec.ofBool ((0#32).sle a) &&& BitVec.ofBool (a.slt 32#32) = 1#1 := h
  have p : (0#32).sle a = true := by
    by_contra q; simp only [Bool.not_eq_true] at q; rw [q] at h'; simp at h'
  have r : a.slt 32#32 = true := by
    by_contra q; simp only [Bool.not_eq_true] at q; rw [q] at h'; simp at h'
  rw [BitVec.sle_iff_toInt_le] at p
  rw [BitVec.slt_iff_toInt_lt] at r
  simp only [BitVec.toInt_eq_toNat_cond, BitVec.toNat_ofNat] at p r
  omega

/-- A word from 1 up to 289. -/
theorem count_range {a : BitVec 32} (h : IntOp.andi (IntOp.cmpi .sge a 1#32) (IntOp.cmpi .sle a 289#32) = 1#1) : 1 ≤ a.toNat ∧ a.toNat ≤ 289 := by
  have h' : BitVec.ofBool ((1#32).sle a) &&& BitVec.ofBool (a.sle 289#32) = 1#1 := h
  have p : (1#32).sle a = true := by
    by_contra q; simp only [Bool.not_eq_true] at q; rw [q] at h'; simp at h'
  have r : a.sle 289#32 = true := by
    by_contra q; simp only [Bool.not_eq_true] at q; rw [q] at h'; simp at h'
  rw [BitVec.sle_iff_toInt_le] at p r
  simp only [BitVec.toInt_eq_toNat_cond, BitVec.toNat_ofNat] at p r
  omega

/-- The precondition's two arrays all ones put the tables in range. -/
theorem routed_of [Cert.Pre_routed.Facts] {F : FTy → Type} [FloatOps F] (T0 : IVec S289 32) (T1 : IVec S1 32) (x2 : FVec F S147968x1024 .f32)
    (x3 : FVec F S32x1024x2048 .f32) (x4 : FVec F S32x1x2048 .f32) (x5 : FVec F S32x1024x1024 .f32) (x6 : FVec F S32x1x1024 .f32)
    (h : (Cert.Pre_routed.fn T0 T1 x2 x3 x4 x5 x6).1 = (fun _ => 1#1) ∧ (Cert.Pre_routed.fn T0 T1 x2 x3 x4 x5 x6).2 = (fun _ => 1#1)) :
    Routed T0 T1 :=
  ⟨fun n => word_range (congrFun h.1 (ix1 n)), (count_range (congrFun h.2 (ix1 0))).1, (count_range (congrFun h.2 (ix1 0))).2⟩

/-- There is one core. -/
theorem one_core (c c' : Dev nD) : c = c' := Subsingleton.elim (α := Fin 1) c c'

/-- The precondition of the idealised program, at its only core. -/
theorem routed_ideal (m : (ℓ : Loc nD τ sig) → Buf (Elt Ideal) ℓ) (h : Cert.Pre_Kernel2Ideal m) (c : Dev nD) :
    Routed (m ((c : Thread nD τ).loc main_arg0)) (m ((c : Thread nD τ).loc main_arg1)) :=
  routed_of (F := Ideal) _ _ _ _ _ _ _ (h c)

/-- The idealised program runs, and leaves its arguments and counters alone. -/
theorem frame_ideal : Cert.quiescent_Kernel2Ideal := fun m g h =>
  frame _ _ (routed_ideal m h 0) m g (fun c => by rw [one_core c 0]) (fun c => by rw [one_core c 0])

/-- The bodies of the two programs are one text. -/
theorem bodies_eq : Cert.Kernel2.defs₀ (F := Bits) = defs₀ (F := Bits) := by
  refine congrArg Defs.onTc ?_
  funext l p
  match l, p with
  | ⟨0, _⟩, _ => rfl
  | ⟨_ + 1, h⟩, _ => exact absurd h (by omega)

theorem defs_eq : Cert.Kernel2.defs (F := Bits) = defs (F := Bits) :=
  congrArg (Pipeline.defs (pcfgs (F := Bits))) bodies_eq

/-- The program as compiled runs, and leaves its arguments and counters alone. -/
theorem frame_bits : Cert.quiescent_Kernel2 := fun m g h => by
  have r : Routed (m ((0 : Dev nD).tc.loc main_arg0)) (m ((0 : Dev nD).tc.loc main_arg1)) := routed_of (F := Bits) _ _ _ _ _ _ _ (h 0)
  have f := frame (F := Bits) _ _ r m g (fun c => by rw [one_core c 0]) (fun c => by rw [one_core c 0])
  rw [← defs_eq] at f
  exact f

end Cert.Kernel2Ideal.Experts
-- ==== Proof.Softmax.lean ====
/- The running softmax, as sums over a growing set of positions: a sum of weights relative to one maximum, carried over to
   a later one. Scores are real or minus infinity, the summands' values real. -/
module

public import Idealize.ShloMosaic.Lib.Pointwise

@[expose] public section

noncomputable section

namespace Cert.Attn

open Idealize.ShloMosaic

/-- The real weight of a score against a maximum. -/
def weight (x m : EReal) : ℝ := (Ideal.exp2 (x - m)).toReal

/-- Minus infinity less anything weighs nothing. -/
theorem exp2_bot_sub (m : EReal) : Ideal.exp2 (⊥ - m) = 0 := by
  rw [sub_eq_add_neg, EReal.bot_add]; rfl

/-- Below a maximum that is not plus infinity, the weight is real. -/
theorem exp2_eq_weight {x m : EReal} (h : x ≤ m) (hm : m ≠ ⊤) : Ideal.exp2 (x - m) = (weight x m : EReal) := by
  unfold weight
  induction x with
  | bot => rw [exp2_bot_sub]; simp
  | top => exact absurd (top_le_iff.mp h) hm
  | coe x =>
    induction m with
    | bot => simp at h
    | top => exact absurd rfl hm
    | coe m => rw [← EReal.coe_sub, Ideal.exp2_coe, EReal.toReal_coe]

/-- Weights multiply. -/
theorem weight_mul {x m m' : EReal} (h : x ≤ m) (h' : m ≤ m') (hm : m' ≠ ⊤) : weight m m' * weight x m = weight x m' := by
  unfold weight
  induction x with
  | bot => rw [exp2_bot_sub, exp2_bot_sub]; simp
  | top => exact absurd (top_le_iff.mp (h.trans h')) hm
  | coe x =>
    induction m with
    | bot => simp at h
    | top => exact absurd (top_le_iff.mp h') hm
    | coe m =>
      induction m' with
      | bot => simp at h'
      | top => exact absurd rfl hm
      | coe m' =>
        simp only [← EReal.coe_sub, Ideal.exp2_coe, EReal.toReal_coe]
        show Real.rpow 2 _ * Real.rpow 2 _ = Real.rpow 2 _
        exact (Real.rpow_add (by norm_num) _ _).symm.trans (by congr 1; ring)

/-- The embedding of the reals, as a map of sums. -/
def coeHom : ℝ →+ EReal := ⟨⟨(fun r => (r : EReal)), EReal.coe_zero⟩, EReal.coe_add⟩

/-- A sum of real weights times real values is real. -/
theorem sum_weights (T : Finset ℕ) (f : ℕ → EReal) (u : ℕ → ℝ) (M : EReal) (hM : ∀ t ∈ T, f t ≤ M) (h' : M ≠ ⊤) :
    ∑ t ∈ T, Ideal.exp2 (f t - M) * (u t : EReal) = ((∑ t ∈ T, weight (f t) M * u t : ℝ) : EReal) := by
  refine Eq.trans ?_ (map_sum coeHom (fun t => weight (f t) M * u t) T).symm
  exact Finset.sum_congr rfl fun t ht => by rw [exp2_eq_weight (hM t ht) h']; exact (EReal.coe_mul _ _).symm

/-- A sum relative to one maximum, carried over to a later one. -/
theorem rescale (T : Finset ℕ) (f : ℕ → EReal) (u : ℕ → ℝ) (M M' : EReal) (hM : ∀ t ∈ T, f t ≤ M) (h : M ≤ M') (h' : M' ≠ ⊤) :
    Ideal.exp2 (M - M') * ∑ t ∈ T, Ideal.exp2 (f t - M) * (u t : EReal) = ∑ t ∈ T, Ideal.exp2 (f t - M') * (u t : EReal) := by
  have hMt : M ≠ ⊤ := fun e => h' (top_le_iff.mp (e ▸ h))
  rw [sum_weights T f u M hM hMt, sum_weights T f u M' (fun t ht => (hM t ht).trans h) h', exp2_eq_weight h h', ← EReal.coe_mul,
    Finset.mul_sum]
  congr 1
  exact Finset.sum_congr rfl fun t ht => by rw [← mul_assoc, weight_mul (hM t ht) h h']

/-- The largest of the first scores. -/
def top (f : ℕ → EReal) (n : ℕ) : EReal := (Finset.range n).sup f

theorem le_top (f : ℕ → EReal) (n t : ℕ) (h : t ∈ Finset.range n) : f t ≤ top f n := Finset.le_sup h

/-- It is not plus infinity if none of them is. -/
theorem top_ne (f : ℕ → EReal) (hf : ∀ t, f t ≠ ⊤) (n : ℕ) : top f n ≠ ⊤ := by
  refine ne_of_lt ((Finset.sup_lt_iff (by simp)).mpr fun t _ => lt_top_iff_ne_top.mpr (hf t))

theorem top_mono (f : ℕ → EReal) (n m : ℕ) : top f n ≤ top f (n + m) := Finset.sup_mono (Finset.range_subset_range.mpr (by omega))

/-- The largest over a further chunk. -/
theorem top_chunk (f : ℕ → EReal) (n m : ℕ) :
    top f (n + m) = max (top f n) (Finset.univ.fold max ⊥ fun k : Fin m => f (n + k.val)) := by
  have e : (Finset.univ.fold max ⊥ fun k : Fin m => f (n + k.val)) = Finset.univ.sup fun k : Fin m => f (n + k.val) := rfl
  rw [e]
  refine le_antisymm (Finset.sup_le fun t ht => ?_) (max_le (Finset.sup_mono ?_) (Finset.sup_le fun k _ => ?_))
  · rcases lt_or_ge t n with h | h
    · exact le_max_of_le_left (Finset.le_sup (Finset.mem_range.mpr h))
    · have ht' := Finset.mem_range.mp ht
      refine le_max_of_le_right ?_
      have := Finset.le_sup (f := fun k : Fin m => f (n + k.val)) (Finset.mem_univ (⟨t - n, by omega⟩ : Fin m))
      simpa [Nat.add_sub_cancel' h] using this
  · exact Finset.range_subset_range.mpr (by omega)
  · exact Finset.le_sup (f := f) (Finset.mem_range.mpr (by have := k.isLt; omega))

/-- The sum over a further chunk, relative to the new maximum. -/
theorem sum_chunk (f : ℕ → EReal) (hf : ∀ t, f t ≠ ⊤) (u : ℕ → ℝ) (n m : ℕ) :
    Ideal.exp2 (top f n - top f (n + m)) * (∑ t ∈ Finset.range n, Ideal.exp2 (f t - top f n) * (u t : EReal))
        + ∑ k : Fin m, Ideal.exp2 (f (n + k.val) - top f (n + m)) * (u (n + k.val) : EReal)
      = ∑ t ∈ Finset.range (n + m), Ideal.exp2 (f t - top f (n + m)) * (u t : EReal) := by
  rw [rescale _ f u _ _ (le_top f n) (top_mono f n m) (top_ne f hf _),
    Finset.sum_range_add, Finset.sum_range (fun k => Ideal.exp2 (f (n + k) - top f (n + m)) * (u (n + k) : EReal))]

/-- The scores kept under the causal mask. -/
def causal (x : ℕ → ℝ) (p : ℕ) (t : ℕ) : EReal := if t ≤ p then (x t : EReal) else ⊥

/-- Causal attention of one query, weights the powers of two of its scores. -/
def attended (x u : ℕ → ℝ) (p : ℕ) : ℝ :=
  (∑ t ∈ Finset.range (p + 1), (2 : ℝ) ^ (x t) * u t) / ∑ t ∈ Finset.range (p + 1), (2 : ℝ) ^ (x t)

theorem causal_ne (x : ℕ → ℝ) (p t : ℕ) : causal x p t ≠ ⊤ := by
  unfold causal; split <;> simp

/-- The largest kept score is real. -/
theorem top_causal (x : ℕ → ℝ) (p N : ℕ) (h : p < N) : ∃ μ : ℝ, top (causal x p) N = (μ : EReal) := by
  have h1 := top_ne _ (causal_ne x p) N
  have h2 := le_top (causal x p) N 0 (Finset.mem_range.mpr (by omega))
  have h3 : causal x p 0 = (x 0 : EReal) := by simp [causal]
  generalize top (causal x p) N = M at h1 h2
  induction M with
  | bot => rw [h3] at h2; simp at h2
  | top => exact absurd rfl h1
  | coe μ => exact ⟨μ, rfl⟩

/-- The weights against a real maximum. -/
theorem weight_causal (x : ℕ → ℝ) (p t : ℕ) (μ : ℝ) :
    weight (causal x p t) (μ : EReal) = if t ≤ p then (2 : ℝ) ^ (x t) * (2 : ℝ) ^ (-μ) else 0 := by
  unfold weight causal
  split
  · rw [← EReal.coe_sub, Ideal.exp2_coe, EReal.toReal_coe, ← Real.rpow_add (by norm_num), sub_eq_add_neg]; rfl
  · rw [exp2_bot_sub]; rfl

/-- The sum over the kept positions. -/
theorem sum_causal (x u : ℕ → ℝ) (p N : ℕ) (h : p < N) (μ : ℝ) :
    ∑ t ∈ Finset.range N, weight (causal x p t) (μ : EReal) * u t
      = (∑ t ∈ Finset.range (p + 1), (2 : ℝ) ^ (x t) * u t) * (2 : ℝ) ^ (-μ) := by
  rw [Finset.sum_mul, ← Finset.sum_subset (Finset.range_subset_range.mpr (show p + 1 ≤ N by omega))]
  · refine Finset.sum_congr rfl fun t ht => ?_
    rw [weight_causal, if_pos (by have := Finset.mem_range.mp ht; omega)]; ring
  · intro t _ ht
    rw [weight_causal, if_neg (fun h => ht (Finset.mem_range.mpr (by omega))), zero_mul]

/-- The quotient of the two sums does not depend on the maximum. -/
theorem ratio (x u : ℕ → ℝ) (p N : ℕ) (h : p < N) :
    Ideal.div (∑ t ∈ Finset.range N, Ideal.exp2 (causal x p t - top (causal x p) N) * (u t : EReal))
        (∑ t ∈ Finset.range N, Ideal.exp2 (causal x p t - top (causal x p) N) * ((1 : ℝ) : EReal))
      = (attended x u p : EReal) := by
  obtain ⟨μ, hμ⟩ := top_causal x p N h
  rw [sum_weights _ _ u _ (le_top _ N) (top_ne _ (causal_ne x p) N),
    sum_weights _ _ (fun _ => 1) _ (le_top _ N) (top_ne _ (causal_ne x p) N), hμ, sum_causal x u p N h, sum_causal x (fun _ => 1) p N h]
  have hp : 0 < ∑ t ∈ Finset.range (p + 1), (2 : ℝ) ^ (x t) :=
    Finset.sum_pos (fun t _ => Real.rpow_pos_of_pos (by norm_num) _) ⟨0, by simp⟩
  have hm : 0 < (2 : ℝ) ^ (-μ) := Real.rpow_pos_of_pos (by norm_num) _
  simp only [mul_one]
  rw [Ideal.div_coe (ne_of_gt (mul_pos hp hm))]
  unfold attended
  first
    | rw [← EReal.coe_mul]; congr 1; field_simp
    | skip

/-- The largest of a finite list of scores. -/
theorem top_fin (f : ℕ → EReal) (n : ℕ) : (Finset.univ.fold max ⊥ fun k : Fin n => f k.val) = top f n := by
  have h := top_chunk f 0 n
  simp only [Nat.zero_add] at h
  rw [h, show top f 0 = ⊥ from rfl, bot_sup_eq]

/-- A position, taken round. -/
def pos (t : ℕ) : Fin 4096 := ⟨t % 4096, Nat.mod_lt _ (by norm_num)⟩

theorem pos_val (k : Fin 4096) : pos k.val = k := Fin.ext (Nat.mod_eq_of_lt k.isLt)

/-- Causal attention of one query, weights the exponentials of its scores. -/
def softmax (y u : ℕ → ℝ) (p : ℕ) : ℝ :=
  (∑ t ∈ Finset.range (p + 1), Real.exp (y t) * u t) / ∑ t ∈ Finset.range (p + 1), Real.exp (y t)

/-- Powers of two of scores over log 2 are exponentials of the scores. -/
theorem attended_eq (x y u : ℕ → ℝ) (p : ℕ) (h : ∀ t, Real.log 2 * x t = y t) : attended x u p = softmax y u p := by
  have e : ∀ t, (2 : ℝ) ^ (x t) = Real.exp (y t) := fun t => by rw [Real.rpow_def_of_pos (by norm_num), h]
  unfold attended softmax
  simp only [e]

/-- The real weight of a position against a maximum. -/
def expWeight (y : ℕ → ℝ) (p : ℕ) (μ : ℝ) (t : ℕ) : ℝ := if t ≤ p then Real.exp (y t) * Real.exp (-μ) else 0

theorem sum_expWeight (y u : ℕ → ℝ) (p : ℕ) (h : p < 4096) (μ : ℝ) :
    ∑ k : Fin 4096, expWeight y p μ k.val * u k.val = (∑ t ∈ Finset.range (p + 1), Real.exp (y t) * u t) * Real.exp (-μ) := by
  rw [← Finset.sum_range (fun t => expWeight y p μ t * u t), Finset.sum_mul,
    ← Finset.sum_subset (Finset.range_subset_range.mpr (show p + 1 ≤ 4096 by omega))]
  · refine Finset.sum_congr rfl fun t ht => ?_
    rw [expWeight, if_pos (by have := Finset.mem_range.mp ht; omega)]; ring
  · intro t _ ht
    rw [expWeight, if_neg (fun h => ht (Finset.mem_range.mpr (by omega))), zero_mul]

/-- The sum of the weights against the largest score is at least one. -/
theorem one_le_sum (y : ℕ → ℝ) (p N : ℕ) (h : p < N) (μ : ℝ) (hμ : top (causal y p) N = (μ : EReal)) :
    1 ≤ (∑ t ∈ Finset.range (p + 1), Real.exp (y t)) * Real.exp (-μ) := by
  obtain ⟨t, ht, e⟩ := Finset.exists_mem_eq_sup (Finset.range N) ⟨0, Finset.mem_range.mpr (by omega)⟩ (causal y p)
  have e' : causal y p t = (μ : EReal) := e.symm.trans hμ
  unfold causal at e'
  split at e'
  · rename_i hp
    have hy : y t = μ := EReal.coe_injective e'
    have h1 : Real.exp (y t) ≤ ∑ t ∈ Finset.range (p + 1), Real.exp (y t) :=
      Finset.single_le_sum (f := fun t => Real.exp (y t)) (fun i _ => (Real.exp_pos _).le) (Finset.mem_range.mpr (by omega))
    calc (1 : ℝ) = Real.exp (y t) * Real.exp (-μ) := by rw [← Real.exp_add, hy, add_neg_cancel, Real.exp_zero]
      _ ≤ _ := mul_le_mul_of_nonneg_right h1 (Real.exp_pos _).le
  · simp at e'

/-- Values weighed by the difference of two normalised weights. -/
theorem mix (y0 y1 u : ℕ → ℝ) (p : ℕ) (h : p < 4096) (μ0 μ1 l S0 S1 : ℝ)
    (h0 : S0 = (∑ t ∈ Finset.range (p + 1), Real.exp (y0 t)) * Real.exp (-μ0))
    (h1 : S1 = (∑ t ∈ Finset.range (p + 1), Real.exp (y1 t)) * Real.exp (-μ1)) :
    ∑ k : Fin 4096, u k.val * (expWeight y0 p μ0 k.val / S0 - l * (expWeight y1 p μ1 k.val / S1)) = softmax y0 u p - l * softmax y1 u p := by
  have e : ∀ k : Fin 4096, u k.val * (expWeight y0 p μ0 k.val / S0 - l * (expWeight y1 p μ1 k.val / S1))
      = expWeight y0 p μ0 k.val * u k.val / S0 - l * (expWeight y1 p μ1 k.val * u k.val / S1) := fun k => by ring
  simp only [e]
  rw [Finset.sum_sub_distrib, ← Finset.mul_sum, ← Finset.sum_div, ← Finset.sum_div, sum_expWeight y0 u p h, sum_expWeight y1 u p h, h0, h1,
    mul_div_mul_right _ _ (Real.exp_pos _).ne', mul_div_mul_right _ _ (Real.exp_pos _).ne']
  rfl

end Cert.Attn
-- ==== Proof.ExpertRef.lean ====
/- The experts' reference in steps, and each step at one entry. -/
module

public import proofs.«01_k».proof.Proof.Gen.Reference2Ideal.Run
public import proofs.«01_k».proof.Proof.Softmax

@[expose] public section

set_option maxRecDepth 16384

noncomputable section

namespace Cert.Reference2Ideal.Experts

open Idealize.ShloMosaic Idealize.ShloMosaic.TcCoe Idealize.SL.Sem
open Cert.Reference2Ideal Cert.Reference2Ideal.Gen

/-- The dimension numbers of picking, for each of `n` words, one `A` by `B` matrix out of `N`. -/
abbrev pickDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ :=
  ⟨[1, 2], [0], [], [], [0], 1, ![1, A, B], wf⟩

/-- The matrix picked is the one the word names, read signed and held inside the array. -/
theorem pick_at {α : Type} {N A B n w : Nat} (hN : 0 < N)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (i : Fin n) (a : Fin A) (b : Fin B) :
    Host.gather (pickDims N A B n wf) x idx (ix3 i a b) = x (ix3 ⟨min (idx (ix2 i 0)).toInt.toNat (N - 1), by omega⟩ a b) := by
  have hk : ∀ c : Fin 3, c ≠ 0 → c ∈ (pickDims N A B n wf).sKept := fun c hc =>
    (GatherDims.mem_sKept _ _).mpr ⟨fun h => hc (List.mem_singleton.mp h), List.not_mem_nil⟩
  unfold Host.gather
  congr 1
  funext c
  refine Fin.ext ?_
  show (pickDims N A B n wf).start (ix3 i a b) idx c + (pickDims N A B n wf).batchCoord (ix3 i a b) c
    + (pickDims N A B n wf).offCoord (ix3 i a b) c = _
  rw [GatherDims.batchCoord_eq_zero _ _ _ List.not_mem_nil, Nat.add_zero]
  match c with
  | ⟨0, _⟩ =>
    show (pickDims N A B n wf).start (ix3 i a b) idx (0 : Fin 3) + (pickDims N A B n wf).offCoord (ix3 i a b) (0 : Fin 3) = _
    rw [GatherDims.offCoord_eq_zero _ _ _ fun h => ((GatherDims.mem_sKept _ _).mp h).1 (List.mem_singleton.mpr rfl), Nat.add_zero]
    unfold GatherDims.start
    rw [dif_pos (show (0 : Fin 3) ∈ (pickDims N A B n wf).startIndexMap from List.mem_singleton.mpr rfl)]
    have e : (pickDims N A B n wf).siIdx (ix3 i a b) ⟨List.idxOf (0 : Fin 3) (pickDims N A B n wf).startIndexMap,
        List.idxOf_lt_length_iff.2 (List.mem_singleton.mpr rfl)⟩ = ix2 i 0 := by
      funext d
      refine Fin.ext ?_
      match d with
      | ⟨0, _⟩ => rfl
      | ⟨1, _⟩ => rfl
    exact congrArg (fun d => min (idx d).toInt.toNat (N - 1)) e
  | ⟨1, _⟩ =>
    show (pickDims N A B n wf).start (ix3 i a b) idx (1 : Fin 3) + (pickDims N A B n wf).offCoord (ix3 i a b) (1 : Fin 3) = _
    unfold GatherDims.start GatherDims.offCoord
    rw [dif_neg (show (1 : Fin 3) ∉ (pickDims N A B n wf).startIndexMap from
        fun h => Nat.succ_ne_zero _ (congrArg Fin.val (List.mem_singleton.mp h))),
      dif_pos (hk 1 (by decide)), Nat.zero_add]
    rfl
  | ⟨2, _⟩ =>
    show (pickDims N A B n wf).start (ix3 i a b) idx (2 : Fin 3) + (pickDims N A B n wf).offCoord (ix3 i a b) (2 : Fin 3) = _
    unfold GatherDims.start GatherDims.offCoord
    rw [dif_neg (show (2 : Fin 3) ∉ (pickDims N A B n wf).startIndexMap from
        fun h => Nat.succ_ne_zero _ (congrArg Fin.val (List.mem_singleton.mp h))),
      dif_pos (hk 2 (by decide)), Nat.zero_add]
    rfl

/-- The blocks' experts, a negative word counting from the end. -/
def named (E : IVec S289 32) : IVec S289x1 32 :=
  broadcastInDim S289x1 ![0] bcast_S289_S289x1_0 (select (cmpi .slt E (broadcastInDim S289 ![] bcast_S_S289 (constantI S_ 32 0#32)))
    (addi E (broadcastInDim S289 ![] bcast_S_S289 (constantI S_ 32 32#32))) E)

/-- The rows through their block's first matrix. -/
def raised (E : IVec S289 32) (x : FVec Ideal S147968x1024 .f32) (w : FVec Ideal S32x1024x2048 .f32) (b : FVec Ideal S32x1x2048 .f32) :
    FVec Ideal S289x512x2048 .f32 :=
  addf (Host.dotGeneral dot_S289x512x1024_S289x1024x2048_S289x512x2048_2_1_1_2_0_0 none (shapeCast _ x shapeCasts_S147968x1024_S289x512x1024)
      (Host.gather gather_S32x1024x2048_S289x1_S289x1024x2048_12_0_n_n_0_1_110242048 w (named E)))
    (broadcastInDim S289x512x2048 ![0, 1, 2] bcast_S289x1x2048_S289x512x2048_0_1_2
      (Host.gather gather_S32x1x2048_S289x1_S289x1x2048_12_0_n_n_0_1_112048 b (named E)))

/-- The gates, from above. -/
def gates (h : FVec Ideal S289x512x2048 .f32) : FVec Ideal S289x512x1024 .f32 :=
  minimumf (extractStridedSlice S289x512x1024 ![0, 0, 0] h slices_S289x512x2048_S289x512x1024_0_0_0)
    (broadcastInDim S289x512x1024 ![] bcast_S_S289x512x1024 (constant S_ .f32 0x40E00000#32))

/-- The gated activation. -/
def gated (h : FVec Ideal S289x512x2048 .f32) : FVec Ideal S289x512x1024 .f32 :=
  mulf (mulf (gates h) (Host.divf (broadcastInDim S289x512x1024 ![] bcast_S_S289x512x1024 (constant S_ .f32 0x3F800000#32))
      (addf (broadcastInDim S289x512x1024 ![] bcast_S_S289x512x1024 (constant S_ .f32 0x3F800000#32))
        (Host.exp (Host.negf (mulf (broadcastInDim S289x512x1024 ![] bcast_S_S289x512x1024 (constant S_ .f32 0x3FD9DB23#32)) (gates h)))))))
    (addf (minimumf (broadcastInDim S289x512x1024 ![] bcast_S_S289x512x1024 (id (constant S_ .f32 0x40E00000#32)))
        (maximumf (broadcastInDim S289x512x1024 ![] bcast_S_S289x512x1024 (id (constant S_ .f32 0xC0E00000#32)))
          (extractStridedSlice S289x512x1024 ![0, 0, 1024] h slices_S289x512x2048_S289x512x1024_0_0_1024)))
      (broadcastInDim S289x512x1024 ![] bcast_S_S289x512x1024 (constant S_ .f32 0x3F800000#32)))

/-- Back through their block's second matrix. -/
def lowered (E : IVec S289 32) (a : FVec Ideal S289x512x1024 .f32) (w : FVec Ideal S32x1024x1024 .f32) (b : FVec Ideal S32x1x1024 .f32) :
    FVec Ideal S289x512x1024 .f32 :=
  addf (Host.dotGeneral dot_S289x512x1024_S289x1024x1024_S289x512x1024_2_1_1_2_0_0 none a
      (Host.gather gather_S32x1024x1024_S289x1_S289x1024x1024_12_0_n_n_0_1_110241024 w (named E)))
    (broadcastInDim S289x512x1024 ![0, 1, 2] bcast_S289x1x1024_S289x512x1024_0_1_2
      (Host.gather gather_S32x1x1024_S289x1_S289x1x1024_12_0_n_n_0_1_111024 b (named E)))

/-- The used blocks' rows, zeros after them. -/
def masked (C : IVec S1 32) (y : FVec Ideal S289x512x1024 .f32) : FVec Ideal S147968x1024 .f32 :=
  shapeCast _ (select (broadcastInDim S289x512x1024 ![0, 1, 2] bcast_S289x1x1_S289x512x1024_0_1_2 (broadcastInDim S289x1x1 ![0] bcast_S289_S289x1x1_0
      (cmpi .slt (iotaInDim S289 32 0) (broadcastInDim S289 ![0] bcast_S1_S289_0 C)))) y
    (broadcastInDim S289x512x1024 ![] bcast_S_S289x512x1024 (id (constant S_ .f32 0x00000000#32)))) shapeCasts_S289x512x1024_S147968x1024

/-- The reference's result over its arguments. -/
def REF (E : IVec S289 32) (C : IVec S1 32) (x : FVec Ideal S147968x1024 .f32) (wu : FVec Ideal S32x1024x2048 .f32)
    (bu : FVec Ideal S32x1x2048 .f32) (wd : FVec Ideal S32x1024x1024 .f32) (bd : FVec Ideal S32x1x1024 .f32) : FVec Ideal S147968x1024 .f32 :=
  masked C (lowered E (gated (raised E x wu bu)) wd bd)

/-- The run's result is these steps. -/
theorem res_eq (m : (ℓ : Loc nD τ sig) → Buf (Elt Ideal) ℓ) (c : Dev nD) :
    Value.res_out0 (F := Ideal) m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold Value.res_out0 Value.res_main_v57
  rfl

/-- A word in range is the expert it names. -/
theorem named_at (E : IVec S289 32) (i : Fin 289) (h : (E (ix1 i)).toNat < 32) : named E (ix2 i 0) = E (ix1 i) := by
  have e : (E (ix1 i)).slt 0#32 = false := by
    by_contra q
    simp only [Bool.not_eq_false] at q
    rw [BitVec.slt_iff_toInt_lt] at q
    simp only [BitVec.toInt_eq_toNat_cond, BitVec.toNat_ofNat] at q
    omega
  pointwise [named]
  simp [IntOp.cmpi, e, Scalar.select]

/-- The expert of a block. -/
def expert (E : IVec S289 32) (h : ∀ i : Fin 289, (E (ix1 i)).toNat < 32) (i : Fin 289) : Fin 32 := ⟨(E (ix1 i)).toNat, h i⟩

/-- Held inside the array, it is itself. -/
theorem held (E : IVec S289 32) (h : ∀ i : Fin 289, (E (ix1 i)).toNat < 32) (i : Fin 289) :
    (⟨min (named E (ix2 i 0)).toInt.toNat (32 - 1), by omega⟩ : Fin 32) = expert E h i := by
  have hi := h i
  refine Fin.ext ?_
  show min (named E (ix2 i 0)).toInt.toNat 31 = (E (ix1 i)).toNat
  rw [named_at E i hi, BitVec.toInt_eq_toNat_of_lt (by omega)]
  omega

/-- An activation's entry from its gate and its factor. -/
def mixed (g u : EReal) : EReal :=
  min g (Ideal.ofBits .f32 0x40E00000#32)
    * Ideal.div (Ideal.ofBits .f32 0x3F800000#32) (Ideal.ofBits .f32 0x3F800000#32
        + Ideal.exp (-(Ideal.ofBits .f32 0x3FD9DB23#32 * min g (Ideal.ofBits .f32 0x40E00000#32))))
    * (min (Ideal.ofBits .f32 0x40E00000#32) (max (Ideal.ofBits .f32 0xC0E00000#32) u) + Ideal.ofBits .f32 0x3F800000#32)

variable (E : IVec S289 32) (C : IVec S1 32) (h : ∀ i : Fin 289, (E (ix1 i)).toNat < 32)

theorem raised_at (x : FVec Ideal S147968x1024 .f32) (w : FVec Ideal S32x1024x2048 .f32) (b : FVec Ideal S32x1x2048 .f32)
    (i : Fin 289) (r : Fin 512) (f : Fin 2048) :
    raised E x w b (ix3 i r f) = (∑ d : Fin 1024, x (ix2 ⟨i.val * 512 + r.val, by omega⟩ d) * w (ix3 (expert E h i) d f))
      + b (ix3 (expert E h i) 0 f) := by
  have e : ∀ d, Host.gather gather_S32x1024x2048_S289x1_S289x1024x2048_12_0_n_n_0_1_110242048 w (named E) (ix3 i d f) = w (ix3 (expert E h i) d f) :=
    fun d => (pick_at (by norm_num) _ w (named E) i d f).trans (congrArg (fun k => w (ix3 k d f)) (held E h i))
  have e' : Host.gather gather_S32x1x2048_S289x1_S289x1x2048_12_0_n_n_0_1_112048 b (named E) (ix3 i 0 f) = b (ix3 (expert E h i) 0 f) :=
    (pick_at (by norm_num) _ b (named E) i 0 f).trans (congrArg (fun k => b (ix3 k 0 f)) (held E h i))
  rw [← e']
  simp only [← e]
  pointwise [raised]

theorem gated_at (a : FVec Ideal S289x512x2048 .f32) (i : Fin 289) (r : Fin 512) (f : Fin 1024) :
    gated a (ix3 i r f) = mixed (a (ix3 i r ⟨f.val, by omega⟩)) (a (ix3 i r ⟨1024 + f.val, by omega⟩)) := by
  pointwise [gated, gates, mixed]
  rfl

theorem lowered_at (a : FVec Ideal S289x512x1024 .f32) (w : FVec Ideal S32x1024x1024 .f32) (b : FVec Ideal S32x1x1024 .f32)
    (i : Fin 289) (r : Fin 512) (j : Fin 1024) :
    lowered E a w b (ix3 i r j) = (∑ f : Fin 1024, a (ix3 i r f) * w (ix3 (expert E h i) f j)) + b (ix3 (expert E h i) 0 j) := by
  have e : ∀ d, Host.gather gather_S32x1024x1024_S289x1_S289x1024x1024_12_0_n_n_0_1_110241024 w (named E) (ix3 i d j) = w (ix3 (expert E h i) d j) :=
    fun d => (pick_at (by norm_num) _ w (named E) i d j).trans (congrArg (fun k => w (ix3 k d j)) (held E h i))
  have e' : Host.gather gather_S32x1x1024_S289x1_S289x1x1024_12_0_n_n_0_1_111024 b (named E) (ix3 i 0 j) = b (ix3 (expert E h i) 0 j) :=
    (pick_at (by norm_num) _ b (named E) i 0 j).trans (congrArg (fun k => b (ix3 k 0 j)) (held E h i))
  rw [← e']
  simp only [← e]
  pointwise [lowered]

theorem zero_bits : Ideal.ofBits .f32 0x00000000#32 = 0 := by simp [Ideal.ofBits, Ideal.ieee]

/-- Small numbers compare as words. -/
theorem less (n : ℕ) (hn : n < 2 ^ 31) (k : BitVec 32) (hk : k.toNat < 2 ^ 31) :
    IntOp.cmpi .slt (BitVec.ofNat 32 n) k = if n < k.toNat then 1#1 else 0#1 := by
  have e : (BitVec.ofNat 32 n).toInt = n := by
    rw [BitVec.toInt_eq_toNat_of_lt (by rw [BitVec.toNat_ofNat]; omega), BitVec.toNat_ofNat]
    omega
  have e' : k.toInt = k.toNat := BitVec.toInt_eq_toNat_of_lt (by omega)
  by_cases h : n < k.toNat <;> simp [IntOp.cmpi, BitVec.slt, e, e', h]

theorem masked_at (hC : (C (ix1 0)).toNat ≤ 289) (y : FVec Ideal S289x512x1024 .f32) (i : Fin 289) (r : Fin 512) (j : Fin 1024) :
    masked C y (ix2 ⟨i.val * 512 + r.val, by omega⟩ j) = if i.val < (C (ix1 0)).toNat then y (ix3 i r j) else 0 := by
  have e := less i.val (by omega) (C (ix1 0)) (by omega)
  have p : masked C y (ix2 ⟨i.val * 512 + r.val, by omega⟩ j)
      = Scalar.select (IntOp.cmpi .slt (BitVec.ofNat 32 i.val) (C (ix1 0))) (y (ix3 i r j)) 0 := by
    pointwise [masked]
    exact congrArg (Scalar.select _ _) zero_bits
  rw [p, e]
  by_cases q : i.val < (C (ix1 0)).toNat <;> simp [q, Scalar.select]

end Cert.Reference2Ideal.Experts
-- ==== Proof.ExpertValue.lean ====
/- The expert call's rows over extended reals: what each used block stores, entry by entry, is the reference's. -/
module

public import proofs.«01_k».proof.Proof.ExpertClaims
public import proofs.«01_k».proof.Proof.ExpertRef

@[expose] public section

set_option maxRecDepth 16384

noncomputable section

namespace Cert.Kernel2Ideal.Experts

open Idealize.ShloMosaic Idealize.ShloMosaic.TcCoe Idealize.SL.Sem
open Cert.Kernel2Ideal Cert.Kernel2Ideal.Gen
open Cert.Reference2Ideal.Experts (REF masked lowered gated raised mixed expert masked_at lowered_at gated_at raised_at zero_bits)

/-- The kernel's slope is the reference's with the sign in it. -/
theorem slope : Ideal.ofBits .f32 0xBFD9DB23#32 = -Ideal.ofBits .f32 0x3FD9DB23#32 := by
  have e : Ideal.ofBits .f32 0xBFD9DB23#32 = ((-(14277411 * 2 ^ (-23 : ℤ)) : ℝ) : EReal) := by
    simp [Ideal.ofBits, Ideal.ieee]
  have e' : Ideal.ofBits .f32 0x3FD9DB23#32 = ((14277411 * 2 ^ (-23 : ℤ) : ℝ) : EReal) := by
    simp [Ideal.ofBits, Ideal.ieee]
  rw [e, e', EReal.coe_neg]

/-- A row's entry under a block's first matrix. -/
def lifted (x : S512x1024.Idx → EReal) (w : S1x1024x2048.Idx → EReal) (b : S1x1x2048.Idx → EReal) (r : Fin 512) (f : Fin 2048) : EReal :=
  (∑ d : Fin 1024, x (ix2 r d) * w (ix3 0 d f)) + b (ix3 0 0 f)

/-- What a used block stores, at one entry. -/
theorem block_at (x : Vec Ideal S512x1024 .f32) (wu : Vec Ideal S1x1024x2048 .f32) (bu : Vec Ideal S1x1x2048 .f32)
    (wd : Vec Ideal S1x1024x1024 .f32) (bd : Vec Ideal S1x1x1024 .f32) (r : Fin 512) (j : Fin 1024) :
    k0_pay3 (F := Ideal) x (k0_pay1 (F := Ideal) wu) bu (k0_pay2 (F := Ideal) wd) bd (ix2 r j)
      = (∑ f : Fin 1024, mixed (lifted x wu bu r ⟨f.val, by omega⟩) (lifted x wu bu r ⟨1024 + f.val, by omega⟩) * wd (ix3 0 f j))
        + bd (ix3 0 0 j) := by
  simp only [mixed, lifted, ← EReal.neg_mul, ← slope]
  pointwise [k0_pay3, k0_pay1, k0_pay2]

/-- What an unused block stores. -/
theorem blank_at (r : Fin 512) (j : Fin 1024) : k0_pay4 (F := Ideal) (ix2 r j) = 0 := zero_bits

variable (T0 : S289.Idx → BitVec 32) (T1 : S1.Idx → BitVec 32) (hR : Routed T0 T1) (m : (ℓ : Loc nD τ sig) → Buf (Elt Ideal) ℓ) (c : Dev nD)

/-- The result's window goes block by block. -/
theorem index_5 (t : Fin (cfgA (F := Ideal) T0 T1 hR).N) : ((cfgA (F := Ideal) T0 T1 hR).win 5).index t = ![t.val, 0] := by
  show ![(BitVec.ofNat 32 (crd (F := Ideal) T0 T1 hR t 0).val).toNat, (0#32).toNat] = _
  rw [point_word, crd_val]
  rfl

theorem points_all : grid0.N = 289 := by decide +kernel
theorem points : (cfgA (F := Ideal) T0 T1 hR).N = 289 := points_all

/-- Every block is written back. -/
theorem flush_5 (t : Fin (cfgA (F := Ideal) T0 T1 hR).N) : ((cfgA (F := Ideal) T0 T1 hR).win 5).flush t = true := by
  unfold Pipeline.Window.flush
  refine Bool.and_eq_true_iff.mpr ⟨rfl, Bool.or_eq_true_iff.mpr ?_⟩
  by_cases q : t.val + 1 = (cfgA (F := Ideal) T0 T1 hR).N
  · exact .inl (decide_eq_true q)
  · refine .inr (decide_eq_true ⟨lt_of_le_of_ne t.isLt q, fun e => ?_⟩)
    rw [index_5, index_5] at e
    exact absurd (congrFun e 0) (Nat.succ_ne_self _)

/-- The written blocks fill the result. -/
theorem covers_5 : ((cfgA (F := Ideal) T0 T1 hR).win 5).Covers := by
  refine ⟨fun a => ?_, fun β => ⟨⟨(β (0 : Fin 2)).val, ?_⟩, flush_5 T0 T1 hR _, fun a => ⟨?_, .inl rfl⟩⟩⟩
  · have e : ∀ a : Fin 2, 0 < (![512, 1024] : Fin 2 → ℕ) a := by decide
    exact e a
  · have h : (β (0 : Fin 2)).val < (147968 + 512 - 1) / 512 := (β (0 : Fin 2)).isLt
    exact h.trans_eq ((by norm_num : (147968 + 512 - 1) / 512 = 289).trans (points T0 T1 hR).symm)
  · rw [index_5]
    have h : (β (1 : Fin 2)).val < (1024 + 1024 - 1) / 1024 := (β (1 : Fin 2)).isLt
    have e : (β (1 : Fin 2)).val = 0 := Nat.lt_one_iff.mp h
    match a with
    | ⟨0, _⟩ => rfl
    | ⟨1, _⟩ => exact e.symm

/-- A used block's rows are its own. -/
theorem read_rows (t : Fin (cfgA (F := Ideal) T0 T1 hR).N) (ht : t.val < count (F := Ideal) T1) (r : Fin 512) (d : Fin 1024) :
    iblk (F := Ideal) T0 T1 hR m c 0 t (ix2 r d) = m ((c : Thread nD τ).loc main_arg2) (ix2 ⟨t.val * 512 + r.val, by have := hR.le; have : t.val < (T1 (ix1 0)).toNat := ht; omega⟩ d) := by
  have e : min t.val ((T1 (ix1 0) : BitVec 32).toNat - 1) = t.val := by
    have : t.val < (T1 (ix1 0)).toNat := ht
    omega
  blk_simp [iblk]
  blk_ext [index_0 (F := Ideal) T0 T1 hR t, e]

/-- Its biases are its expert's. -/
theorem read_upper (t : Fin (cfgA (F := Ideal) T0 T1 hR).N) (f : Fin 2048) :
    iblk (F := Ideal) T0 T1 hR m c 2 t (ix3 0 0 f) = m ((c : Thread nD τ).loc main_arg4) (ix3 (expertOf (F := Ideal) T0 T1 hR t.val) 0 f) := by
  blk_simp [iblk]
  blk_ext [index_2 (F := Ideal) T0 T1 hR t]
theorem read_lower (t : Fin (cfgA (F := Ideal) T0 T1 hR).N) (j : Fin 1024) :
    iblk (F := Ideal) T0 T1 hR m c 4 t (ix3 0 0 j) = m ((c : Thread nD τ).loc main_arg6) (ix3 (expertOf (F := Ideal) T0 T1 hR t.val) 0 j) := by
  blk_simp [iblk]
  blk_ext [index_4 (F := Ideal) T0 T1 hR t]

/-- The expert the kernel takes for a block is the reference's. -/
theorem expert_eq (n : Fin 289) : expertOf (F := Ideal) T0 T1 hR n.val = expert T0 hR.expert n := by
  have e : (⟨n.val % 289, Nat.mod_lt _ (by decide)⟩ : Fin 289) = n := Fin.ext (Nat.mod_eq_of_lt n.isLt)
  unfold expertOf expert
  simp only [e]

variable (X : FVec Ideal S147968x1024 .f32) (Wu : FVec Ideal S32x1024x2048 .f32) (Bu : FVec Ideal S32x1x2048 .f32)
  (Wd : FVec Ideal S32x1024x1024 .f32) (Bd : FVec Ideal S32x1x1024 .f32)
  (h2 : m ((c : Thread nD τ).loc main_arg2) = X) (h3 : m ((c : Thread nD τ).loc main_arg3) = Wu) (h4 : m ((c : Thread nD τ).loc main_arg4) = Bu)
  (h5 : m ((c : Thread nD τ).loc main_arg5) = Wd) (h6 : m ((c : Thread nD τ).loc main_arg6) = Bd)

include h2 h3 h4 h5 h6 in
/-- The rows stored at a point are the reference's. -/
theorem stored (t : Fin (cfgA (F := Ideal) T0 T1 hR).N) (i : Fin 289) (hi : i.val = t.val) (r : Fin 512) (j : Fin 1024) :
    rowsOf (F := Ideal) T0 T1 hR m c t (ix2 r j) = REF T0 T1 X Wu Bu Wd Bd (ix2 ⟨i.val * 512 + r.val, by omega⟩ j) := by
  unfold REF rowsOf
  rw [masked_at T1 hR.le]
  by_cases q : t.val < count (F := Ideal) T1
  · rw [if_pos q, if_pos (by rw [hi]; exact q), lowered_at T0 hR.expert]
    refine (block_at (iblk (F := Ideal) T0 T1 hR m c 0 t) (upOf (F := Ideal) m c (expertOf (F := Ideal) T0 T1 hR t.val)) (iblk (F := Ideal) T0 T1 hR m c 2 t)
      (downOf (F := Ideal) m c (expertOf (F := Ideal) T0 T1 hR t.val)) (iblk (F := Ideal) T0 T1 hR m c 4 t) r j).trans ?_
    rw [read_lower, h6, ← hi, expert_eq]
    have e : ∀ f : Fin 2048, lifted (iblk (F := Ideal) T0 T1 hR m c 0 t) (upOf (F := Ideal) m c (expert T0 hR.expert i)) (iblk (F := Ideal) T0 T1 hR m c 2 t) r f
        = raised T0 X Wu Bu (ix3 i r f) := fun f => by
      rw [raised_at T0 hR.expert]
      unfold lifted
      rw [read_upper, h4, ← hi, expert_eq]
      refine congrArg (· + _) (Finset.sum_congr rfl fun d _ => ?_)
      rw [read_rows T0 T1 hR m c t q, h2]
      unfold upOf
      rw [h3]
      simp only [hi]
      rfl
    refine congrArg (· + _) (Finset.sum_congr rfl fun f _ => ?_)
    rw [e, e, gated_at]
    unfold downOf
    rw [h5]
    rfl
  · rw [if_neg q, if_neg (by rw [hi]; exact q)]
    exact blank_at r j

include h2 h3 h4 h5 h6 in
/-- The result array after the run. -/
theorem final : (dats (F := Ideal) T0 T1 hR m 0 c).arrAt 5 (cfgA (F := Ideal) T0 T1 hR).N = REF T0 T1 X Wu Bu Wd Bd := by
  refine (dats (F := Ideal) T0 T1 hR m 0 c).arrAt_eq_of_covers 5 _ (covers_5 T0 T1 hR) fun t _ y => ?_
  revert y
  show ∀ y : S512x1024.Idx, _
  intro y
  blk_simp
  rw [after_5]
  idx_vars y
  refine (stored T0 T1 hR m c X Wu Bu Wd Bd h2 h3 h4 h5 h6 t t rfl y0 y1).trans ?_
  blk_ext [index_5 T0 T1 hR t]

variable (ρ : Dev nD → PrngReg)

/-- The run, with its result and its arguments. -/
theorem run_value (h : Cert.Pre_Kernel2Ideal m) :
    θ_run (defs (F := Ideal)) (onTc (τ := τ) (main (F := Ideal))) ⟨m, fun _ => 0, ρ⟩ (fun r => ∀ c : Dev nD,
      r.2.mem ((c.tc : Thread nD τ).loc main_v0) = REF (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have k0 : ∀ c : Dev nD, m ((c : Thread nD τ).loc main_arg0) = m (((0 : Dev nD) : Thread nD τ).loc main_arg0) := fun c => by rw [one_core c 0]
  have k1 : ∀ c : Dev nD, m ((c : Thread nD τ).loc main_arg1) = m (((0 : Dev nD) : Thread nD τ).loc main_arg1) := fun c => by rw [one_core c 0]
  refine (θ_run (defs (F := Ideal)) _ _).mono (fun r e c => ⟨?_, e.1.args _ _ _ m k0 k1 c⟩) (run_all (F := Ideal) _ _ (routed_ideal m h 0) m ρ k0 k1)
  refine ((e.1 c).1 (5 : Fin 6)).trans ((final _ _ (routed_ideal m h 0) m c _ _ _ _ _ rfl rfl rfl rfl rfl).trans ?_)
  rw [k0 c, k1 c]

/-- The rows of the two runs agree. -/
theorem algebraic : Cert.algebraic_Kernel2Ideal_Reference2Ideal := by
  pair_intro
  · run_from run_value m g hpre
  · run_from Cert.Reference2Ideal.Value.run m' g'
    obtain ⟨e0, e1, e2, e3, e4, e5, e6⟩ := hagree c
    refine (Cert.Reference2Ideal.Experts.res_eq m' c).trans ?_
    rw [e0, e1, e2, e3, e4, e5, e6]

end Cert.Kernel2Ideal.Experts
-- ==== Proof.ProjSpec.lean ====
module
public import proofs.«01_k».proof.Proof.Softmax
@[expose] public section
noncomputable section
namespace Cert.Proj
open Idealize.ShloMosaic

/-! The projection of a layer's input, the normalised groups of its columns, and the rotation of
a group by the position, for one row, as plain formulas. -/

/-- The angle of position `s` at frequency number `i`, of `den` frequencies. -/
def ang (den : BitVec 32) (s i : ℕ) : EReal :=
  FloatOps.sitofp (F := Ideal) FTy.f32 (BitVec.ofNat 32 s) *
    Ideal.pow (Ideal.ofBits FTy.f32 0x48F42400#32)
      (Ideal.div (-FloatOps.sitofp (F := Ideal) FTy.f32 (BitVec.ofNat 32 i)) (Ideal.ofBits FTy.f32 den))

/-- Entry `j` of a group whose first `2 * half` entries are rotated by the position. -/
def turn (half : ℕ) (den : BitVec 32) (s : ℕ) (v : ℕ → EReal) (j : ℕ) : EReal :=
  if j < half then v j * Ideal.cos (ang den s j) - v (half + j) * Ideal.sin (ang den s j)
  else if j - half < half then
    v j * Ideal.cos (ang den s (j - half)) + v (j - half) * Ideal.sin (ang den s (j - half))
  else v j

/-- The rotation, from its three pieces put side by side. -/
theorem turn_split (half two : ℕ) (den : BitVec 32) (s : ℕ) (v : ℕ → EReal) (j : ℕ) (h : two = half + half) :
    (if j < half then v j * Ideal.cos (ang den s j) - v (half + j) * Ideal.sin (ang den s j)
      else if j - half < half then
        v (half + (j - half)) * Ideal.cos (ang den s (j - half)) + v (j - half) * Ideal.sin (ang den s (j - half))
      else v (two + (j - half - half))) = turn half den s v j := by
  unfold turn
  by_cases h1 : j < half
  · rw [if_pos h1, if_pos h1]
  · rw [if_neg h1, if_neg h1]
    by_cases h2 : j - half < half
    · rw [if_pos h2, if_pos h2, show half + (j - half) = j by omega]
    · rw [if_neg h2, if_neg h2, show two + (j - half - half) = j by omega]

/-- What multiplies an entry itself. -/
def tab0 (half : ℕ) (den : BitVec 32) (s j : ℕ) : EReal :=
  if j < half then Ideal.cos (ang den s j)
  else if j - half < half then Ideal.cos (ang den s (j - half)) else 1

/-- What multiplies the entry `half` places up. -/
def tab1 (half : ℕ) (den : BitVec 32) (s j : ℕ) : EReal :=
  if j < half then -Ideal.sin (ang den s j) else 0

/-- What multiplies the entry `half` places down. -/
def tab2 (half : ℕ) (den : BitVec 32) (s j : ℕ) : EReal :=
  if j < half then 0 else if j - half < half then Ideal.sin (ang den s (j - half)) else 0

/-- Three products with the tables are the rotation. -/
theorem turn_of (half : ℕ) (den : BitVec 32) (s : ℕ) (v : ℕ → EReal) (j : ℕ) {a b d : EReal}
    (ha : a = v j) (hb : j < half → b = v (half + j))
    (hd : half ≤ j → j - half < half → d = v (j - half)) :
    a * tab0 half den s j + b * tab1 half den s j + d * tab2 half den s j = turn half den s v j := by
  unfold tab0 tab1 tab2 turn
  subst ha
  by_cases h : j < half
  · rw [if_pos h, if_pos h, if_pos h, if_pos h, hb h, mul_zero, add_zero, mul_neg, sub_eq_add_neg]
  · rw [if_neg h, if_neg h, if_neg h, if_neg h, mul_zero, add_zero]
    by_cases h' : j - half < half
    · rw [if_pos h', if_pos h', if_pos h', hd (by omega) h']
    · rw [if_neg h', if_neg h', if_neg h', mul_zero, add_zero, mul_one]

/-- Entry `j` of a group of `n` divided by the root of its mean square, times its gain. -/
def nrm (n : ℕ) (den : BitVec 32) (u g : ℕ → EReal) (j : ℕ) : EReal :=
  u j * Ideal.rsqrt (Ideal.div (∑ x : Fin n, u x * u x) (Ideal.ofBits FTy.f32 den) +
    Ideal.ofBits FTy.f32 0x358637BD#32) * g j

/-- A square is not negative. -/
theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- A common factor comes out of a sum of terms that are not negative. -/
theorem sum_mul_right (c : EReal) (q : ℕ → EReal) (hq : ∀ k, 0 ≤ q k) (S : Finset ℕ) :
    ∑ k ∈ S, q k * c = (∑ k ∈ S, q k) * c := by
  classical
  induction S using Finset.induction_on with
  | empty => simp
  | insert a S ha ih =>
    rw [Finset.sum_insert ha, Finset.sum_insert ha, ih,
      EReal.right_distrib_of_nonneg (hq a) (Finset.sum_nonneg fun k _ => hq k)]

/-- A sum against the indicator of one block is the sum over the block. -/
theorem block_sum (n a : ℕ) (c : EReal) (q : ℕ → EReal) (hq : ∀ k, 0 ≤ q k)
    (hblk : ∀ k, k / n = a ↔ a * n ≤ k ∧ k < a * n + n) (hle : a * n + n ≤ 256) :
    ∑ k : Fin 256, q k * (if k.val / n = a then c else 0) = (∑ x : Fin n, q (a * n + x)) * c := by
  rw [Fin.sum_univ_eq_sum_range (fun k => q k * (if k / n = a then c else 0)) 256,
    Fin.sum_univ_eq_sum_range (fun x => q (a * n + x)) n,
    ← Finset.sum_subset (s₁ := Finset.Ico (a * n) (a * n + n))]
  · rw [Finset.sum_congr rfl (g := fun k => q k * c), sum_mul_right c q hq,
      Finset.sum_Ico_eq_sum_range, Nat.add_sub_cancel_left]
    intro k hk
    rw [if_pos ((hblk k).mpr (Finset.mem_Ico.mp hk))]
  · intro k hk
    exact Finset.mem_range.mpr (lt_of_lt_of_le (Finset.mem_Ico.mp hk).2 hle)
  · intro k _ hk
    rw [if_neg (fun h => hk (Finset.mem_Ico.mpr ((hblk k).mp h))), mul_zero]

/-- The literal 32. -/
theorem lit_32 : Ideal.ofBits FTy.f32 0x42000000#32 = ((32 : ℝ) : EReal) := by
  have h : Ideal.ofBits .f32 0x42000000#32 = (((8388608 : ℤ) * 2 ^ (-18 : ℤ) : ℝ) : EReal) := by
    simp [Ideal.ofBits, Ideal.ieee]
  rw [h]; norm_num

/-- The literal 64. -/
theorem lit_64 : Ideal.ofBits FTy.f32 0x42800000#32 = ((64 : ℝ) : EReal) := by
  have h : Ideal.ofBits .f32 0x42800000#32 = (((8388608 : ℤ) * 2 ^ (-17 : ℤ) : ℝ) : EReal) := by
    simp [Ideal.ofBits, Ideal.ieee]
  rw [h]; norm_num

/-- The literal one over 32. -/
theorem lit_inv32 : Ideal.ofBits FTy.f32 0x3D000000#32 = ((1 / 32 : ℝ) : EReal) := by
  have h : Ideal.ofBits .f32 0x3D000000#32 = (((8388608 : ℤ) * 2 ^ (-28 : ℤ) : ℝ) : EReal) := by
    simp [Ideal.ofBits, Ideal.ieee]
  rw [h]; norm_num

/-- The literal one over 64. -/
theorem lit_inv64 : Ideal.ofBits FTy.f32 0x3C800000#32 = ((1 / 64 : ℝ) : EReal) := by
  have h : Ideal.ofBits .f32 0x3C800000#32 = (((8388608 : ℤ) * 2 ^ (-29 : ℤ) : ℝ) : EReal) := by
    simp [Ideal.ofBits, Ideal.ieee]
  rw [h]; norm_num

/-- The indicator's product with the squares is the block's mean square, blocks of 32. -/
theorem mean32 (u : ℕ → EReal) (p : ℕ) (hp : p < 256) :
    ∑ k : Fin 256, u k * u k * (if k.val / 32 = p / 32 then Ideal.ofBits FTy.f32 0x3D000000#32 else 0)
      = Ideal.div (∑ x : Fin 32, u (p / 32 * 32 + x) * u (p / 32 * 32 + x)) (Ideal.ofBits FTy.f32 0x42000000#32) := by
  rw [block_sum 32 (p / 32) _ (fun k => u k * u k) (fun k => square_nonneg _) (fun k => by omega) (by omega),
    lit_32, lit_inv32, Ideal.div_coe]
  norm_num

/-- The indicator's product with the squares is the block's mean square, blocks of 64. -/
theorem mean64 (u : ℕ → EReal) (p : ℕ) (hp : p < 256) :
    ∑ k : Fin 256, u k * u k * (if k.val / 64 = p / 64 then Ideal.ofBits FTy.f32 0x3C800000#32 else 0)
      = Ideal.div (∑ x : Fin 64, u (p / 64 * 64 + x) * u (p / 64 * 64 + x)) (Ideal.ofBits FTy.f32 0x42800000#32) := by
  rw [block_sum 64 (p / 64) _ (fun k => u k * u k) (fun k => square_nonneg _) (fun k => by omega) (by omega),
    lit_64, lit_inv64, Ideal.div_coe]
  norm_num

/-- Column `n` of a row's projection: the row over the root of its mean square, times the gain,
scaled and shifted, times the weight's column. -/
def prj (x sh sc g : Fin 1024 → EReal) (w : Fin 1024 → ℕ → EReal) (n : ℕ) : EReal :=
  ∑ d : Fin 1024, (x d * Ideal.rsqrt (Ideal.div (∑ k, x k * x k) (Ideal.ofBits FTy.f32 0x44800000#32) +
    Ideal.ofBits FTy.f32 0x358637BD#32) * g d * (1 + sc d) + sh d) * w d n

/-- Entry `n` of the first keys' row: heads of 32. -/
def dkey (P gain : ℕ → EReal) (s n : ℕ) : EReal :=
  turn 4 0x40800000#32 s (nrm 32 0x42000000#32 (fun j => P (512 + (n / 32 * 32 + j))) gain) (n % 32)

/-- Entry `n` of the compressed keys' row: heads of 64, not normalised. -/
def ckey (P : ℕ → EReal) (s n : ℕ) : EReal :=
  turn 8 0x41000000#32 s (fun j => P (2048 + (n / 64 * 64 + j))) (n % 64)

/-- Entry `n` of the selected keys' row followed by the window keys' row: heads of 64. -/
def skey (P : ℕ → EReal) (gain : ℕ → ℕ → EReal) (s n : ℕ) : EReal :=
  turn 8 0x41000000#32 s (nrm 64 0x42800000#32 (fun j => P (2176 + (n / 64 * 64 + j))) (gain (n / 128))) (n % 64)

end Cert.Proj
-- ==== Proof.ProjPay.lean ====
/- What the projection's kernel body stores, one entry at a time, from what it reads. -/
module

public import proofs.«01_k».proof.Proof.Gen.Kernel3Ideal.Frame
public import proofs.«01_k».proof.Proof.ProjSpec

@[expose] public section

set_option maxRecDepth 16384

noncomputable section

namespace Cert.Kernel3Ideal.Keys

open Idealize.ShloMosaic Idealize.ShloMosaic.TcCoe Idealize.ShloMosaic.Tactic Idealize.SL.Sem
open Cert.Kernel3Ideal Cert.Kernel3Ideal.Gen
open Cert.Proj

/-- The projection of a row. -/
theorem proj_at (x : Vec Ideal S1x512x1024 .f32) (g : Vec Ideal S1x1024 .f32) (sc sh : Vec Ideal S1x1x1024 .f32)
    (w : Vec Ideal S1024x2944 .bf16) (r : Fin 512) (p : Fin 2944) (w' : Fin 1024 → ℕ → EReal) (hw : ∀ d, w (ix2 d p) = w' d p.val) :
    k0_pay2 (F := Ideal) x g sc sh w (ix2 r p)
      = prj (fun d => x (ix3 0 r d)) (fun d => sh (ix3 0 0 d)) (fun d => sc (ix3 0 0 d)) (fun d => g (ix2 0 d)) w' p.val := by
  unfold prj
  simp only [← hw]
  pointwise [k0_pay2]

/-- A column of the projection is a column of the padded one. -/
theorem lt_wide {n : ℕ} (h : n < 2840) : n < 2944 := by omega

section Groups
variable (Y : FVec Ideal S512x2944 .f32) (P : ℕ → EReal) (r : Fin 512) (hP : ∀ (n : ℕ) (h : n < 2840), Y (ix2 r ⟨n, lt_wide h⟩) = P n)
include hP

/-- The first keys' heads, normalised. -/
theorem norm1_at (M : FVec Ideal S256x256 .bf16) (gd : FVec Ideal S2x512 .f32)
    (hM : ∀ k j : Fin 256, M (ix2 k j) = if k.val / 32 = j.val / 32 then Ideal.ofBits .f32 0x3D000000#32 else (0 : EReal))
    (gain : ℕ → EReal) (p : Fin 512) (hg : gd (ix2 1 p) = gain (p.val % 32)) :
    k0_pay9 (F := Ideal) Y M gd (ix2 r p) = nrm 32 0x42000000#32 (fun j => P (512 + (p.val / 32 * 32 + j))) gain (p.val % 32) := by
  have a : ∀ n : ℕ, n < 256 →
      ∑ k : Fin 256, P (512 + k.val) * P (512 + k.val) * (if k.val / 32 = n / 32 then Ideal.ofBits FTy.f32 0x3D000000#32 else 0)
        = Ideal.div (∑ x : Fin 32, P (512 + (n / 32 * 32 + x.val)) * P (512 + (n / 32 * 32 + x.val))) (Ideal.ofBits FTy.f32 0x42000000#32) :=
    fun n hn => mean32 (fun k => P (512 + k)) n hn
  have b : ∀ n : ℕ, n < 256 →
      ∑ k : Fin 256, P (512 + (256 + k.val)) * P (512 + (256 + k.val)) * (if k.val / 32 = n / 32 then Ideal.ofBits FTy.f32 0x3D000000#32 else 0)
        = Ideal.div (∑ x : Fin 32, P (512 + (256 + (n / 32 * 32 + x.val))) * P (512 + (256 + (n / 32 * 32 + x.val)))) (Ideal.ofBits FTy.f32 0x42000000#32) :=
    fun n hn => mean32 (fun k => P (512 + (256 + k))) n hn
  unfold nrm
  pointwise [k0_pay9]
  by_cases q : p.val < 256
  · rw [dif_pos q, hg, hP (512 + p.val) (by omega)]
    have e : ∑ x : Fin 256, Y (ix2 r ⟨512 + x.val, by omega⟩) * Y (ix2 r ⟨512 + x.val, by omega⟩) * M (ix2 x ⟨p.val, q⟩)
        = ∑ k : Fin 256, P (512 + k.val) * P (512 + k.val) * (if k.val / 32 = p.val / 32 then Ideal.ofBits FTy.f32 0x3D000000#32 else 0) :=
      Finset.sum_congr rfl fun x _ => by rw [hP (512 + x.val) (by omega), hM]
    rw [e, a p.val q, show p.val / 32 * 32 + p.val % 32 = p.val by omega]
  · rw [dif_neg q, hP (512 + (256 + (p.val - 256))) (by omega)]
    have e : ∑ x : Fin 256, Y (ix2 r ⟨512 + (256 + x.val), by omega⟩) * Y (ix2 r ⟨512 + (256 + x.val), by omega⟩) * M (ix2 x ⟨p.val - 256, by omega⟩)
        = ∑ k : Fin 256, P (512 + (256 + k.val)) * P (512 + (256 + k.val)) * (if k.val / 32 = (p.val - 256) / 32 then Ideal.ofBits FTy.f32 0x3D000000#32 else 0) :=
      Finset.sum_congr rfl fun x _ => by rw [hP (512 + (256 + x.val)) (by omega), hM]
    have e' : (⟨256 + (p.val - 256), by omega⟩ : Fin 512) = p := Fin.ext (by show 256 + (p.val - 256) = p.val; omega)
    have e2 : ∀ k, 256 + ((p.val - 256) / 32 * 32 + k) = p.val / 32 * 32 + k := fun k => by omega
    rw [e, b (p.val - 256) (by omega), e', hg, show 256 + (p.val - 256) = p.val / 32 * 32 + p.val % 32 by omega]
    simp only [e2]

/-- The selected and the window keys' heads, normalised. -/
theorem norm2_at (M : FVec Ideal S256x256 .bf16)
    (hM : ∀ k j : Fin 256, M (ix2 k j) = if k.val / 64 = j.val / 64 then Ideal.ofBits .f32 0x3C800000#32 else (0 : EReal)) (p : Fin 256) :
    Y (ix2 r ⟨2176 + p.val, by omega⟩) * Ideal.rsqrt ((∑ x : Fin 256, Y (ix2 r ⟨2176 + x.val, by omega⟩) * Y (ix2 r ⟨2176 + x.val, by omega⟩) * M (ix2 x p))
        + Ideal.ofBits FTy.f32 0x358637BD#32)
      = P (2176 + (p.val / 64 * 64 + p.val % 64)) * Ideal.rsqrt (Ideal.div (∑ x : Fin 64, P (2176 + (p.val / 64 * 64 + x.val)) * P (2176 + (p.val / 64 * 64 + x.val)))
          (Ideal.ofBits FTy.f32 0x42800000#32) + Ideal.ofBits FTy.f32 0x358637BD#32) := by
  have e : ∑ x : Fin 256, Y (ix2 r ⟨2176 + x.val, by omega⟩) * Y (ix2 r ⟨2176 + x.val, by omega⟩) * M (ix2 x p)
      = ∑ k : Fin 256, P (2176 + k.val) * P (2176 + k.val) * (if k.val / 64 = p.val / 64 then Ideal.ofBits FTy.f32 0x3C800000#32 else 0) :=
    Finset.sum_congr rfl fun x _ => by rw [hP (2176 + x.val) (by omega), hM]
  rw [e, hP (2176 + p.val) (by omega), show p.val / 64 * 64 + p.val % 64 = p.val by omega]
  exact congrArg (fun z => P (2176 + p.val) * Ideal.rsqrt (z + _)) (mean64 (fun k => P (2176 + k)) p.val p.isLt)

/-- What is stored of the first keys: normalised, then rotated. -/
theorem first_at (M : FVec Ideal S256x256 .bf16) (gd : FVec Ideal S2x512 .f32) (T0 T1 T2 : Vec Ideal S1x512x128 .f32)
    (hM : ∀ k j : Fin 256, M (ix2 k j) = if k.val / 32 = j.val / 32 then Ideal.ofBits .f32 0x3D000000#32 else (0 : EReal))
    (gain : ℕ → EReal) (hg : ∀ p : Fin 512, gd (ix2 1 p) = gain (p.val % 32)) (s : ℕ)
    (h0 : ∀ l : Fin 128, T0 (ix3 0 r l) = tab0 4 0x40800000#32 s (l.val % 32))
    (h1 : ∀ l : Fin 128, T1 (ix3 0 r l) = tab1 4 0x40800000#32 s (l.val % 32))
    (h2 : ∀ l : Fin 128, T2 (ix3 0 r l) = tab2 4 0x40800000#32 s (l.val % 32)) (p : Fin 512) :
    k0_pay14 (F := Ideal) (k0_pay9 (F := Ideal) Y M gd) (k0_pay10 (F := Ideal) T2) (k0_pay11 (F := Ideal) Y M gd T0)
      (k0_pay12 (F := Ideal) Y M gd T1) (ix3 0 r p) = dkey P gain s p.val := by
  have hn : ∀ q : Fin 512, k0_pay9 (F := Ideal) Y M gd (ix2 r q) = nrm 32 0x42000000#32 (fun j => P (512 + (q.val / 32 * 32 + j))) gain (q.val % 32) :=
    fun q => norm1_at Y P r hP M gd hM gain q (hg q)
  have e0 : k0_pay11 (F := Ideal) Y M gd T0 (ix2 r p) = k0_pay9 (F := Ideal) Y M gd (ix2 r p) * tab0 4 0x40800000#32 s (p.val % 32) := by
    pointwise [k0_pay11]
    refine congrArg (k0_pay9 (F := Ideal) Y M gd (ix2 r p) * ·) ?_
    simp only [h0]
    split_ifs <;> exact congrArg (tab0 4 0x40800000#32 s) (by omega)
  have e1 : k0_pay12 (F := Ideal) Y M gd T1 (ix2 r p)
      = k0_pay9 (F := Ideal) Y M gd (ix2 r ⟨(p.val + 512 - 508) % 512, Nat.mod_lt _ (by decide)⟩) * tab1 4 0x40800000#32 s (p.val % 32) := by
    pointwise [k0_pay12]
    refine congrArg (k0_pay9 (F := Ideal) Y M gd (ix2 r ⟨(p.val + 512 - 508) % 512, Nat.mod_lt _ (by decide)⟩) * ·) ?_
    simp only [h1]
    split_ifs <;> exact congrArg (tab1 4 0x40800000#32 s) (by omega)
  have e2 : k0_pay10 (F := Ideal) T2 (ix2 r p) = tab2 4 0x40800000#32 s (p.val % 32) := by
    pointwise [k0_pay10]
    simp only [h2]
    split_ifs <;> exact congrArg (tab2 4 0x40800000#32 s) (by omega)
  unfold dkey
  pointwise [k0_pay14, k0_pay13]
  rw [e0, e1, e2, hn, hn, hn]
  refine turn_of 4 _ s _ _ rfl (fun h => ?_) (fun h h' => ?_)
  · show nrm 32 0x42000000#32 (fun j => P (512 + ((p.val + 512 - 508) % 512 / 32 * 32 + j))) gain ((p.val + 512 - 508) % 512 % 32) = _
    rw [show (p.val + 512 - 508) % 512 / 32 = p.val / 32 by omega, show (p.val + 512 - 508) % 512 % 32 = 4 + p.val % 32 by omega]
  · show nrm 32 0x42000000#32 (fun j => P (512 + ((p.val + 512 - 4) % 512 / 32 * 32 + j))) gain ((p.val + 512 - 4) % 512 % 32) = _
    rw [show (p.val + 512 - 4) % 512 / 32 = p.val / 32 by omega, show (p.val + 512 - 4) % 512 % 32 = p.val % 32 - 4 by omega]

/-- What is stored of the compressed keys: rotated. -/
theorem plain_at (T0 T1 T2 : Vec Ideal S1x512x128 .f32) (s : ℕ)
    (h0 : ∀ l : Fin 128, T0 (ix3 0 r l) = tab0 8 0x41000000#32 s (l.val % 64))
    (h1 : ∀ l : Fin 128, T1 (ix3 0 r l) = tab1 8 0x41000000#32 s (l.val % 64))
    (h2 : ∀ l : Fin 128, T2 (ix3 0 r l) = tab2 8 0x41000000#32 s (l.val % 64)) (p : Fin 128) :
    k0_pay28 (F := Ideal) (k0_pay25 (F := Ideal) Y) (k0_pay26 (F := Ideal) T0) (k0_pay27 (F := Ideal) T1) T2 (ix2 r p) = ckey P s p.val := by
  unfold ckey
  pointwise [k0_pay28, k0_pay25, k0_pay26, k0_pay27]
  rw [h0, h1, h2, hP (2048 + p.val) (by omega), hP (2048 + (p.val + 128 - 120) % 128) (by omega), hP (2048 + (p.val + 128 - 8) % 128) (by omega)]
  refine turn_of 8 _ s _ _ ?_ (fun h => ?_) (fun h h' => ?_)
  · exact congrArg P (by omega)
  · exact congrArg P (by omega)
  · exact congrArg P (by omega)

/-- What is stored of the selected and the window keys: normalised, then rotated. -/
theorem second_at (M : FVec Ideal S256x256 .bf16) (g : Vec Ideal S1x256 .f32) (T0 T1 T2 : Vec Ideal S1x512x128 .f32)
    (hM : ∀ k j : Fin 256, M (ix2 k j) = if k.val / 64 = j.val / 64 then Ideal.ofBits .f32 0x3C800000#32 else (0 : EReal))
    (gain : ℕ → ℕ → EReal) (hg : ∀ p : Fin 256, g (ix2 0 p) = gain (p.val / 128) (p.val % 64)) (s : ℕ)
    (h0 : ∀ l : Fin 128, T0 (ix3 0 r l) = tab0 8 0x41000000#32 s (l.val % 64))
    (h1 : ∀ l : Fin 128, T1 (ix3 0 r l) = tab1 8 0x41000000#32 s (l.val % 64))
    (h2 : ∀ l : Fin 128, T2 (ix3 0 r l) = tab2 8 0x41000000#32 s (l.val % 64)) (p : Fin 256) :
    k0_pay29 (F := Ideal) Y M g T0 T1 T2 (ix2 r p) = skey P gain s p.val := by
  have e0 : (if h : p.val < 128 then T0 (ix3 0 r ⟨p.val, h⟩) else T0 (ix3 0 r ⟨p.val - 128, by omega⟩)) = tab0 8 0x41000000#32 s (p.val % 64) := by
    simp only [h0]
    split_ifs <;> exact congrArg (tab0 8 0x41000000#32 s) (by omega)
  have e1 : (if h : p.val < 128 then T1 (ix3 0 r ⟨p.val, h⟩) else T1 (ix3 0 r ⟨p.val - 128, by omega⟩)) = tab1 8 0x41000000#32 s (p.val % 64) := by
    simp only [h1]
    split_ifs <;> exact congrArg (tab1 8 0x41000000#32 s) (by omega)
  have e2 : (if h : p.val < 128 then T2 (ix3 0 r ⟨p.val, h⟩) else T2 (ix3 0 r ⟨p.val - 128, by omega⟩)) = tab2 8 0x41000000#32 s (p.val % 64) := by
    simp only [h2]
    split_ifs <;> exact congrArg (tab2 8 0x41000000#32 s) (by omega)
  have up : (p.val + 256 - 248) % 256 < 256 := Nat.mod_lt _ (by decide)
  have down : (p.val + 256 - 8) % 256 < 256 := Nat.mod_lt _ (by decide)
  have n0 := norm2_at Y P r hP M hM p
  have n1 := norm2_at Y P r hP M hM ⟨(p.val + 256 - 248) % 256, up⟩
  have n2 := norm2_at Y P r hP M hM ⟨(p.val + 256 - 8) % 256, down⟩
  have g0 := hg p
  have g1 := hg ⟨(p.val + 256 - 248) % 256, up⟩
  have g2 := hg ⟨(p.val + 256 - 8) % 256, down⟩
  unfold skey
  pointwise [k0_pay29]
  rw [n0, n1, n2, g0, g1, g2, e0, e1, e2]
  refine turn_of 8 _ s _ _ rfl (fun h => ?_) (fun h h' => ?_)
  · show P (2176 + ((p.val + 256 - 248) % 256 / 64 * 64 + (p.val + 256 - 248) % 256 % 64))
        * Ideal.rsqrt (Ideal.div (∑ x : Fin 64, P (2176 + ((p.val + 256 - 248) % 256 / 64 * 64 + x.val)) * P (2176 + ((p.val + 256 - 248) % 256 / 64 * 64 + x.val)))
          (Ideal.ofBits FTy.f32 0x42800000#32) + Ideal.ofBits FTy.f32 0x358637BD#32) * gain ((p.val + 256 - 248) % 256 / 128) ((p.val + 256 - 248) % 256 % 64) = _
    rw [show (p.val + 256 - 248) % 256 / 64 = p.val / 64 by omega, show (p.val + 256 - 248) % 256 % 64 = 8 + p.val % 64 by omega,
      show (p.val + 256 - 248) % 256 / 128 = p.val / 128 by omega]
    rfl
  · show P (2176 + ((p.val + 256 - 8) % 256 / 64 * 64 + (p.val + 256 - 8) % 256 % 64))
        * Ideal.rsqrt (Ideal.div (∑ x : Fin 64, P (2176 + ((p.val + 256 - 8) % 256 / 64 * 64 + x.val)) * P (2176 + ((p.val + 256 - 8) % 256 / 64 * 64 + x.val)))
          (Ideal.ofBits FTy.f32 0x42800000#32) + Ideal.ofBits FTy.f32 0x358637BD#32) * gain ((p.val + 256 - 8) % 256 / 128) ((p.val + 256 - 8) % 256 % 64) = _
    rw [show (p.val + 256 - 8) % 256 / 64 = p.val / 64 by omega, show (p.val + 256 - 8) % 256 % 64 = p.val % 64 - 8 by omega,
      show (p.val + 256 - 8) % 256 / 128 = p.val / 128 by omega]
    rfl

/-- What is stored of the first values. -/
theorem value1_at (p : Fin 512) : k0_pay17 (F := Ideal) Y (ix3 0 r p) = P (1024 + p.val) := by
  pointwise [k0_pay17, k0_pay16]
  exact hP (1024 + p.val) (by omega)

/-- What is stored of the second values. -/
theorem value2_at (p : Fin 256) : k0_pay33 (F := Ideal) (k0_pay30 (F := Ideal) Y) (ix3 0 r p) = P (2432 + p.val) := by
  pointwise [k0_pay33, k0_pay30]
  exact hP (2432 + p.val) (by omega)

/-- What is stored of the window's keys and values. -/
theorem window_at (U : FVec Ideal S512x256 .f32) (p : Fin 256) :
    k0_pay34 (F := Ideal) U (k0_pay30 (F := Ideal) Y) (ix3 0 r p)
      = if h : p.val < 128 then U (ix2 r ⟨128 + p.val, by omega⟩) else P (2432 + (128 + p.val)) := by
  pointwise [k0_pay34, k0_pay30]
  by_cases q : p.val < 128
  · rw [dif_pos q, dif_pos q]
  · rw [dif_neg q, dif_neg q, hP (2432 + (256 + (p.val - 128))) (by omega)]
    exact congrArg P (by omega)

end Groups

/-- The compressed and the selected keys, side by side. -/
theorem pair_at (Y : FVec Ideal S512x2944 .f32) (M : FVec Ideal S256x256 .bf16) (a b c : FVec Ideal S512x128 .f32) (d : Vec Ideal S1x512x128 .f32)
    (g : Vec Ideal S1x256 .f32) (T0 T1 T2 : Vec Ideal S1x512x128 .f32) (r : Fin 512) (p : Fin 256) :
    k0_pay32 (F := Ideal) (k0_pay31 (F := Ideal) Y M a b c d g T0 T1 T2) (ix3 0 r p)
      = if h : p.val < 128 then k0_pay28 (F := Ideal) a b c d (ix2 r ⟨p.val, h⟩)
        else k0_pay29 (F := Ideal) Y M g T0 T1 T2 (ix2 r ⟨p.val - 128, by omega⟩) := by
  pointwise [k0_pay32, k0_pay31]

end Cert.Kernel3Ideal.Keys
-- ==== Proof.ProjHost.lean ====
/- The arrays the projection's host code prepares, entry by entry. -/
module

public import proofs.«01_k».proof.Proof.Gen.Kernel3Ideal.Frame
public import proofs.«01_k».proof.Proof.ProjSpec
public import Idealize.ShloMosaic.Lib.StableHlo.ReadAt

@[expose] public section

set_option maxRecDepth 16384

noncomputable section

namespace Cert.Kernel3Ideal.Keys

open Idealize.ShloMosaic Idealize.ShloMosaic.TcCoe Idealize.ShloMosaic.Tactic Idealize.SL.Sem
open Cert.Kernel3Ideal Cert.Kernel3Ideal.Gen
open Cert.Proj

/-- A word over a divisor, rounded down, in the host's operations. -/
def fdiv (k d : BitVec 32) : BitVec 32 :=
  Scalar.select
    (IntOp.andi
      (IntOp.cmpi .ne (if k = 0 then 0 else if k.msb = true then -1 else 1 : BitVec 32) (if d = 0 then 0 else if d.msb = true then -1 else 1))
      (IntOp.cmpi .ne (IntOp.remsi ArithUnit.host k d) 0#32))
    (IntOp.subi (IntOp.divsi ArithUnit.host k d) 1#32)
    (IntOp.divsi ArithUnit.host k d)

/-- Over 32. -/
theorem fdiv32 : ∀ k : Fin 256, fdiv (BitVec.ofNat 32 k.val) 32#32 = BitVec.ofNat 32 (k.val / 32) := by decide +kernel

/-- Over 64. -/
theorem fdiv64 : ∀ k : Fin 256, fdiv (BitVec.ofNat 32 k.val) 64#32 = BitVec.ofNat 32 (k.val / 64) := by decide +kernel

/-- A choice by equality of two small words. -/
theorem choose_eq {a b : ℕ} (ha : a < 256) (hb : b < 256) (x y : EReal) :
    Scalar.select (IntOp.cmpi .eq (BitVec.ofNat 32 a) (BitVec.ofNat 32 b)) x y = if a = b then x else y := by
  have e : (BitVec.ofNat 32 a == BitVec.ofNat 32 b) = decide (a = b) := by
    by_cases h : a = b
    · subst h; simp
    · rw [decide_eq_false h]
      refine beq_eq_false_iff_ne.mpr fun q => h ?_
      have := congrArg BitVec.toNat q
      simp only [BitVec.toNat_ofNat] at this
      omega
  show Scalar.select (BitVec.ofBool (BitVec.ofNat 32 a == BitVec.ofNat 32 b)) x y = _
  rw [e]
  by_cases h : a = b
  · rw [if_pos h, decide_eq_true h]; rfl
  · rw [if_neg h, decide_eq_false h]; rfl

variable (m : (ℓ : Loc nD τ sig) → Buf (Elt Ideal) ℓ) (c : Dev nD)

set_option maxHeartbeats 4000000

/-- The weight, with its columns padded. -/
theorem w_at (d : Fin 1024) (n : Fin 2944) (h : n.val < 2840) :
    V m c main_v2 (ix2 d n) = m ((c : Thread nD τ).loc main_arg4) (ix2 d ⟨n.val, h⟩) := by
  unfold_abbrev_sides
  simp only [List.flatten_cons, List.flatten_nil, List.append_nil]
  after_reads_at
  rw [dif_pos h]

/-- The input norm's gain, as a row. -/
theorem g_at (p : Fin 1024) : V m c main_v0 (ix2 0 p) = m ((c : Thread nD τ).loc main_arg3) (ix1 p) := by
  unfold_abbrev_sides
  simp only [List.flatten_cons, List.flatten_nil, List.append_nil]
  after_reads_at

/-- The first keys' gain, once per head. -/
theorem gd_at (p : Fin 512) : V m c main_v11 (ix2 1 p) = m ((c : Thread nD τ).loc main_arg6) (ix1 ⟨p.val % 32, by omega⟩) := by
  unfold_abbrev_sides
  simp only [List.flatten_cons, List.flatten_nil, List.append_nil]
  after_reads_at

/-- The second keys' gains, once per head. -/
theorem gk_at (p : Fin 256) : V m c main_v27 (ix2 0 p) = m ((c : Thread nD τ).loc main_arg8) (ix2 ⟨p.val / 128, by omega⟩ ⟨p.val % 64, by omega⟩) := by
  unfold_abbrev_sides
  simp only [List.flatten_cons, List.flatten_nil, List.append_nil]
  after_reads_at
  after_reads_at
  by_cases h : p.val < 128
  · rw [dif_pos h]
    have e : (⟨p.val / 128, by omega⟩ : Fin 2) = 0 := Fin.ext (by show p.val / 128 = 0; omega)
    rw [e]
  · rw [dif_neg h]
    have e : (⟨p.val / 128, by omega⟩ : Fin 2) = 1 := Fin.ext (by show p.val / 128 = 1; omega)
    have e' : (⟨(p.val - 128) % 64, by omega⟩ : Fin 64) = ⟨p.val % 64, by omega⟩ := Fin.ext (by show (p.val - 128) % 64 = p.val % 64; omega)
    rw [e, e']

/-- The matrix that averages groups of 32. -/
theorem m32_at (k j : Fin 256) : V m c main_v37 (ix2 k j) = if k.val / 32 = j.val / 32 then Ideal.ofBits .f32 0x3D000000#32 else (0:EReal) := by
  unfold_abbrev_sides
  simp only [List.flatten_cons, List.flatten_nil, List.append_nil]
  after_reads_at
  refine Eq.trans ?_ (choose_eq (by omega) (by omega) _ _)
  refine congrArg (fun a => Scalar.select a _ _) (congrArg₂ (IntOp.cmpi .eq) ?_ ?_)
  · exact Eq.trans rfl (fdiv32 k)
  · exact Eq.trans rfl (fdiv32 j)

/-- The matrix that averages groups of 64. -/
theorem m64_at (k j : Fin 256) : V m c main_v47 (ix2 k j) = if k.val / 64 = j.val / 64 then Ideal.ofBits .f32 0x3C800000#32 else (0:EReal) := by
  unfold_abbrev_sides
  simp only [List.flatten_cons, List.flatten_nil, List.append_nil]
  after_reads_at
  refine Eq.trans ?_ (choose_eq (by omega) (by omega) _ _)
  refine congrArg (fun a => Scalar.select a _ _) (congrArg₂ (IntOp.cmpi .eq) ?_ ?_)
  · exact Eq.trans rfl (fdiv64 k)
  · exact Eq.trans rfl (fdiv64 j)

/-- The first keys' table 0. -/
theorem td0_at (s : Fin 4096) (l : Fin 128) : V m c main_v83 (ix3 0 s l) = tab0 4 0x40800000#32 s.val (l.val % 32) := by
  unfold_abbrev_sides
  simp only [List.flatten_cons, List.flatten_nil, List.append_nil]
  after_reads_at
  after_reads_at
  after_reads_at
  unfold tab0
  simp only [dite_eq_ite]
  rfl

/-- The first keys' table 1. -/
theorem td1_at (s : Fin 4096) (l : Fin 128) : V m c main_v83 (ix3 1 s l) = tab1 4 0x40800000#32 s.val (l.val % 32) := by
  unfold_abbrev_sides
  simp only [List.flatten_cons, List.flatten_nil, List.append_nil]
  after_reads_at
  after_reads_at
  after_reads_at
  unfold tab1
  simp only [dite_eq_ite]
  rfl

/-- The first keys' table 2. -/
theorem td2_at (s : Fin 4096) (l : Fin 128) : V m c main_v83 (ix3 2 s l) = tab2 4 0x40800000#32 s.val (l.val % 32) := by
  unfold_abbrev_sides
  simp only [List.flatten_cons, List.flatten_nil, List.append_nil]
  after_reads_at
  after_reads_at
  after_reads_at
  unfold tab2
  simp only [dite_eq_ite]
  rfl

/-- The second keys' table 0. -/
theorem tn0_at (s : Fin 4096) (l : Fin 128) : V m c main_v118 (ix3 0 s l) = tab0 8 0x41000000#32 s.val (l.val % 64) := by
  unfold_abbrev_sides
  simp only [List.flatten_cons, List.flatten_nil, List.append_nil]
  after_reads_at
  after_reads_at
  after_reads_at
  unfold tab0
  simp only [dite_eq_ite]
  rfl

/-- The second keys' table 1. -/
theorem tn1_at (s : Fin 4096) (l : Fin 128) : V m c main_v118 (ix3 1 s l) = tab1 8 0x41000000#32 s.val (l.val % 64) := by
  unfold_abbrev_sides
  simp only [List.flatten_cons, List.flatten_nil, List.append_nil]
  after_reads_at
  after_reads_at
  after_reads_at
  unfold tab1
  simp only [dite_eq_ite]
  rfl

/-- The second keys' table 2. -/
theorem tn2_at (s : Fin 4096) (l : Fin 128) : V m c main_v118 (ix3 2 s l) = tab2 8 0x41000000#32 s.val (l.val % 64) := by
  unfold_abbrev_sides
  simp only [List.flatten_cons, List.flatten_nil, List.append_nil]
  after_reads_at
  after_reads_at
  after_reads_at
  unfold tab2
  simp only [dite_eq_ite]
  rfl

end Cert.Kernel3Ideal.Keys
-- ==== Proof.ProjRef.lean ====
/- The projection's reference over extended reals, entry by entry. -/
module

public import proofs.«01_k».proof.Proof.Gen.Reference3Ideal.Run
public import proofs.«01_k».proof.Proof.ProjSpec

@[expose] public section

set_option maxRecDepth 16384

noncomputable section

namespace Cert.Reference3Ideal.Keys

open Idealize.ShloMosaic Idealize.ShloMosaic.TcCoe Idealize.ShloMosaic.Tactic Idealize.SL.Sem Idealize.ShloMosaic.StableHlo
open Cert.Reference3Ideal Cert.Reference3Ideal.Gen Cert.Reference3Ideal.Value
open Cert.Proj

/-- A row of the input's projection. -/
def row (X : FVec Ideal S8x4096x1024 .f32) (SH SC : FVec Ideal S8x1x1024 .f32) (G : FVec Ideal S1024 .f32)
    (W : FVec Ideal S1024x2840 .f32) (b : Fin 8) (s : Fin 4096) : ℕ → EReal :=
  prj (fun d => X (ix3 b s d)) (fun d => SH (ix3 b 0 d)) (fun d => SC (ix3 b 0 d)) (fun d => G (ix1 d))
    (fun d n => if h : n < 2840 then W (ix2 d ⟨n, h⟩) else 0)

/-- The gain of the first keys. -/
def gain1 (g : FVec Ideal S32 .f32) (j : ℕ) : EReal := if h : j < 32 then g (ix1 ⟨j, h⟩) else 0

/-- The gains of the second keys. -/
def gain2 (g : FVec Ideal S2x64 .f32) (i j : ℕ) : EReal := if h : i < 2 ∧ j < 64 then g (ix2 ⟨i, h.1⟩ ⟨j, h.2⟩) else 0

section Results
variable (X : FVec Ideal S8x4096x1024 .f32) (SH SC : FVec Ideal S8x1x1024 .f32) (G : FVec Ideal S1024 .f32)
    (W : FVec Ideal S1024x2840 .f32) (gd : FVec Ideal S32 .f32) (gk : FVec Ideal S2x64 .f32)

/-- The first keys. -/
def DK : FVec Ideal S8x4096x512 .f32 := fun i => dkey (row X SH SC G W (i 0) (i 1)) (gain1 gd) (i 1).val (i 2).val
/-- The first values. -/
def DV : FVec Ideal S8x4096x512 .f32 := fun i => row X SH SC G W (i 0) (i 1) (1024 + (i 2).val)
/-- The compressed and the selected keys. -/
def NK : FVec Ideal S8x4096x256 .f32 := fun i =>
  if (i 2).val < 128 then ckey (row X SH SC G W (i 0) (i 1)) (i 1).val (i 2).val
  else skey (row X SH SC G W (i 0) (i 1)) (gain2 gk) (i 1).val ((i 2).val - 128)
/-- The compressed and the selected values. -/
def NV : FVec Ideal S8x4096x256 .f32 := fun i => row X SH SC G W (i 0) (i 1) (2432 + (i 2).val)
/-- The window's keys and values. -/
def WIN : FVec Ideal S8x4096x256 .f32 := fun i =>
  if (i 2).val < 128 then skey (row X SH SC G W (i 0) (i 1)) (gain2 gk) (i 1).val (128 + (i 2).val)
  else row X SH SC G W (i 0) (i 1) (2432 + (128 + (i 2).val))
end Results

variable (V0 : Valuation τ sig (Elt Ideal))

/-- The projection's row, of the launch's arguments. -/
abbrev rowOf (b : Fin 8) (s : Fin 4096) : ℕ → EReal :=
  row (V0 (Proc.devRef .tc main_arg0)) (V0 (Proc.devRef .tc main_arg1)) (V0 (Proc.devRef .tc main_arg2))
    (V0 (Proc.devRef .tc main_arg3)) (V0 (Proc.devRef .tc main_arg4)) b s

/-- The projection. -/
theorem proj_at (b : Fin 8) (s : Fin 4096) (n : Fin 2840) : res_main_v20 V0 (ix3 b s n) = rowOf V0 b s n.val := by
  unfold rowOf row prj
  simp only [dif_pos n.isLt]
  pointwise [res_main_v20]

/-- The first keys' heads, normalised. -/
theorem norm1_at (b : Fin 8) (s : Fin 4096) (n : Fin 16) (j : Fin 32) :
    res_main_v41 V0 (ix4 b s n j) = nrm 32 0x42000000#32 (fun x => rowOf V0 b s (512 + (n.val * 32 + x))) (gain1 (V0 (Proc.devRef .tc main_arg6))) j.val := by
  unfold nrm gain1
  rw [dif_pos j.isLt]
  pointwise [res_main_v41, res_main_v28]
  simp only [proj_at]

/-- The selected keys' heads, normalised. -/
theorem norm2_at (b : Fin 8) (s : Fin 4096) (n : Fin 2) (j : Fin 64) :
    res_main_v130 V0 (ix4 b s n j) = nrm 64 0x42800000#32 (fun x => rowOf V0 b s (2176 + (n.val * 64 + x))) (gain2 (V0 (Proc.devRef .tc main_arg8)) 0) j.val := by
  unfold nrm gain2
  rw [dif_pos ⟨by decide, j.isLt⟩]
  pointwise [res_main_v130, res_main_v115, res_main_v76]
  simp only [proj_at]
  have e : ∀ k, 2048 + (128 + n.val * 64 + k) = 2176 + (n.val * 64 + k) := fun k => by omega
  simp only [e]

/-- The window keys' heads, normalised. -/
theorem norm3_at (b : Fin 8) (s : Fin 4096) (n : Fin 2) (j : Fin 64) :
    res_main_v181 V0 (ix4 b s n j) = nrm 64 0x42800000#32 (fun x => rowOf V0 b s (2176 + ((2 + n.val) * 64 + x))) (gain2 (V0 (Proc.devRef .tc main_arg8)) 1) j.val := by
  unfold nrm gain2
  rw [dif_pos ⟨by decide, j.isLt⟩]
  pointwise [res_main_v181, res_main_v166, res_main_v76]
  simp only [proj_at]
  have e : ∀ k, 2048 + (256 + n.val * 64 + k) = 2176 + ((2 + n.val) * 64 + k) := fun k => by omega
  simp only [e]

/-- The angles of the first keys. -/
theorem ang1_at (s : Fin 4096) (i : Fin 4) : res_main_v53 V0 (ix2 s i) = ang 0x40800000#32 s.val i.val := by
  unfold ang
  pointwise [res_main_v53, res_main_v0]

/-- The angles of the compressed keys. -/
theorem ang2_at (s : Fin 4096) (i : Fin 8) : res_main_v91 V0 (ix2 s i) = ang 0x41000000#32 s.val i.val := by
  unfold ang
  pointwise [res_main_v91, res_main_v0]

/-- The angles of the selected keys. -/
theorem ang3_at (s : Fin 4096) (i : Fin 8) : res_main_v142 V0 (ix2 s i) = ang 0x41000000#32 s.val i.val := by
  unfold ang
  pointwise [res_main_v142, res_main_v0]

/-- The angles of the window keys. -/
theorem ang4_at (s : Fin 4096) (i : Fin 8) : res_main_v193 V0 (ix2 s i) = ang 0x41000000#32 s.val i.val := by
  unfold ang
  pointwise [res_main_v193, res_main_v0]

end Cert.Reference3Ideal.Keys
-- ==== Proof.ProjRefRun.lean ====
/- What the projection's reference returns. -/
module

public import proofs.«01_k».proof.Proof.ProjRef

@[expose] public section

set_option maxRecDepth 16384

noncomputable section

namespace Cert.Reference3Ideal.Keys

open Idealize.ShloMosaic Idealize.ShloMosaic.TcCoe Idealize.ShloMosaic.Tactic Idealize.SL.Sem Idealize.ShloMosaic.StableHlo
open Cert.Reference3Ideal Cert.Reference3Ideal.Gen Cert.Reference3Ideal.Value
open Cert.Proj

set_option maxHeartbeats 4000000 in
/-- The run, with its five results and its arguments. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v224) = DK (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v23) = DV (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v225) = NK (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg8))
      ∧ r.2.mem ((c.tc : Thread nD τ).loc main_v227) = NV (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v228) = WIN (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run (defs (F := Ideal)) _ _).mono (fun r h c => ⟨?_, ?_, ?_, ?_, ?_, (h c).2.2.2.2.2⟩) (Value.run (F := Ideal) m ρ)
  · refine (h c).1.trans ?_
    clear h
    funext i
    revert i
    show ∀ i : S8x4096x512.Idx, _
    intro i
    idx_vars i
    show _ = dkey (rowOf (launchContents m c) i0 i1) (gain1 (launchContents m c (Proc.devRef .tc main_arg6))) i1.val i2.val
    generalize launchContents m c = V0
    unfold dkey
    refine Eq.trans ?_ (turn_split 4 8 _ _ _ _ rfl)
    pointwise [res_main_v55, res_main_v57, res_main_v58, res_main_v59]
    simp only [norm1_at, ang1_at, dite_eq_ite]
  · refine (h c).2.1.trans ?_
    clear h
    funext i
    revert i
    show ∀ i : S8x4096x512.Idx, _
    intro i
    idx_vars i
    show _ = rowOf (launchContents m c) i0 i1 (1024 + i2.val)
    generalize launchContents m c = V0
    pointwise []
    rw [proj_at]
  · refine (h c).2.2.1.trans ?_
    clear h
    funext i
    revert i
    show ∀ i : S8x4096x256.Idx, _
    intro i
    idx_vars i
    show _ = if i2.val < 128 then ckey (rowOf (launchContents m c) i0 i1) i1.val i2.val else skey (rowOf (launchContents m c) i0 i1) (gain2 (launchContents m c (Proc.devRef .tc main_arg8))) i1.val (i2.val - 128)
    generalize launchContents m c = V0
    unfold ckey skey
    rw [← turn_split 8 16 _ _ _ _ rfl, ← turn_split 8 16 _ _ _ _ rfl]
    pointwise [res_main_v76, res_main_v79, res_main_v93, res_main_v95, res_main_v96, res_main_v97, res_main_v144, res_main_v146, res_main_v147, res_main_v148]
    simp only [norm2_at, ang2_at, ang3_at, proj_at, dite_eq_ite]
    by_cases q : i2.val < 128
    · rw [if_pos (show i2.val / 128 < 1 by omega), if_pos q]
      have e : i2.val / 64 % 2 = i2.val / 64 := by omega
      simp only [e]
    · rw [if_neg (show ¬ i2.val / 128 < 1 by omega), if_neg q]
      have e : (i2.val - 128) / 64 = i2.val / 64 % 2 := by omega
      have e1 : (i2.val - 128) % 64 = i2.val % 64 := by omega
      have e2 : (i2.val - 128) / 128 = 0 := by omega
      simp only [e, e1, e2]
  · refine (h c).2.2.2.1.trans ?_
    clear h
    funext i
    revert i
    show ∀ i : S8x4096x256.Idx, _
    intro i
    idx_vars i
    show _ = (rowOf (launchContents m c) i0 i1) (2432 + i2.val)
    generalize launchContents m c = V0
    pointwise [res_main_v77]
    rw [proj_at]
    exact congrArg (rowOf V0 i0 i1) (by show 2432 + (i2.val / 128 * 128 + i2.val / 64 % 2 * 64 + i2.val % 64) = _; omega)
  · refine (h c).2.2.2.2.1.trans ?_
    clear h
    funext i
    revert i
    show ∀ i : S8x4096x256.Idx, _
    intro i
    idx_vars i
    show _ = if i2.val < 128 then skey (rowOf (launchContents m c) i0 i1) (gain2 (launchContents m c (Proc.devRef .tc main_arg8))) i1.val (128 + i2.val) else (rowOf (launchContents m c) i0 i1) (2432 + (128 + i2.val))
    generalize launchContents m c = V0
    unfold skey
    rw [← turn_split 8 16 _ _ _ _ rfl]
    pointwise [res_main_v77, res_main_v195, res_main_v197, res_main_v198, res_main_v199]
    simp only [norm3_at, ang4_at, proj_at, dite_eq_ite]
    by_cases q : i2.val < 128
    · rw [if_pos (show i2.val / 128 < 1 by omega), if_pos q]
      have e : (128 + i2.val) / 64 = 2 + i2.val / 64 % 2 := by omega
      have e1 : (128 + i2.val) % 64 = i2.val % 64 := by omega
      have e2 : (128 + i2.val) / 128 = 1 := by omega
      simp only [e, e1, e2]
    · rw [if_neg (show ¬ i2.val / 128 < 1 by omega), if_neg q]
      exact congrArg (rowOf V0 i0 i1) (by omega)

end Cert.Reference3Ideal.Keys
-- ==== Proof.ProjValue.lean ====
/- The projection's five results over extended reals: what the kernel leaves in memory is what the reference returns. -/
module

public import proofs.«01_k».proof.Defs
public import proofs.«01_k».proof.Proof.ProjPay
public import proofs.«01_k».proof.Proof.ProjHost
public import proofs.«01_k».proof.Proof.ProjRefRun
public import proofs.«01_k».proof.Proof.Gen.Kernel3Ideal
public import Idealize.ShloMosaic.Lib.Pipeline.ValueKit
public import Idealize.ShloMosaic.Lib.Claim

@[expose] public section

set_option maxRecDepth 16384

noncomputable section

namespace Cert.Kernel3Ideal.Keys

open Idealize.ShloMosaic Idealize.ShloMosaic.TcCoe Idealize.ShloMosaic.Tactic Idealize.SL.Sem
open Cert.Kernel3Ideal Cert.Kernel3Ideal.Gen
open Cert.Proj
open Cert.Reference3Ideal.Keys (row gain1 gain2 DK DV NK NV WIN)

variable (m : (ℓ : Loc nD τ sig) → Buf (Elt Ideal) ℓ) (c : Dev nD)

/-- Where each operand's block lies at each grid point. -/
theorem idx : ∀ t : Fin cfg0.N, win0_0.index t = ![(grid0.coords t 1).val, (grid0.coords t 0).val, 0]
    ∧ win0_1.index t = ![(grid0.coords t 1).val, 0, 0]
    ∧ win0_2.index t = ![(grid0.coords t 1).val, 0, 0]
    ∧ win0_3.index t = ![0, 0]
    ∧ win0_4.index t = ![0, 0]
    ∧ win0_5.index t = ![0, 0]
    ∧ win0_7.index t = ![0, 0]
    ∧ win0_8.index t = ![0, 0]
    ∧ win0_9.index t = ![0, 0]
    ∧ win0_10.index t = ![0, (grid0.coords t 0).val, 0]
    ∧ win0_11.index t = ![0, (grid0.coords t 0).val, 0]
    ∧ (grid0.coords t 0).val < 8 ∧ (grid0.coords t 1).val < 8 :=
  (by decide +kernel : ∀ t : Fin grid0.N, _)

/-- Where each result's block lies at each grid point. -/
theorem idx_out : ∀ t : Fin cfg0.N, win0_13.index t = ![(grid0.coords t 1).val, (grid0.coords t 0).val, 0]
    ∧ win0_15.index t = ![(grid0.coords t 1).val, (grid0.coords t 0).val, 0]
    ∧ win0_18.index t = ![(grid0.coords t 1).val, (grid0.coords t 0).val, 0]
    ∧ win0_19.index t = ![(grid0.coords t 1).val, (grid0.coords t 0).val, 0]
    ∧ win0_20.index t = ![(grid0.coords t 1).val, (grid0.coords t 0).val, 0] :=
  (by decide +kernel : ∀ t : Fin grid0.N, _)

/-- The batch row of a grid point. -/
def brow (t : Fin cfg0.N) : Fin 8 := ⟨(grid0.coords t 1).val, (idx t).2.2.2.2.2.2.2.2.2.2.2.2⟩

/-- The position in the sequence of a block's row. -/
def place (t : Fin cfg0.N) (r : Fin 512) : Fin 4096 :=
  ⟨512 * (grid0.coords t 0).val + r.val, by have := (idx t).2.2.2.2.2.2.2.2.2.2.2.1; omega⟩

/-- The rows read are the input's. -/
theorem read_x (t : Fin cfg0.N) (r : Fin 512) (d : Fin 1024) :
    iblk m c 0 t (ix3 0 r d) = m ((c : Thread nD τ).loc main_arg0) (ix3 (brow t) (place t r) d) := by
  blk_simp [iblk, idx t]
  blk_ext [idx t, brow, place]

/-- The shift read is the batch row's. -/
theorem read_sh (t : Fin cfg0.N) (d : Fin 1024) :
    iblk m c 1 t (ix3 0 0 d) = m ((c : Thread nD τ).loc main_arg1) (ix3 (brow t) 0 d) := by
  blk_simp [iblk, idx t]
  blk_ext [idx t, brow, place]

/-- The scale read is the batch row's. -/
theorem read_sc (t : Fin cfg0.N) (d : Fin 1024) :
    iblk m c 2 t (ix3 0 0 d) = m ((c : Thread nD τ).loc main_arg2) (ix3 (brow t) 0 d) := by
  blk_simp [iblk, idx t]
  blk_ext [idx t, brow, place]

/-- The gain is read whole. -/
theorem read_g (t : Fin cfg0.N) (d : Fin 1024) :
    iblk m c 3 t (ix2 0 d) = V m c main_v0 (ix2 0 d) := by
  blk_simp [iblk, idx t]
  blk_ext [idx t, brow, place]

/-- The weight is read whole. -/
theorem read_w (t : Fin cfg0.N) (d : Fin 1024) (n : Fin 2944) :
    iblk m c 4 t (ix2 d n) = V m c main_v2 (ix2 d n) := by
  blk_simp [iblk, idx t]
  blk_ext [idx t, brow, place]

/-- The first gains are read whole. -/
theorem read_gd (t : Fin cfg0.N) (i : Fin 2) (d : Fin 512) :
    iblk m c 5 t (ix2 i d) = V m c main_v11 (ix2 i d) := by
  blk_simp [iblk, idx t]
  blk_ext [idx t, brow, place]

/-- The second gains are read whole. -/
theorem read_gk (t : Fin cfg0.N) (d : Fin 256) :
    iblk m c 7 t (ix2 0 d) = V m c main_v27 (ix2 0 d) := by
  blk_simp [iblk, idx t]
  blk_ext [idx t, brow, place]

/-- The averaging matrix of 32 is read whole. -/
theorem read_m32 (t : Fin cfg0.N) (k j : Fin 256) :
    iblk m c 8 t (ix2 k j) = V m c main_v37 (ix2 k j) := by
  blk_simp [iblk, idx t]
  blk_ext [idx t, brow, place]

/-- The averaging matrix of 64 is read whole. -/
theorem read_m64 (t : Fin cfg0.N) (k j : Fin 256) :
    iblk m c 9 t (ix2 k j) = V m c main_v47 (ix2 k j) := by
  blk_simp [iblk, idx t]
  blk_ext [idx t, brow, place]

/-- The first tables' rows are the positions'. -/
theorem read_td (t : Fin cfg0.N) (i : Fin 3) (r : Fin 512) (l : Fin 128) :
    iblk m c 10 t (ix3 i r l) = V m c main_v83 (ix3 i (place t r) l) := by
  blk_simp [iblk, idx t]
  blk_ext [idx t, brow, place]

/-- The second tables' rows are the positions'. -/
theorem read_tn (t : Fin cfg0.N) (i : Fin 3) (r : Fin 512) (l : Fin 128) :
    iblk m c 11 t (ix3 i r l) = V m c main_v118 (ix3 i (place t r) l) := by
  blk_simp [iblk, idx t]
  blk_ext [idx t, brow, place]

/-- A load of table 0. -/
theorem load0 (X : Vec Ideal S3x512x128 .f32) (r : Fin 512) (l : Fin 128) : View.ld X r0_6 (ix3 0 r l) = X (ix3 0 r l) :=
  View.ld_unit_apply_of X ![0, 0, 0] S1x512x128.size inb_S3x512x128_S1x512x128_0_0_0 _ _ fun a => match a with
    | ⟨0, _⟩ => rfl
    | ⟨1, _⟩ => (Nat.zero_add _).symm
    | ⟨2, _⟩ => (Nat.zero_add _).symm

/-- A load of table 1. -/
theorem load1 (X : Vec Ideal S3x512x128 .f32) (r : Fin 512) (l : Fin 128) : View.ld X r0_7 (ix3 0 r l) = X (ix3 1 r l) :=
  View.ld_unit_apply_of X ![1, 0, 0] S1x512x128.size inb_S3x512x128_S1x512x128_1_0_0 _ _ fun a => match a with
    | ⟨0, _⟩ => rfl
    | ⟨1, _⟩ => (Nat.zero_add _).symm
    | ⟨2, _⟩ => (Nat.zero_add _).symm

/-- A load of table 2. -/
theorem load2 (X : Vec Ideal S3x512x128 .f32) (r : Fin 512) (l : Fin 128) : View.ld X r0_8 (ix3 0 r l) = X (ix3 2 r l) :=
  View.ld_unit_apply_of X ![2, 0, 0] S1x512x128.size inb_S3x512x128_S1x512x128_2_0_0 _ _ fun a => match a with
    | ⟨0, _⟩ => rfl
    | ⟨1, _⟩ => (Nat.zero_add _).symm
    | ⟨2, _⟩ => (Nat.zero_add _).symm

/-- The projection of a grid point's rows. -/
abbrev Y (t : Fin cfg0.N) : FVec Ideal S512x2944 .f32 := k0_pay38 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The reference's projection of a row of a grid point. -/
abbrev rowOf (t : Fin cfg0.N) (r : Fin 512) : ℕ → EReal :=
  row (m ((c : Thread nD τ).loc main_arg0)) (m ((c : Thread nD τ).loc main_arg1)) (m ((c : Thread nD τ).loc main_arg2)) (m ((c : Thread nD τ).loc main_arg3)) (m ((c : Thread nD τ).loc main_arg4)) (brow t) (place t r)

/-- Projections of equal operands are equal. -/
theorem prj_congr {x x' sh sh' sc sc' g g' : Fin 1024 → EReal} (hx : x = x') (hsh : sh = sh') (hsc : sc = sc') (hg : g = g')
    (w : Fin 1024 → ℕ → EReal) (n : ℕ) : prj x sh sc g w n = prj x' sh' sc' g' w n := by
  rw [hx, hsh, hsc, hg]

/-- The kernel's projection is the reference's. -/
theorem rows_at (t : Fin cfg0.N) (r : Fin 512) (n : ℕ) (h : n < 2840) : Y m c t (ix2 r ⟨n, lt_wide h⟩) = rowOf m c t r n := by
  unfold Y k0_pay38
  simp (disch := decide) only [View.ld_unit_lit']
  refine (proj_at (iblk m c 0 t) (iblk m c 3 t) (iblk m c 2 t) (iblk m c 1 t) (iblk m c 4 t) r ⟨n, lt_wide h⟩
    (fun d n => if h : n < 2840 then m ((c : Thread nD τ).loc main_arg4) (ix2 d ⟨n, h⟩) else 0) (fun d => ?_)).trans ?_
  · rw [read_w, w_at m c d _ h]
    exact (dif_pos (c := n < 2840) (t := fun h => m ((c : Thread nD τ).loc main_arg4) (ix2 d ⟨n, h⟩)) (e := fun _ => (0 : EReal)) h).symm
  · exact prj_congr (funext (read_x m c t r)) (funext (read_sh m c t)) (funext (read_sc m c t))
      (funext fun d => (read_g m c t d).trans (g_at m c d)) _ n

/-- The averaging matrix of 32. -/
theorem avg32 (t : Fin cfg0.N) (k j : Fin 256) :
    k0_pay39 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 k j) = if k.val / 32 = j.val / 32 then Ideal.ofBits .f32 0x3D000000#32 else (0 : EReal) := by
  rw [← m32_at m c, ← read_m32 m c t]
  unfold k0_pay39
  simp (disch := decide) only [View.ld_unit_lit']
  pointwise [k0_pay3]

/-- The averaging matrix of 64. -/
theorem avg64 (t : Fin cfg0.N) (k j : Fin 256) :
    k0_pay40 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 k j) = if k.val / 64 = j.val / 64 then Ideal.ofBits .f32 0x3C800000#32 else (0 : EReal) := by
  rw [← m64_at m c, ← read_m64 m c t]
  unfold k0_pay40
  simp (disch := decide) only [View.ld_unit_lit']
  pointwise [k0_pay4]

/-- The first keys' gain. -/
theorem gain1_at (t : Fin cfg0.N) (p : Fin 512) :
    k0_pay41 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 1 p) = gain1 (m ((c : Thread nD τ).loc main_arg6)) (p.val % 32) := by
  unfold gain1
  rw [dif_pos (by omega), ← gd_at m c, ← read_gd m c t]
  unfold k0_pay41
  simp (disch := decide) only [View.ld_unit_lit']
  pointwise [k0_pay5]

/-- The second keys' gains. -/
theorem gain2_at (t : Fin cfg0.N) (p : Fin 256) :
    View.ld (iblk m c 7 t) r0_11 (ix2 0 p) = gain2 (m ((c : Thread nD τ).loc main_arg8)) (p.val / 128) (p.val % 64) := by
  unfold gain2
  rw [dif_pos ⟨by omega, by omega⟩, ← gk_at m c, ← read_gk m c t]
  exact congrFun (View.ld_unit_lit' (S := S1x256) inb_S1x256_S1x256_0_0 (iblk m c 7 t) (by decide)) (ix2 0 p)

/-- A load of table 0 of the first keys, at a position. -/
theorem load_td0 (t : Fin cfg0.N) (r : Fin 512) (l : Fin 128) :
    View.ld (iblk m c 10 t) r0_6 (ix3 0 r l) = tab0 4 0x40800000#32 (place t r).val (l.val % 32) := by
  rw [load0, read_td, td0_at]

/-- A load of table 1 of the first keys, at a position. -/
theorem load_td1 (t : Fin cfg0.N) (r : Fin 512) (l : Fin 128) :
    View.ld (iblk m c 10 t) r0_7 (ix3 0 r l) = tab1 4 0x40800000#32 (place t r).val (l.val % 32) := by
  rw [load1, read_td, td1_at]

/-- A load of table 2 of the first keys, at a position. -/
theorem load_td2 (t : Fin cfg0.N) (r : Fin 512) (l : Fin 128) :
    View.ld (iblk m c 10 t) r0_8 (ix3 0 r l) = tab2 4 0x40800000#32 (place t r).val (l.val % 32) := by
  rw [load2, read_td, td2_at]

/-- A load of table 0 of the second keys, at a position. -/
theorem load_tn0 (t : Fin cfg0.N) (r : Fin 512) (l : Fin 128) :
    View.ld (iblk m c 11 t) r0_6 (ix3 0 r l) = tab0 8 0x41000000#32 (place t r).val (l.val % 64) := by
  rw [load0, read_tn, tn0_at]

/-- A load of table 1 of the second keys, at a position. -/
theorem load_tn1 (t : Fin cfg0.N) (r : Fin 512) (l : Fin 128) :
    View.ld (iblk m c 11 t) r0_7 (ix3 0 r l) = tab1 8 0x41000000#32 (place t r).val (l.val % 64) := by
  rw [load1, read_tn, tn1_at]

/-- A load of table 2 of the second keys, at a position. -/
theorem load_tn2 (t : Fin cfg0.N) (r : Fin 512) (l : Fin 128) :
    View.ld (iblk m c 11 t) r0_8 (ix3 0 r l) = tab2 8 0x41000000#32 (place t r).val (l.val % 64) := by
  rw [load2, read_tn, tn2_at]

/-- The block stored of the first keys. -/
theorem stored13 (t : Fin cfg0.N) (r p : Fin 512) : out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r p) = dkey (rowOf m c t r) (gain1 (m ((c : Thread nD τ).loc main_arg6))) (place t r).val p.val := by
  unfold out0_13
  refine (congrFun (View.canon_unit_zero (S := S1x512x512) (off := ![0, 0, 0]) (by decide) inb_S1x512x512_S1x512x512_0_0_0 _) _).trans ?_
  unfold k0_pay42 k0_pay43 k0_pay44 k0_pay45
  exact first_at (Y m c t) (rowOf m c t r) r (rows_at m c t r) _ _ _ _ _ (avg32 m c t) _ (gain1_at m c t) _ (load_td0 m c t r) (load_td1 m c t r) (load_td2 m c t r) p

/-- The block stored of the first values. -/
theorem stored15 (t : Fin cfg0.N) (r p : Fin 512) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r p) = (rowOf m c t r) (1024 + p.val) := by
  unfold out0_15
  refine (congrFun (View.canon_unit_zero (S := S1x512x512) (off := ![0, 0, 0]) (by decide) inb_S1x512x512_S1x512x512_0_0_0 _) _).trans ?_
  exact value1_at (Y m c t) (rowOf m c t r) r (rows_at m c t r) p

/-- The block stored of the compressed and the selected keys. -/
theorem stored18 (t : Fin cfg0.N) (r : Fin 512) (p : Fin 256) : out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r p)
    = if p.val < 128 then ckey (rowOf m c t r) (place t r).val p.val else skey (rowOf m c t r) (gain2 (m ((c : Thread nD τ).loc main_arg8))) (place t r).val (p.val - 128) := by
  unfold out0_18
  refine (congrFun (View.canon_unit_zero (S := S1x512x256) (off := ![0, 0, 0]) (by decide) inb_S1x512x256_S1x512x256_0_0_0 _) _).trans ?_
  unfold k0_pay46 k0_pay47 k0_pay48
  refine (pair_at _ _ _ _ _ _ _ _ _ _ r p).trans ?_
  by_cases q : p.val < 128
  · rw [dif_pos q, if_pos q]
    exact plain_at (Y m c t) (rowOf m c t r) r (rows_at m c t r) _ _ _ _ (load_tn0 m c t r) (load_tn1 m c t r) (load_tn2 m c t r) ⟨p.val, q⟩
  · rw [dif_neg q, if_neg q]
    exact second_at (Y m c t) (rowOf m c t r) r (rows_at m c t r) _ _ _ _ _ (avg64 m c t) _ (gain2_at m c t) _ (load_tn0 m c t r) (load_tn1 m c t r) (load_tn2 m c t r) ⟨p.val - 128, by omega⟩

/-- The block stored of the second values. -/
theorem stored19 (t : Fin cfg0.N) (r : Fin 512) (p : Fin 256) : out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r p) = (rowOf m c t r) (2432 + p.val) := by
  unfold out0_19
  refine (congrFun (View.canon_unit_zero (S := S1x512x256) (off := ![0, 0, 0]) (by decide) inb_S1x512x256_S1x512x256_0_0_0 _) _).trans ?_
  exact value2_at (Y m c t) (rowOf m c t r) r (rows_at m c t r) p

/-- The block stored of the window's keys and values. -/
theorem stored20 (t : Fin cfg0.N) (r : Fin 512) (p : Fin 256) : out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r p)
    = if p.val < 128 then skey (rowOf m c t r) (gain2 (m ((c : Thread nD τ).loc main_arg8))) (place t r).val (128 + p.val) else (rowOf m c t r) (2432 + (128 + p.val)) := by
  unfold out0_20
  refine (congrFun (View.canon_unit_zero (S := S1x512x256) (off := ![0, 0, 0]) (by decide) inb_S1x512x256_S1x512x256_0_0_0 _) _).trans ?_
  refine (window_at (Y m c t) (rowOf m c t r) r (rows_at m c t r) _ p).trans ?_
  by_cases q : p.val < 128
  · rw [dif_pos q, if_pos q]
    exact second_at (Y m c t) (rowOf m c t r) r (rows_at m c t r) _ _ _ _ _ (avg64 m c t) _ (gain2_at m c t) _ (load_tn0 m c t r) (load_tn1 m c t r) (load_tn2 m c t r) ⟨128 + p.val, by omega⟩
  · rw [dif_neg q, if_neg q]

/-- The array behind window 13 after the run. -/
theorem final13 : (dats m 0 c).arrAt 13 cfg0.N = DK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 13 _ (by decide +kernel) fun t _ y => ?_
  revert y
  show ∀ y : S1x512x512.Idx, _
  intro y
  blk_simp
  rw [after0_13]
  idx_vars y
  have hy : y0 = 0 := Subsingleton.elim _ _
  subst hy
  have e : DK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (ix3 (brow t) (place t y1) y2) = out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 y1 y2) := (stored13 m c t y1 y2).symm
  refine e.symm.trans ?_
  blk_ext [idx_out t, brow, place]

/-- The array behind window 15 after the run. -/
theorem final15 : (dats m 0 c).arrAt 15 cfg0.N = DV (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 15 _ (by decide +kernel) fun t _ y => ?_
  revert y
  show ∀ y : S1x512x512.Idx, _
  intro y
  blk_simp
  rw [after0_15]
  idx_vars y
  have hy : y0 = 0 := Subsingleton.elim _ _
  subst hy
  have e : DV (m ((c : Thread nD τ).loc main_arg0)) (m ((c : Thread nD τ).loc main_arg1)) (m ((c : Thread nD τ).loc main_arg2)) (m ((c : Thread nD τ).loc main_arg3)) (m ((c : Thread nD τ).loc main_arg4)) (ix3 (brow t) (place t y1) y2) = out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 y1 y2) := (stored15 m c t y1 y2).symm
  refine e.symm.trans ?_
  blk_ext [idx_out t, brow, place]

/-- The array behind window 18 after the run. -/
theorem final18 : (dats m 0 c).arrAt 18 cfg0.N = NK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) := by
  refine (dats m 0 c).arrAt_eq_of_covers 18 _ (by decide +kernel) fun t _ y => ?_
  revert y
  show ∀ y : S1x512x256.Idx, _
  intro y
  blk_simp
  rw [after0_18]
  idx_vars y
  have hy : y0 = 0 := Subsingleton.elim _ _
  subst hy
  have e : NK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (ix3 (brow t) (place t y1) y2) = out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 y1 y2) := (stored18 m c t y1 y2).symm
  refine e.symm.trans ?_
  blk_ext [idx_out t, brow, place]

/-- The array behind window 19 after the run. -/
theorem final19 : (dats m 0 c).arrAt 19 cfg0.N = NV (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 19 _ (by decide +kernel) fun t _ y => ?_
  revert y
  show ∀ y : S1x512x256.Idx, _
  intro y
  blk_simp
  rw [after0_19]
  idx_vars y
  have hy : y0 = 0 := Subsingleton.elim _ _
  subst hy
  have e : NV (m ((c : Thread nD τ).loc main_arg0)) (m ((c : Thread nD τ).loc main_arg1)) (m ((c : Thread nD τ).loc main_arg2)) (m ((c : Thread nD τ).loc main_arg3)) (m ((c : Thread nD τ).loc main_arg4)) (ix3 (brow t) (place t y1) y2) = out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 y1 y2) := (stored19 m c t y1 y2).symm
  refine e.symm.trans ?_
  blk_ext [idx_out t, brow, place]

/-- The array behind window 20 after the run. -/
theorem final20 : (dats m 0 c).arrAt 20 cfg0.N = WIN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) := by
  refine (dats m 0 c).arrAt_eq_of_covers 20 _ (by decide +kernel) fun t _ y => ?_
  revert y
  show ∀ y : S1x512x256.Idx, _
  intro y
  blk_simp
  rw [after0_20]
  idx_vars y
  have hy : y0 = 0 := Subsingleton.elim _ _
  subst hy
  have e : WIN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (ix3 (brow t) (place t y1) y2) = out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 y1 y2) := (stored20 m c t y1 y2).symm
  refine e.symm.trans ?_
  blk_ext [idx_out t, brow, place]

set_option maxHeartbeats 4000000 in
/-- The run, with its five results and its arguments. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v119_1) = DK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v119_3) = DV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v119_6) = NK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8))
      ∧ r.2.mem ((c.tc : Thread nD τ).loc main_v119_7) = NV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v119_8) = WIN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run (defs (F := Ideal)) _ _).mono (fun r h c => ?_) (run_main m ρ)
  exact ⟨((h c).1 (13 : Fin 24)).trans (final13 m c),
    ((h c).1 (15 : Fin 24)).trans (final15 m c),
    ((h c).1 (18 : Fin 24)).trans (final18 m c),
    ((h c).1 (19 : Fin 24)).trans (final19 m c),
    ((h c).1 (20 : Fin 24)).trans (final20 m c),
    ((h c).1 (0 : Fin 24)).trans (((dats m 0 c).arrAt_in 0 rfl _).trans ((A_eq m c 0).trans (V_main_arg0 m c))),
    ((h c).1 (1 : Fin 24)).trans (((dats m 0 c).arrAt_in 1 rfl _).trans ((A_eq m c 1).trans (V_main_arg1 m c))),
    ((h c).1 (2 : Fin 24)).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

set_option maxHeartbeats 4000000 in
/-- The five results of the two runs agree. -/
theorem algebraic : @Cert.algebraic_Kernel3Ideal_Reference3Ideal Cert.Kernel3Ideal.Gen.facts Cert.Reference3Ideal.Gen.facts := by
  pair_intro
  · run_from run_value m g
  · run_from Cert.Reference3Ideal.Keys.run_value m' g'
    all_goals
      obtain ⟨e0, e1, e2, e3, e4, e5, e6, e7, e8⟩ := hagree c
    all_goals
      first
        | rw [e0, e1, e2, e3, e4, e6]
        | rw [e0, e1, e2, e3, e4, e8]
        | rw [e0, e1, e2, e3, e4]

end Cert.Kernel3Ideal.Keys
-- ==== Proof.StepPay.lean ====
/- What the body stores for the decoding step, one entry at a time, from what it reads. -/
module

public import proofs.«01_k».proof.Proof.Gen.Kernel4Ideal.Frame
public import proofs.«01_k».proof.Proof.ProjPay

@[expose] public section

set_option maxRecDepth 16384

noncomputable section

namespace Cert.Kernel4Ideal.Keys

open Idealize.ShloMosaic Idealize.ShloMosaic.TcCoe Idealize.ShloMosaic.Tactic Idealize.SL.Sem
open Cert.Kernel4Ideal Cert.Kernel4Ideal.Gen
open Cert.Proj
open Cert.Kernel3Ideal.Keys (lt_wide)

/-- The projection of a row. -/
theorem proj_at (x : Vec Ideal S1x32x1024 .f32) (g : Vec Ideal S1x1024 .f32) (sc sh : Vec Ideal S1x32x1024 .f32)
    (w : Vec Ideal S1024x2944 .bf16) (r : Fin 32) (p : Fin 2944) (w' : Fin 1024 → ℕ → EReal) (hw : ∀ d, w (ix2 d p) = w' d p.val) :
    k0_pay5 (F := Ideal) x g sc sh w (ix2 r p)
      = prj (fun d => x (ix3 0 r d)) (fun d => sh (ix3 0 r d)) (fun d => sc (ix3 0 r d)) (fun d => g (ix2 0 d)) w' p.val := by
  unfold prj
  simp only [← hw]
  pointwise [k0_pay5]

section Groups
variable (Y : FVec Ideal S32x2944 .f32) (P : ℕ → EReal) (r : Fin 32) (hP : ∀ (n : ℕ) (h : n < 2840), Y (ix2 r ⟨n, lt_wide h⟩) = P n)
include hP

/-- The first keys' heads, normalised. -/
theorem norm1_at (M : FVec Ideal S256x256 .f32) (gd : FVec Ideal S2x512 .f32)
    (hM : ∀ k j : Fin 256, M (ix2 k j) = if k.val / 32 = j.val / 32 then Ideal.ofBits .f32 0x3D000000#32 else (0 : EReal))
    (gain : ℕ → EReal) (p : Fin 512) (hg : gd (ix2 1 p) = gain (p.val % 32)) :
    (if h : p.val < 256 then
          Y (ix2 r ⟨512 + p.val, by omega⟩) * Ideal.rsqrt ((∑ x : Fin 256, Y (ix2 r ⟨512 + x.val, by omega⟩) * Y (ix2 r ⟨512 + x.val, by omega⟩) * M (ix2 x ⟨p.val, h⟩))
            + Ideal.ofBits FTy.f32 0x358637BD#32) * gd (ix2 1 ⟨p.val, by omega⟩)
        else
          Y (ix2 r ⟨512 + (256 + (p.val - 256)), by omega⟩) * Ideal.rsqrt ((∑ x : Fin 256, Y (ix2 r ⟨512 + (256 + x.val), by omega⟩) * Y (ix2 r ⟨512 + (256 + x.val), by omega⟩) * M (ix2 x ⟨p.val - 256, by omega⟩))
            + Ideal.ofBits FTy.f32 0x358637BD#32) * gd (ix2 1 ⟨256 + (p.val - 256), by omega⟩)) = nrm 32 0x42000000#32 (fun j => P (512 + (p.val / 32 * 32 + j))) gain (p.val % 32) := by
  have a : ∀ n : ℕ, n < 256 →
      ∑ k : Fin 256, P (512 + k.val) * P (512 + k.val) * (if k.val / 32 = n / 32 then Ideal.ofBits FTy.f32 0x3D000000#32 else 0)
        = Ideal.div (∑ x : Fin 32, P (512 + (n / 32 * 32 + x.val)) * P (512 + (n / 32 * 32 + x.val))) (Ideal.ofBits FTy.f32 0x42000000#32) :=
    fun n hn => mean32 (fun k => P (512 + k)) n hn
  have b : ∀ n : ℕ, n < 256 →
      ∑ k : Fin 256, P (512 + (256 + k.val)) * P (512 + (256 + k.val)) * (if k.val / 32 = n / 32 then Ideal.ofBits FTy.f32 0x3D000000#32 else 0)
        = Ideal.div (∑ x : Fin 32, P (512 + (256 + (n / 32 * 32 + x.val))) * P (512 + (256 + (n / 32 * 32 + x.val)))) (Ideal.ofBits FTy.f32 0x42000000#32) :=
    fun n hn => mean32 (fun k => P (512 + (256 + k))) n hn
  unfold nrm
  beta_reduce
  by_cases q : p.val < 256
  · rw [dif_pos q, hg, hP (512 + p.val) (by omega)]
    have e : ∑ x : Fin 256, Y (ix2 r ⟨512 + x.val, by omega⟩) * Y (ix2 r ⟨512 + x.val, by omega⟩) * M (ix2 x ⟨p.val, q⟩)
        = ∑ k : Fin 256, P (512 + k.val) * P (512 + k.val) * (if k.val / 32 = p.val / 32 then Ideal.ofBits FTy.f32 0x3D000000#32 else 0) :=
      Finset.sum_congr rfl fun x _ => by rw [hP (512 + x.val) (by omega), hM]
    rw [e, a p.val q, show p.val / 32 * 32 + p.val % 32 = p.val by omega]
  · rw [dif_neg q, hP (512 + (256 + (p.val - 256))) (by omega)]
    have e : ∑ x : Fin 256, Y (ix2 r ⟨512 + (256 + x.val), by omega⟩) * Y (ix2 r ⟨512 + (256 + x.val), by omega⟩) * M (ix2 x ⟨p.val - 256, by omega⟩)
        = ∑ k : Fin 256, P (512 + (256 + k.val)) * P (512 + (256 + k.val)) * (if k.val / 32 = (p.val - 256) / 32 then Ideal.ofBits FTy.f32 0x3D000000#32 else 0) :=
      Finset.sum_congr rfl fun x _ => by rw [hP (512 + (256 + x.val)) (by omega), hM]
    have e' : (⟨256 + (p.val - 256), by omega⟩ : Fin 512) = p := Fin.ext (by show 256 + (p.val - 256) = p.val; omega)
    have e2 : ∀ k, 256 + ((p.val - 256) / 32 * 32 + k) = p.val / 32 * 32 + k := fun k => by omega
    rw [e, b (p.val - 256) (by omega), e', hg, show 256 + (p.val - 256) = p.val / 32 * 32 + p.val % 32 by omega]
    simp only [e2]

/-- The selected and the window keys' heads, normalised. -/
theorem norm2_at (M : FVec Ideal S256x256 .f32)
    (hM : ∀ k j : Fin 256, M (ix2 k j) = if k.val / 64 = j.val / 64 then Ideal.ofBits .f32 0x3C800000#32 else (0 : EReal)) (p : Fin 256) :
    Y (ix2 r ⟨2176 + p.val, by omega⟩) * Ideal.rsqrt ((∑ x : Fin 256, Y (ix2 r ⟨2176 + x.val, by omega⟩) * Y (ix2 r ⟨2176 + x.val, by omega⟩) * M (ix2 x p))
        + Ideal.ofBits FTy.f32 0x358637BD#32)
      = P (2176 + (p.val / 64 * 64 + p.val % 64)) * Ideal.rsqrt (Ideal.div (∑ x : Fin 64, P (2176 + (p.val / 64 * 64 + x.val)) * P (2176 + (p.val / 64 * 64 + x.val)))
          (Ideal.ofBits FTy.f32 0x42800000#32) + Ideal.ofBits FTy.f32 0x358637BD#32) := by
  have e : ∑ x : Fin 256, Y (ix2 r ⟨2176 + x.val, by omega⟩) * Y (ix2 r ⟨2176 + x.val, by omega⟩) * M (ix2 x p)
      = ∑ k : Fin 256, P (2176 + k.val) * P (2176 + k.val) * (if k.val / 64 = p.val / 64 then Ideal.ofBits FTy.f32 0x3C800000#32 else 0) :=
    Finset.sum_congr rfl fun x _ => by rw [hP (2176 + x.val) (by omega), hM]
  rw [e, hP (2176 + p.val) (by omega), show p.val / 64 * 64 + p.val % 64 = p.val by omega]
  exact congrArg (fun z => P (2176 + p.val) * Ideal.rsqrt (z + _)) (mean64 (fun k => P (2176 + k)) p.val p.isLt)

set_option maxHeartbeats 2000000 in
/-- What is stored of the first keys: normalised, then rotated. -/
theorem first_at (M : FVec Ideal S256x256 .f32) (gd : FVec Ideal S2x512 .f32) (T0 T1 T2 : Vec Ideal S1x32x128 .f32)
    (hM : ∀ k j : Fin 256, M (ix2 k j) = if k.val / 32 = j.val / 32 then Ideal.ofBits .f32 0x3D000000#32 else (0 : EReal))
    (gain : ℕ → EReal) (hg : ∀ p : Fin 512, gd (ix2 1 p) = gain (p.val % 32)) (s : ℕ)
    (h0 : ∀ l : Fin 128, T0 (ix3 0 r l) = tab0 4 0x40800000#32 s (l.val % 32))
    (h1 : ∀ l : Fin 128, T1 (ix3 0 r l) = tab1 4 0x40800000#32 s (l.val % 32))
    (h2 : ∀ l : Fin 128, T2 (ix3 0 r l) = tab2 4 0x40800000#32 s (l.val % 32)) (p : Fin 512) :
    k0_pay12 (F := Ideal) (k0_pay11 (F := Ideal) Y M gd T0 T1 T2) (ix3 0 r p) = dkey P gain s p.val := by
  have tab : ∀ (T : Vec Ideal S1x32x128 .f32) (f : ℕ → EReal), (∀ l : Fin 128, T (ix3 0 r l) = f (l.val % 32)) →
      (if h : p.val < 128 then T (ix3 0 r ⟨p.val, h⟩)
        else if h : p.val - 128 < 128 then T (ix3 0 r ⟨p.val - 128, h⟩)
        else if h : p.val - 128 - 128 < 128 then T (ix3 0 r ⟨p.val - 128 - 128, h⟩)
        else T (ix3 0 r ⟨p.val - 128 - 128 - 128, by omega⟩)) = f (p.val % 32) := by
    intro T f h
    simp only [h]
    split_ifs <;> exact congrArg f (by omega)
  have e0 := tab T0 _ h0
  have e1 := tab T1 _ h1
  have e2 := tab T2 _ h2
  have up : (p.val + 512 - 508) % 512 < 512 := Nat.mod_lt _ (by decide)
  have down : (p.val + 512 - 4) % 512 < 512 := Nat.mod_lt _ (by decide)
  have n0 := norm1_at Y P r hP M gd hM gain p (hg p)
  have n1 := norm1_at Y P r hP M gd hM gain ⟨(p.val + 512 - 508) % 512, up⟩ (hg _)
  have n2 := norm1_at Y P r hP M gd hM gain ⟨(p.val + 512 - 4) % 512, down⟩ (hg _)
  unfold dkey
  pointwise [k0_pay12, k0_pay11]
  rw [n0, n1, n2, e0, e1, e2]
  refine turn_of 4 _ s _ _ rfl (fun h => ?_) (fun h h' => ?_)
  · show nrm 32 0x42000000#32 (fun j => P (512 + ((p.val + 512 - 508) % 512 / 32 * 32 + j))) gain ((p.val + 512 - 508) % 512 % 32) = _
    rw [show (p.val + 512 - 508) % 512 / 32 = p.val / 32 by omega, show (p.val + 512 - 508) % 512 % 32 = 4 + p.val % 32 by omega]
  · show nrm 32 0x42000000#32 (fun j => P (512 + ((p.val + 512 - 4) % 512 / 32 * 32 + j))) gain ((p.val + 512 - 4) % 512 % 32) = _
    rw [show (p.val + 512 - 4) % 512 / 32 = p.val / 32 by omega, show (p.val + 512 - 4) % 512 % 32 = p.val % 32 - 4 by omega]

/-- What is stored of the compressed keys: rotated. -/
theorem plain_at (T0 T1 T2 : Vec Ideal S1x32x128 .f32) (s : ℕ)
    (h0 : ∀ l : Fin 128, T0 (ix3 0 r l) = tab0 8 0x41000000#32 s (l.val % 64))
    (h1 : ∀ l : Fin 128, T1 (ix3 0 r l) = tab1 8 0x41000000#32 s (l.val % 64))
    (h2 : ∀ l : Fin 128, T2 (ix3 0 r l) = tab2 8 0x41000000#32 s (l.val % 64)) (p : Fin 128) :
    k0_pay22 (F := Ideal) (k0_pay20 (F := Ideal) Y T0 T1) (k0_pay21 (F := Ideal) Y T2) (ix2 r p) = ckey P s p.val := by
  unfold ckey
  pointwise [k0_pay22, k0_pay20, k0_pay21, k0_pay19]
  rw [h0, h1, h2, hP (2048 + p.val) (by omega), hP (2048 + (p.val + 128 - 120) % 128) (by omega), hP (2048 + (p.val + 128 - 8) % 128) (by omega)]
  refine turn_of 8 _ s _ _ ?_ (fun h => ?_) (fun h h' => ?_)
  · exact congrArg P (by omega)
  · exact congrArg P (by omega)
  · exact congrArg P (by omega)

/-- What is stored of the selected and the window keys: normalised, then rotated. -/
theorem second_at (M : FVec Ideal S256x256 .f32) (g : Vec Ideal S1x256 .f32) (T0 T1 T2 : Vec Ideal S1x32x128 .f32)
    (hM : ∀ k j : Fin 256, M (ix2 k j) = if k.val / 64 = j.val / 64 then Ideal.ofBits .f32 0x3C800000#32 else (0 : EReal))
    (gain : ℕ → ℕ → EReal) (hg : ∀ p : Fin 256, g (ix2 0 p) = gain (p.val / 128) (p.val % 64)) (s : ℕ)
    (h0 : ∀ l : Fin 128, T0 (ix3 0 r l) = tab0 8 0x41000000#32 s (l.val % 64))
    (h1 : ∀ l : Fin 128, T1 (ix3 0 r l) = tab1 8 0x41000000#32 s (l.val % 64))
    (h2 : ∀ l : Fin 128, T2 (ix3 0 r l) = tab2 8 0x41000000#32 s (l.val % 64)) (p : Fin 256) :
    k0_pay23 (F := Ideal) Y M g T0 T1 T2 (ix2 r p) = skey P gain s p.val := by
  have e0 : (if h : p.val < 128 then T0 (ix3 0 r ⟨p.val, h⟩) else T0 (ix3 0 r ⟨p.val - 128, by omega⟩)) = tab0 8 0x41000000#32 s (p.val % 64) := by
    simp only [h0]
    split_ifs <;> exact congrArg (tab0 8 0x41000000#32 s) (by omega)
  have e1 : (if h : p.val < 128 then T1 (ix3 0 r ⟨p.val, h⟩) else T1 (ix3 0 r ⟨p.val - 128, by omega⟩)) = tab1 8 0x41000000#32 s (p.val % 64) := by
    simp only [h1]
    split_ifs <;> exact congrArg (tab1 8 0x41000000#32 s) (by omega)
  have e2 : (if h : p.val < 128 then T2 (ix3 0 r ⟨p.val, h⟩) else T2 (ix3 0 r ⟨p.val - 128, by omega⟩)) = tab2 8 0x41000000#32 s (p.val % 64) := by
    simp only [h2]
    split_ifs <;> exact congrArg (tab2 8 0x41000000#32 s) (by omega)
  have up : (p.val + 256 - 248) % 256 < 256 := Nat.mod_lt _ (by decide)
  have down : (p.val + 256 - 8) % 256 < 256 := Nat.mod_lt _ (by decide)
  have n0 := norm2_at Y P r hP M hM p
  have n1 := norm2_at Y P r hP M hM ⟨(p.val + 256 - 248) % 256, up⟩
  have n2 := norm2_at Y P r hP M hM ⟨(p.val + 256 - 8) % 256, down⟩
  have g0 := hg p
  have g1 := hg ⟨(p.val + 256 - 248) % 256, up⟩
  have g2 := hg ⟨(p.val + 256 - 8) % 256, down⟩
  unfold skey
  pointwise [k0_pay23]
  rw [n0, n1, n2, g0, g1, g2, e0, e1, e2]
  refine turn_of 8 _ s _ _ rfl (fun h => ?_) (fun h h' => ?_)
  · show P (2176 + ((p.val + 256 - 248) % 256 / 64 * 64 + (p.val + 256 - 248) % 256 % 64))
        * Ideal.rsqrt (Ideal.div (∑ x : Fin 64, P (2176 + ((p.val + 256 - 248) % 256 / 64 * 64 + x.val)) * P (2176 + ((p.val + 256 - 248) % 256 / 64 * 64 + x.val)))
          (Ideal.ofBits FTy.f32 0x42800000#32) + Ideal.ofBits FTy.f32 0x358637BD#32) * gain ((p.val + 256 - 248) % 256 / 128) ((p.val + 256 - 248) % 256 % 64) = _
    rw [show (p.val + 256 - 248) % 256 / 64 = p.val / 64 by omega, show (p.val + 256 - 248) % 256 % 64 = 8 + p.val % 64 by omega,
      show (p.val + 256 - 248) % 256 / 128 = p.val / 128 by omega]
    rfl
  · show P (2176 + ((p.val + 256 - 8) % 256 / 64 * 64 + (p.val + 256 - 8) % 256 % 64))
        * Ideal.rsqrt (Ideal.div (∑ x : Fin 64, P (2176 + ((p.val + 256 - 8) % 256 / 64 * 64 + x.val)) * P (2176 + ((p.val + 256 - 8) % 256 / 64 * 64 + x.val)))
          (Ideal.ofBits FTy.f32 0x42800000#32) + Ideal.ofBits FTy.f32 0x358637BD#32) * gain ((p.val + 256 - 8) % 256 / 128) ((p.val + 256 - 8) % 256 % 64) = _
    rw [show (p.val + 256 - 8) % 256 / 64 = p.val / 64 by omega, show (p.val + 256 - 8) % 256 % 64 = p.val % 64 - 8 by omega,
      show (p.val + 256 - 8) % 256 / 128 = p.val / 128 by omega]
    rfl

/-- What is stored of the first values. -/
theorem value1_at (p : Fin 512) : k0_pay15 (F := Ideal) Y (ix3 0 r p) = P (1024 + p.val) := by
  pointwise [k0_pay15, k0_pay14]
  exact hP (1024 + p.val) (by omega)

/-- What is stored of the second values. -/
theorem value2_at (p : Fin 256) : k0_pay26 (F := Ideal) Y (ix3 0 r p) = P (2432 + p.val) := by
  pointwise [k0_pay26, k0_pay24]
  exact hP (2432 + p.val) (by omega)

/-- What is stored of the window's keys and values. -/
theorem window_at (U : FVec Ideal S32x256 .f32) (p : Fin 256) :
    k0_pay1 (F := Ideal) U (k0_pay24 (F := Ideal) Y) (ix3 0 r p)
      = if h : p.val < 128 then U (ix2 r ⟨128 + p.val, by omega⟩) else P (2432 + (128 + p.val)) := by
  pointwise [k0_pay1, k0_pay24]
  by_cases q : p.val < 128
  · rw [dif_pos q, dif_pos q]
  · rw [dif_neg q, dif_neg q, hP (2432 + (256 + (p.val - 128))) (by omega)]
    exact congrArg P (by omega)

end Groups

/-- The compressed and the selected keys, side by side. -/
theorem pair_at (Y : FVec Ideal S32x2944 .f32) (M : FVec Ideal S256x256 .f32) (a b : FVec Ideal S32x128 .f32)
    (g : Vec Ideal S1x256 .f32) (T0 T1 T2 : Vec Ideal S1x32x128 .f32) (r : Fin 32) (p : Fin 256) :
    k0_pay25 (F := Ideal) Y M a b g T0 T1 T2 (ix3 0 r p)
      = if h : p.val < 128 then k0_pay22 (F := Ideal) a b (ix2 r ⟨p.val, h⟩)
        else k0_pay23 (F := Ideal) Y M g T0 T1 T2 (ix2 r ⟨p.val - 128, by omega⟩) := by
  pointwise [k0_pay25]

end Cert.Kernel4Ideal.Keys
-- ==== Proof.StepHost.lean ====
/- The arrays the host code of the decoding step's projection prepares, entry by entry. -/
module

public import proofs.«01_k».proof.Proof.Gen.Kernel4Ideal.Frame
public import proofs.«01_k».proof.Proof.ProjHost
public import Idealize.ShloMosaic.Lib.StableHlo.ReadAt

@[expose] public section

set_option maxRecDepth 16384

noncomputable section

namespace Cert.Kernel4Ideal.Keys

open Idealize.ShloMosaic Idealize.ShloMosaic.TcCoe Idealize.ShloMosaic.Tactic Idealize.SL.Sem
open Cert.Kernel4Ideal Cert.Kernel4Ideal.Gen
open Cert.Proj
open Cert.Kernel3Ideal.Keys (fdiv fdiv32 fdiv64 choose_eq)

variable (m : (ℓ : Loc nD τ sig) → Buf (Elt Ideal) ℓ) (c : Dev nD)

set_option maxHeartbeats 4000000

/-- The rows, in one sequence. -/
theorem x_at (s : Fin 32) (d : Fin 1024) : V m c main_v48 (ix3 0 s d) = m ((c : Thread nD τ).loc main_arg0) (ix3 s 0 d) := by
  unfold_abbrev_sides
  simp only [List.flatten_cons, List.flatten_nil, List.append_nil]
  after_reads_at

/-- The shifts, in one sequence. -/
theorem sh_at (s : Fin 32) (d : Fin 1024) : V m c main_v49 (ix3 0 s d) = m ((c : Thread nD τ).loc main_arg1) (ix3 s 0 d) := by
  unfold_abbrev_sides
  simp only [List.flatten_cons, List.flatten_nil, List.append_nil]
  after_reads_at

/-- The scales, in one sequence. -/
theorem sc_at (s : Fin 32) (d : Fin 1024) : V m c main_v50 (ix3 0 s d) = m ((c : Thread nD τ).loc main_arg2) (ix3 s 0 d) := by
  unfold_abbrev_sides
  simp only [List.flatten_cons, List.flatten_nil, List.append_nil]
  after_reads_at

/-- The weight, with its columns padded. -/
theorem w_at (d : Fin 1024) (n : Fin 2944) (h : n.val < 2840) :
    V m c main_v2 (ix2 d n) = m ((c : Thread nD τ).loc main_arg4) (ix2 d ⟨n.val, h⟩) := by
  unfold_abbrev_sides
  simp only [List.flatten_cons, List.flatten_nil, List.append_nil]
  after_reads_at
  rw [dif_pos h]

/-- The input norm's gain, as a row. -/
theorem g_at (p : Fin 1024) : V m c main_v0 (ix2 0 p) = m ((c : Thread nD τ).loc main_arg3) (ix1 p) := by
  unfold_abbrev_sides
  simp only [List.flatten_cons, List.flatten_nil, List.append_nil]
  after_reads_at

/-- The first keys' gain, once per head. -/
theorem gd_at (p : Fin 512) : V m c main_v11 (ix2 1 p) = m ((c : Thread nD τ).loc main_arg6) (ix1 ⟨p.val % 32, by omega⟩) := by
  unfold_abbrev_sides
  simp only [List.flatten_cons, List.flatten_nil, List.append_nil]
  after_reads_at

/-- The second keys' gains, once per head. -/
theorem gk_at (p : Fin 256) : V m c main_v27 (ix2 0 p) = m ((c : Thread nD τ).loc main_arg8) (ix2 ⟨p.val / 128, by omega⟩ ⟨p.val % 64, by omega⟩) := by
  unfold_abbrev_sides
  simp only [List.flatten_cons, List.flatten_nil, List.append_nil]
  after_reads_at
  after_reads_at
  by_cases h : p.val < 128
  · rw [dif_pos h]
    have e : (⟨p.val / 128, by omega⟩ : Fin 2) = 0 := Fin.ext (by show p.val / 128 = 0; omega)
    rw [e]
  · rw [dif_neg h]
    have e : (⟨p.val / 128, by omega⟩ : Fin 2) = 1 := Fin.ext (by show p.val / 128 = 1; omega)
    have e' : (⟨(p.val - 128) % 64, by omega⟩ : Fin 64) = ⟨p.val % 64, by omega⟩ := Fin.ext (by show (p.val - 128) % 64 = p.val % 64; omega)
    rw [e, e']

/-- The matrix that averages groups of 32. -/
theorem m32_at (k j : Fin 256) : V m c main_v37 (ix2 k j) = if k.val / 32 = j.val / 32 then Ideal.ofBits .f32 0x3D000000#32 else (0:EReal) := by
  unfold_abbrev_sides
  simp only [List.flatten_cons, List.flatten_nil, List.append_nil]
  after_reads_at
  refine (congrFun (id_eq _) _).trans ?_
  refine Eq.trans ?_ (choose_eq (by omega) (by omega) _ _)
  refine congr (congr (congrArg Scalar.select (congrArg₂ (IntOp.cmpi .eq) ?_ ?_)) rfl) ?_
  · exact Eq.trans rfl (fdiv32 k)
  · exact Eq.trans rfl (fdiv32 j)
  · exact Eq.trans rfl Ideal.ofBits_zero_f32

/-- The matrix that averages groups of 64. -/
theorem m64_at (k j : Fin 256) : V m c main_v47 (ix2 k j) = if k.val / 64 = j.val / 64 then Ideal.ofBits .f32 0x3C800000#32 else (0:EReal) := by
  unfold_abbrev_sides
  simp only [List.flatten_cons, List.flatten_nil, List.append_nil]
  after_reads_at
  refine (congrFun (id_eq _) _).trans ?_
  refine Eq.trans ?_ (choose_eq (by omega) (by omega) _ _)
  refine congr (congr (congrArg Scalar.select (congrArg₂ (IntOp.cmpi .eq) ?_ ?_)) rfl) ?_
  · exact Eq.trans rfl (fdiv64 k)
  · exact Eq.trans rfl (fdiv64 j)
  · exact Eq.trans rfl Ideal.ofBits_zero_f32

/-- The first keys' table 0. -/
theorem td0_at (s : Fin 32) (l : Fin 128) : V m c main_v86 (ix3 0 s l) = tab0 4 0x40800000#32 16384 (l.val % 32) := by
  unfold_abbrev_sides
  simp only [List.flatten_cons, List.flatten_nil, List.append_nil]
  after_reads_at
  after_reads_at
  after_reads_at
  unfold tab0
  simp only [dite_eq_ite]
  rfl

/-- The first keys' table 1. -/
theorem td1_at (s : Fin 32) (l : Fin 128) : V m c main_v86 (ix3 1 s l) = tab1 4 0x40800000#32 16384 (l.val % 32) := by
  unfold_abbrev_sides
  simp only [List.flatten_cons, List.flatten_nil, List.append_nil]
  after_reads_at
  after_reads_at
  after_reads_at
  unfold tab1
  simp only [dite_eq_ite]
  rfl

/-- The first keys' table 2. -/
theorem td2_at (s : Fin 32) (l : Fin 128) : V m c main_v86 (ix3 2 s l) = tab2 4 0x40800000#32 16384 (l.val % 32) := by
  unfold_abbrev_sides
  simp only [List.flatten_cons, List.flatten_nil, List.append_nil]
  after_reads_at
  after_reads_at
  after_reads_at
  unfold tab2
  simp only [dite_eq_ite]
  rfl

/-- The second keys' table 0. -/
theorem tn0_at (s : Fin 32) (l : Fin 128) : V m c main_v121 (ix3 0 s l) = tab0 8 0x41000000#32 16384 (l.val % 64) := by
  unfold_abbrev_sides
  simp only [List.flatten_cons, List.flatten_nil, List.append_nil]
  after_reads_at
  after_reads_at
  after_reads_at
  unfold tab0
  simp only [dite_eq_ite]
  rfl

/-- The second keys' table 1. -/
theorem tn1_at (s : Fin 32) (l : Fin 128) : V m c main_v121 (ix3 1 s l) = tab1 8 0x41000000#32 16384 (l.val % 64) := by
  unfold_abbrev_sides
  simp only [List.flatten_cons, List.flatten_nil, List.append_nil]
  after_reads_at
  after_reads_at
  after_reads_at
  unfold tab1
  simp only [dite_eq_ite]
  rfl

/-- The second keys' table 2. -/
theorem tn2_at (s : Fin 32) (l : Fin 128) : V m c main_v121 (ix3 2 s l) = tab2 8 0x41000000#32 16384 (l.val % 64) := by
  unfold_abbrev_sides
  simp only [List.flatten_cons, List.flatten_nil, List.append_nil]
  after_reads_at
  after_reads_at
  after_reads_at
  unfold tab2
  simp only [dite_eq_ite]
  rfl

end Cert.Kernel4Ideal.Keys
-- ==== Proof.StepRef.lean ====
/- The reference of the decoding step's projection over extended reals, entry by entry. -/
module

public import proofs.«01_k».proof.Proof.Gen.Reference4Ideal.Run
public import proofs.«01_k».proof.Proof.ProjRef

@[expose] public section

set_option maxRecDepth 16384

noncomputable section

namespace Cert.Reference4Ideal.Keys

open Idealize.ShloMosaic Idealize.ShloMosaic.TcCoe Idealize.ShloMosaic.Tactic Idealize.SL.Sem Idealize.ShloMosaic.StableHlo
open Cert.Reference4Ideal Cert.Reference4Ideal.Gen Cert.Reference4Ideal.Value
open Cert.Proj
open Cert.Reference3Ideal.Keys (gain1 gain2)

/-- A row of the input's projection. -/
def row (X : FVec Ideal S32x1x1024 .f32) (SH SC : FVec Ideal S32x1x1024 .f32) (G : FVec Ideal S1024 .f32)
    (W : FVec Ideal S1024x2840 .f32) (b : Fin 32) : ℕ → EReal :=
  prj (fun d => X (ix3 b 0 d)) (fun d => SH (ix3 b 0 d)) (fun d => SC (ix3 b 0 d)) (fun d => G (ix1 d))
    (fun d n => if h : n < 2840 then W (ix2 d ⟨n, h⟩) else 0)

section Results
variable (X : FVec Ideal S32x1x1024 .f32) (SH SC : FVec Ideal S32x1x1024 .f32) (G : FVec Ideal S1024 .f32)
    (W : FVec Ideal S1024x2840 .f32) (gd : FVec Ideal S32 .f32) (gk : FVec Ideal S2x64 .f32)

/-- The first keys. -/
def DK : FVec Ideal S1x32x512 .f32 := fun i => dkey (row X SH SC G W (i 1)) (gain1 gd) 16384 (i 2).val
/-- The first values. -/
def DV : FVec Ideal S1x32x512 .f32 := fun i => row X SH SC G W (i 1) (1024 + (i 2).val)
/-- The compressed and the selected keys. -/
def NK : FVec Ideal S1x32x256 .f32 := fun i =>
  if (i 2).val < 128 then ckey (row X SH SC G W (i 1)) 16384 (i 2).val
  else skey (row X SH SC G W (i 1)) (gain2 gk) 16384 ((i 2).val - 128)
/-- The compressed and the selected values. -/
def NV : FVec Ideal S1x32x256 .f32 := fun i => row X SH SC G W (i 1) (2432 + (i 2).val)
/-- The window's keys and values. -/
def WIN : FVec Ideal S1x32x256 .f32 := fun i =>
  if (i 2).val < 128 then skey (row X SH SC G W (i 1)) (gain2 gk) 16384 (128 + (i 2).val)
  else row X SH SC G W (i 1) (2432 + (128 + (i 2).val))
end Results

variable (V0 : Valuation τ sig (Elt Ideal))

/-- The projection's row, of the launch's arguments. -/
abbrev rowOf (b : Fin 32) : ℕ → EReal :=
  row (V0 (Proc.devRef .tc main_arg0)) (V0 (Proc.devRef .tc main_arg1)) (V0 (Proc.devRef .tc main_arg2))
    (V0 (Proc.devRef .tc main_arg3)) (V0 (Proc.devRef .tc main_arg4)) b

/-- The projection. -/
theorem proj_at (b : Fin 32) (n : Fin 2840) : res_main_v20 V0 (ix3 b 0 n) = rowOf V0 b n.val := by
  unfold rowOf row prj
  simp only [dif_pos n.isLt]
  pointwise [res_main_v20]

/-- The first keys' heads, normalised. -/
theorem norm1_at (b : Fin 32) (n : Fin 16) (j : Fin 32) :
    res_main_v41 V0 (ix4 b 0 n j) = nrm 32 0x42000000#32 (fun x => rowOf V0 b (512 + (n.val * 32 + x))) (gain1 (V0 (Proc.devRef .tc main_arg6))) j.val := by
  unfold nrm gain1
  rw [dif_pos j.isLt]
  pointwise [res_main_v41, res_main_v28]
  simp only [proj_at]

/-- The selected keys' heads, normalised. -/
theorem norm2_at (b : Fin 32) (n : Fin 2) (j : Fin 64) :
    res_main_v128 V0 (ix4 b 0 n j) = nrm 64 0x42800000#32 (fun x => rowOf V0 b (2176 + (n.val * 64 + x))) (gain2 (V0 (Proc.devRef .tc main_arg8)) 0) j.val := by
  unfold nrm gain2
  rw [dif_pos ⟨by decide, j.isLt⟩]
  pointwise [res_main_v128, res_main_v113, res_main_v75]
  simp only [proj_at]
  have e : ∀ k, 2048 + (128 + n.val * 64 + k) = 2176 + (n.val * 64 + k) := fun k => by omega
  simp only [e]

/-- The window keys' heads, normalised. -/
theorem norm3_at (b : Fin 32) (n : Fin 2) (j : Fin 64) :
    res_main_v178 V0 (ix4 b 0 n j) = nrm 64 0x42800000#32 (fun x => rowOf V0 b (2176 + ((2 + n.val) * 64 + x))) (gain2 (V0 (Proc.devRef .tc main_arg8)) 1) j.val := by
  unfold nrm gain2
  rw [dif_pos ⟨by decide, j.isLt⟩]
  pointwise [res_main_v178, res_main_v163, res_main_v75]
  simp only [proj_at]
  have e : ∀ k, 2048 + (256 + n.val * 64 + k) = 2176 + ((2 + n.val) * 64 + k) := fun k => by omega
  simp only [e]

/-- The angles of the first keys. -/
theorem ang1_at (i : Fin 4) : res_main_v52 V0 (ix2 0 i) = ang 0x40800000#32 16384 i.val := by
  unfold ang
  pointwise [res_main_v52, res_main_v2]
  rw [show IntOp.addi 16384#32 0#32 = 16384#32 from rfl]

/-- The angles of the compressed keys. -/
theorem ang2_at (i : Fin 8) : res_main_v89 V0 (ix2 0 i) = ang 0x41000000#32 16384 i.val := by
  unfold ang
  pointwise [res_main_v89, res_main_v2]
  rw [show IntOp.addi 16384#32 0#32 = 16384#32 from rfl]

/-- The angles of the selected keys. -/
theorem ang3_at (i : Fin 8) : res_main_v139 V0 (ix2 0 i) = ang 0x41000000#32 16384 i.val := by
  unfold ang
  pointwise [res_main_v139, res_main_v2]
  rw [show IntOp.addi 16384#32 0#32 = 16384#32 from rfl]

/-- The angles of the window keys. -/
theorem ang4_at (i : Fin 8) : res_main_v189 V0 (ix2 0 i) = ang 0x41000000#32 16384 i.val := by
  unfold ang
  pointwise [res_main_v189, res_main_v2]
  rw [show IntOp.addi 16384#32 0#32 = 16384#32 from rfl]

end Cert.Reference4Ideal.Keys
-- ==== Proof.StepRefRun.lean ====
/- What the reference of the decoding step's projection returns. -/
module

public import proofs.«01_k».proof.Proof.StepRef

@[expose] public section

set_option maxRecDepth 16384

noncomputable section

namespace Cert.Reference4Ideal.Keys

open Idealize.ShloMosaic Idealize.ShloMosaic.TcCoe Idealize.ShloMosaic.Tactic Idealize.SL.Sem Idealize.ShloMosaic.StableHlo
open Cert.Reference4Ideal Cert.Reference4Ideal.Gen Cert.Reference4Ideal.Value
open Cert.Proj
open Cert.Reference3Ideal.Keys (gain1 gain2)

set_option maxHeartbeats 4000000 in
/-- The run, with its five results and its arguments. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v220) = DK (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v221) = DV (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v222) = NK (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg8))
      ∧ r.2.mem ((c.tc : Thread nD τ).loc main_v224) = NV (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v225) = WIN (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run (defs (F := Ideal)) _ _).mono (fun r h c => ⟨?_, ?_, ?_, ?_, ?_, (h c).2.2.2.2.2⟩) (Value.run (F := Ideal) m ρ)
  · refine (h c).1.trans ?_
    clear h
    funext i
    revert i
    show ∀ i : S1x32x512.Idx, _
    intro i
    idx_vars i
    show _ = dkey (rowOf (launchContents m c) i1) (gain1 (launchContents m c (Proc.devRef .tc main_arg6))) 16384 i2.val
    generalize launchContents m c = V0
    unfold dkey
    refine Eq.trans ?_ (turn_split 4 8 _ _ _ _ rfl)
    pointwise [res_main_v54, res_main_v56, res_main_v57, res_main_v58]
    simp only [norm1_at, ang1_at, dite_eq_ite]
  · refine (h c).2.1.trans ?_
    clear h
    funext i
    revert i
    show ∀ i : S1x32x512.Idx, _
    intro i
    idx_vars i
    show _ = rowOf (launchContents m c) i1 (1024 + i2.val)
    generalize launchContents m c = V0
    pointwise []
    rw [proj_at]
  · refine (h c).2.2.1.trans ?_
    clear h
    funext i
    revert i
    show ∀ i : S1x32x256.Idx, _
    intro i
    idx_vars i
    show _ = if i2.val < 128 then ckey (rowOf (launchContents m c) i1) 16384 i2.val else skey (rowOf (launchContents m c) i1) (gain2 (launchContents m c (Proc.devRef .tc main_arg8))) 16384 (i2.val - 128)
    generalize launchContents m c = V0
    unfold ckey skey
    rw [← turn_split 8 16 _ _ _ _ rfl, ← turn_split 8 16 _ _ _ _ rfl]
    pointwise [res_main_v75, res_main_v78, res_main_v91, res_main_v93, res_main_v94, res_main_v95, res_main_v141, res_main_v143, res_main_v144, res_main_v145]
    simp only [norm2_at, ang2_at, ang3_at, proj_at, dite_eq_ite]
    by_cases q : i2.val < 128
    · rw [if_pos (show i2.val / 128 < 1 by omega), if_pos q]
      have e : i2.val / 64 % 2 = i2.val / 64 := by omega
      simp only [e]
    · rw [if_neg (show ¬ i2.val / 128 < 1 by omega), if_neg q]
      have e : (i2.val - 128) / 64 = i2.val / 64 % 2 := by omega
      have e1 : (i2.val - 128) % 64 = i2.val % 64 := by omega
      have e2 : (i2.val - 128) / 128 = 0 := by omega
      simp only [e, e1, e2]
  · refine (h c).2.2.2.1.trans ?_
    clear h
    funext i
    revert i
    show ∀ i : S1x32x256.Idx, _
    intro i
    idx_vars i
    show _ = (rowOf (launchContents m c) i1) (2432 + i2.val)
    generalize launchContents m c = V0
    pointwise [res_main_v76]
    rw [proj_at]
    exact congrArg (rowOf V0 i1) (by show 2432 + (i2.val / 128 * 128 + i2.val / 64 % 2 * 64 + i2.val % 64) = _; omega)
  · refine (h c).2.2.2.2.1.trans ?_
    clear h
    funext i
    revert i
    show ∀ i : S1x32x256.Idx, _
    intro i
    idx_vars i
    show _ = if i2.val < 128 then skey (rowOf (launchContents m c) i1) (gain2 (launchContents m c (Proc.devRef .tc main_arg8))) 16384 (128 + i2.val) else (rowOf (launchContents m c) i1) (2432 + (128 + i2.val))
    generalize launchContents m c = V0
    unfold skey
    rw [← turn_split 8 16 _ _ _ _ rfl]
    pointwise [res_main_v76, res_main_v191, res_main_v193, res_main_v194, res_main_v195]
    simp only [norm3_at, ang4_at, proj_at, dite_eq_ite]
    by_cases q : i2.val < 128
    · rw [if_pos (show i2.val / 128 < 1 by omega), if_pos q]
      have e : (128 + i2.val) / 64 = 2 + i2.val / 64 % 2 := by omega
      have e1 : (128 + i2.val) % 64 = i2.val % 64 := by omega
      have e2 : (128 + i2.val) / 128 = 1 := by omega
      simp only [e, e1, e2]
    · rw [if_neg (show ¬ i2.val / 128 < 1 by omega), if_neg q]
      exact congrArg (rowOf V0 i1) (by omega)

end Cert.Reference4Ideal.Keys
-- ==== Proof.StepValue.lean ====
/- The five results of the decoding step's projection over extended reals: what the kernel leaves in memory is what the reference returns. -/
module

public import proofs.«01_k».proof.Defs
public import proofs.«01_k».proof.Proof.ProjValue
public import proofs.«01_k».proof.Proof.StepPay
public import proofs.«01_k».proof.Proof.StepHost
public import proofs.«01_k».proof.Proof.StepRefRun
public import proofs.«01_k».proof.Proof.Gen.Kernel4Ideal
public import Idealize.ShloMosaic.Lib.Pipeline.ValueKit
public import Idealize.ShloMosaic.Lib.Claim

@[expose] public section

set_option maxRecDepth 16384

noncomputable section

namespace Cert.Kernel4Ideal.Keys

open Idealize.ShloMosaic Idealize.ShloMosaic.TcCoe Idealize.ShloMosaic.Tactic Idealize.SL.Sem
open Cert.Kernel4Ideal Cert.Kernel4Ideal.Gen
open Cert.Proj
open Cert.Reference4Ideal.Keys (row DK DV NK NV WIN)
open Cert.Reference3Ideal.Keys (gain1 gain2)
open Cert.Kernel3Ideal.Keys (lt_wide prj_congr)

variable (m : (ℓ : Loc nD τ sig) → Buf (Elt Ideal) ℓ) (c : Dev nD)

/-- Where each operand's block lies at each grid point. -/
theorem idx : ∀ t : Fin cfg0.N, win0_0.index t = ![0, 0, 0]
    ∧ win0_1.index t = ![0, 0, 0]
    ∧ win0_2.index t = ![0, 0, 0]
    ∧ win0_3.index t = ![0, 0]
    ∧ win0_4.index t = ![0, 0]
    ∧ win0_5.index t = ![0, 0]
    ∧ win0_7.index t = ![0, 0]
    ∧ win0_8.index t = ![0, 0]
    ∧ win0_9.index t = ![0, 0]
    ∧ win0_10.index t = ![0, 0, 0]
    ∧ win0_11.index t = ![0, 0, 0] :=
  (by decide +kernel : ∀ t : Fin grid0.N, _)

/-- Where each result's block lies at each grid point. -/
theorem idx_out : ∀ t : Fin cfg0.N, win0_13.index t = ![0, 0, 0]
    ∧ win0_15.index t = ![0, 0, 0]
    ∧ win0_18.index t = ![0, 0, 0]
    ∧ win0_19.index t = ![0, 0, 0]
    ∧ win0_20.index t = ![0, 0, 0] :=
  (by decide +kernel : ∀ t : Fin grid0.N, _)

/-- The rows read are the input's. -/
theorem read_x (t : Fin cfg0.N) (r : Fin 32) (d : Fin 1024) :
    iblk m c 0 t (ix3 0 r d) = V m c main_v48 (ix3 0 r d) := by
  blk_simp [iblk, idx t]
  blk_ext [idx t]

/-- The shift read is the row's. -/
theorem read_sh (t : Fin cfg0.N) (r : Fin 32) (d : Fin 1024) :
    iblk m c 1 t (ix3 0 r d) = V m c main_v49 (ix3 0 r d) := by
  blk_simp [iblk, idx t]
  blk_ext [idx t]

/-- The scale read is the row's. -/
theorem read_sc (t : Fin cfg0.N) (r : Fin 32) (d : Fin 1024) :
    iblk m c 2 t (ix3 0 r d) = V m c main_v50 (ix3 0 r d) := by
  blk_simp [iblk, idx t]
  blk_ext [idx t]

/-- The gain is read whole. -/
theorem read_g (t : Fin cfg0.N) (d : Fin 1024) :
    iblk m c 3 t (ix2 0 d) = V m c main_v0 (ix2 0 d) := by
  blk_simp [iblk, idx t]
  blk_ext [idx t]

/-- The weight is read whole. -/
theorem read_w (t : Fin cfg0.N) (d : Fin 1024) (n : Fin 2944) :
    iblk m c 4 t (ix2 d n) = V m c main_v2 (ix2 d n) := by
  blk_simp [iblk, idx t]
  blk_ext [idx t]

/-- The first gains are read whole. -/
theorem read_gd (t : Fin cfg0.N) (i : Fin 2) (d : Fin 512) :
    iblk m c 5 t (ix2 i d) = V m c main_v11 (ix2 i d) := by
  blk_simp [iblk, idx t]
  blk_ext [idx t]

/-- The second gains are read whole. -/
theorem read_gk (t : Fin cfg0.N) (d : Fin 256) :
    iblk m c 7 t (ix2 0 d) = V m c main_v27 (ix2 0 d) := by
  blk_simp [iblk, idx t]
  blk_ext [idx t]

/-- The averaging matrix of 32 is read whole. -/
theorem read_m32 (t : Fin cfg0.N) (k j : Fin 256) :
    iblk m c 8 t (ix2 k j) = V m c main_v37 (ix2 k j) := by
  blk_simp [iblk, idx t]
  blk_ext [idx t]

/-- The averaging matrix of 64 is read whole. -/
theorem read_m64 (t : Fin cfg0.N) (k j : Fin 256) :
    iblk m c 9 t (ix2 k j) = V m c main_v47 (ix2 k j) := by
  blk_simp [iblk, idx t]
  blk_ext [idx t]

/-- The first tables' are read whole. -/
theorem read_td (t : Fin cfg0.N) (i : Fin 3) (r : Fin 32) (l : Fin 128) :
    iblk m c 10 t (ix3 i r l) = V m c main_v86 (ix3 i r l) := by
  blk_simp [iblk, idx t]
  blk_ext [idx t]

/-- The second tables' are read whole. -/
theorem read_tn (t : Fin cfg0.N) (i : Fin 3) (r : Fin 32) (l : Fin 128) :
    iblk m c 11 t (ix3 i r l) = V m c main_v121 (ix3 i r l) := by
  blk_simp [iblk, idx t]
  blk_ext [idx t]

/-- A load of table 0. -/
theorem load0 (X : Vec Ideal S3x32x128 .f32) (r : Fin 32) (l : Fin 128) : View.ld X r0_5 (ix3 0 r l) = X (ix3 0 r l) :=
  View.ld_unit_apply_of X ![0, 0, 0] S1x32x128.size inb_S3x32x128_S1x32x128_0_0_0 _ _ fun a => match a with
    | ⟨0, _⟩ => rfl
    | ⟨1, _⟩ => (Nat.zero_add _).symm
    | ⟨2, _⟩ => (Nat.zero_add _).symm

/-- A load of table 1. -/
theorem load1 (X : Vec Ideal S3x32x128 .f32) (r : Fin 32) (l : Fin 128) : View.ld X r0_6 (ix3 0 r l) = X (ix3 1 r l) :=
  View.ld_unit_apply_of X ![1, 0, 0] S1x32x128.size inb_S3x32x128_S1x32x128_1_0_0 _ _ fun a => match a with
    | ⟨0, _⟩ => rfl
    | ⟨1, _⟩ => (Nat.zero_add _).symm
    | ⟨2, _⟩ => (Nat.zero_add _).symm

/-- A load of table 2. -/
theorem load2 (X : Vec Ideal S3x32x128 .f32) (r : Fin 32) (l : Fin 128) : View.ld X r0_7 (ix3 0 r l) = X (ix3 2 r l) :=
  View.ld_unit_apply_of X ![2, 0, 0] S1x32x128.size inb_S3x32x128_S1x32x128_2_0_0 _ _ fun a => match a with
    | ⟨0, _⟩ => rfl
    | ⟨1, _⟩ => (Nat.zero_add _).symm
    | ⟨2, _⟩ => (Nat.zero_add _).symm

/-- The projection of a grid point's rows. -/
abbrev Y (t : Fin cfg0.N) : FVec Ideal S32x2944 .f32 := k0_pay27 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The reference's projection of a row of a grid point. -/
abbrev rowOf (t : Fin cfg0.N) (r : Fin 32) : ℕ → EReal :=
  row (m ((c : Thread nD τ).loc main_arg0)) (m ((c : Thread nD τ).loc main_arg1)) (m ((c : Thread nD τ).loc main_arg2)) (m ((c : Thread nD τ).loc main_arg3)) (m ((c : Thread nD τ).loc main_arg4)) r

/-- The kernel's projection is the reference's. -/
theorem rows_at (t : Fin cfg0.N) (r : Fin 32) (n : ℕ) (h : n < 2840) : Y m c t (ix2 r ⟨n, lt_wide h⟩) = rowOf m c t r n := by
  unfold Y k0_pay27
  simp (disch := decide) only [View.ld_unit_lit']
  refine (proj_at (iblk m c 0 t) (iblk m c 3 t) (iblk m c 2 t) (iblk m c 1 t) (iblk m c 4 t) r ⟨n, lt_wide h⟩
    (fun d n => if h : n < 2840 then m ((c : Thread nD τ).loc main_arg4) (ix2 d ⟨n, h⟩) else 0) (fun d => ?_)).trans ?_
  · rw [read_w, w_at m c d _ h]
    exact (dif_pos (c := n < 2840) (t := fun h => m ((c : Thread nD τ).loc main_arg4) (ix2 d ⟨n, h⟩)) (e := fun _ => (0 : EReal)) h).symm
  · exact prj_congr (funext fun d => (read_x m c t r d).trans (x_at m c r d)) (funext fun d => (read_sh m c t r d).trans (sh_at m c r d)) (funext fun d => (read_sc m c t r d).trans (sc_at m c r d))
      (funext fun d => (read_g m c t d).trans (g_at m c d)) _ n

/-- The averaging matrix of 32. -/
theorem avg32 (t : Fin cfg0.N) (k j : Fin 256) :
    k0_pay28 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 k j) = if k.val / 32 = j.val / 32 then Ideal.ofBits .f32 0x3D000000#32 else (0 : EReal) := by
  rw [← m32_at m c, ← read_m32 m c t]
  unfold k0_pay28
  simp (disch := decide) only [View.ld_unit_lit']
  pointwise [k0_pay6]

/-- The averaging matrix of 64. -/
theorem avg64 (t : Fin cfg0.N) (k j : Fin 256) :
    k0_pay29 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 k j) = if k.val / 64 = j.val / 64 then Ideal.ofBits .f32 0x3C800000#32 else (0 : EReal) := by
  rw [← m64_at m c, ← read_m64 m c t]
  unfold k0_pay29
  simp (disch := decide) only [View.ld_unit_lit']
  pointwise [k0_pay7]

/-- The first keys' gain. -/
theorem gain1_at (t : Fin cfg0.N) (p : Fin 512) :
    k0_pay30 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 1 p) = gain1 (m ((c : Thread nD τ).loc main_arg6)) (p.val % 32) := by
  unfold gain1
  rw [dif_pos (by omega), ← gd_at m c, ← read_gd m c t]
  unfold k0_pay30
  simp (disch := decide) only [View.ld_unit_lit']
  pointwise [k0_pay8]

/-- The second keys' gains. -/
theorem gain2_at (t : Fin cfg0.N) (p : Fin 256) :
    View.ld (iblk m c 7 t) r0_10 (ix2 0 p) = gain2 (m ((c : Thread nD τ).loc main_arg8)) (p.val / 128) (p.val % 64) := by
  unfold gain2
  rw [dif_pos ⟨by omega, by omega⟩, ← gk_at m c, ← read_gk m c t]
  exact congrFun (View.ld_unit_lit' (S := S1x256) inb_S1x256_S1x256_0_0 (iblk m c 7 t) (by decide)) (ix2 0 p)

/-- A load of table 0 of the first keys, at a position. -/
theorem load_td0 (t : Fin cfg0.N) (r : Fin 32) (l : Fin 128) :
    View.ld (iblk m c 10 t) r0_5 (ix3 0 r l) = tab0 4 0x40800000#32 16384 (l.val % 32) := by
  rw [load0, read_td, td0_at]

/-- A load of table 1 of the first keys, at a position. -/
theorem load_td1 (t : Fin cfg0.N) (r : Fin 32) (l : Fin 128) :
    View.ld (iblk m c 10 t) r0_6 (ix3 0 r l) = tab1 4 0x40800000#32 16384 (l.val % 32) := by
  rw [load1, read_td, td1_at]

/-- A load of table 2 of the first keys, at a position. -/
theorem load_td2 (t : Fin cfg0.N) (r : Fin 32) (l : Fin 128) :
    View.ld (iblk m c 10 t) r0_7 (ix3 0 r l) = tab2 4 0x40800000#32 16384 (l.val % 32) := by
  rw [load2, read_td, td2_at]

/-- A load of table 0 of the second keys, at a position. -/
theorem load_tn0 (t : Fin cfg0.N) (r : Fin 32) (l : Fin 128) :
    View.ld (iblk m c 11 t) r0_5 (ix3 0 r l) = tab0 8 0x41000000#32 16384 (l.val % 64) := by
  rw [load0, read_tn, tn0_at]

/-- A load of table 1 of the second keys, at a position. -/
theorem load_tn1 (t : Fin cfg0.N) (r : Fin 32) (l : Fin 128) :
    View.ld (iblk m c 11 t) r0_6 (ix3 0 r l) = tab1 8 0x41000000#32 16384 (l.val % 64) := by
  rw [load1, read_tn, tn1_at]

/-- A load of table 2 of the second keys, at a position. -/
theorem load_tn2 (t : Fin cfg0.N) (r : Fin 32) (l : Fin 128) :
    View.ld (iblk m c 11 t) r0_7 (ix3 0 r l) = tab2 8 0x41000000#32 16384 (l.val % 64) := by
  rw [load2, read_tn, tn2_at]

/-- The block stored of the first keys. -/
theorem stored13 (t : Fin cfg0.N) (r : Fin 32) (p : Fin 512) : out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r p) = dkey (rowOf m c t r) (gain1 (m ((c : Thread nD τ).loc main_arg6))) 16384 p.val := by
  unfold out0_13
  refine (congrFun (View.canon_unit_zero (S := S1x32x512) (off := ![0, 0, 0]) (by decide) inb_S1x32x512_S1x32x512_0_0_0 _) _).trans ?_
  unfold k0_pay31
  exact first_at (Y m c t) (rowOf m c t r) r (rows_at m c t r) _ _ _ _ _ (avg32 m c t) _ (gain1_at m c t) _ (load_td0 m c t r) (load_td1 m c t r) (load_td2 m c t r) p

/-- The block stored of the first values. -/
theorem stored15 (t : Fin cfg0.N) (r : Fin 32) (p : Fin 512) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r p) = (rowOf m c t r) (1024 + p.val) := by
  unfold out0_15
  refine (congrFun (View.canon_unit_zero (S := S1x32x512) (off := ![0, 0, 0]) (by decide) inb_S1x32x512_S1x32x512_0_0_0 _) _).trans ?_
  exact value1_at (Y m c t) (rowOf m c t r) r (rows_at m c t r) p

/-- The block stored of the compressed and the selected keys. -/
theorem stored18 (t : Fin cfg0.N) (r : Fin 32) (p : Fin 256) : out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r p)
    = if p.val < 128 then ckey (rowOf m c t r) 16384 p.val else skey (rowOf m c t r) (gain2 (m ((c : Thread nD τ).loc main_arg8))) 16384 (p.val - 128) := by
  unfold out0_18
  refine (congrFun (View.canon_unit_zero (S := S1x32x256) (off := ![0, 0, 0]) (by decide) inb_S1x32x256_S1x32x256_0_0_0 _) _).trans ?_
  unfold k0_pay32 k0_pay33
  refine (pair_at _ _ _ _ _ _ _ _ r p).trans ?_
  by_cases q : p.val < 128
  · rw [dif_pos q, if_pos q]
    exact plain_at (Y m c t) (rowOf m c t r) r (rows_at m c t r) _ _ _ _ (load_tn0 m c t r) (load_tn1 m c t r) (load_tn2 m c t r) ⟨p.val, q⟩
  · rw [dif_neg q, if_neg q]
    exact second_at (Y m c t) (rowOf m c t r) r (rows_at m c t r) _ _ _ _ _ (avg64 m c t) _ (gain2_at m c t) _ (load_tn0 m c t r) (load_tn1 m c t r) (load_tn2 m c t r) ⟨p.val - 128, by omega⟩

/-- The block stored of the second values. -/
theorem stored19 (t : Fin cfg0.N) (r : Fin 32) (p : Fin 256) : out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r p) = (rowOf m c t r) (2432 + p.val) := by
  unfold out0_19
  refine (congrFun (View.canon_unit_zero (S := S1x32x256) (off := ![0, 0, 0]) (by decide) inb_S1x32x256_S1x32x256_0_0_0 _) _).trans ?_
  exact value2_at (Y m c t) (rowOf m c t r) r (rows_at m c t r) p

/-- The block stored of the window's keys and values. -/
theorem stored20 (t : Fin cfg0.N) (r : Fin 32) (p : Fin 256) : out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r p)
    = if p.val < 128 then skey (rowOf m c t r) (gain2 (m ((c : Thread nD τ).loc main_arg8))) 16384 (128 + p.val) else (rowOf m c t r) (2432 + (128 + p.val)) := by
  unfold out0_20
  refine (congrFun (View.canon_unit_zero (S := S1x32x256) (off := ![0, 0, 0]) (by decide) inb_S1x32x256_S1x32x256_0_0_0 _) _).trans ?_
  refine (window_at (Y m c t) (rowOf m c t r) r (rows_at m c t r) _ p).trans ?_
  by_cases q : p.val < 128
  · rw [dif_pos q, if_pos q]
    exact second_at (Y m c t) (rowOf m c t r) r (rows_at m c t r) _ _ _ _ _ (avg64 m c t) _ (gain2_at m c t) _ (load_tn0 m c t r) (load_tn1 m c t r) (load_tn2 m c t r) ⟨128 + p.val, by omega⟩
  · rw [dif_neg q, if_neg q]

/-- The array behind window 13 after the run. -/
theorem final13 : (dats m 0 c).arrAt 13 cfg0.N = DK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 13 _ (by decide +kernel) fun t _ y => ?_
  revert y
  show ∀ y : S1x32x512.Idx, _
  intro y
  blk_simp
  rw [after0_13]
  idx_vars y
  have hy : y0 = 0 := Subsingleton.elim _ _
  subst hy
  have e : DK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (ix3 0 y1 y2) = out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 y1 y2) := (stored13 m c t y1 y2).symm
  refine e.symm.trans ?_
  blk_ext [idx_out t]

/-- The array behind window 15 after the run. -/
theorem final15 : (dats m 0 c).arrAt 15 cfg0.N = DV (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 15 _ (by decide +kernel) fun t _ y => ?_
  revert y
  show ∀ y : S1x32x512.Idx, _
  intro y
  blk_simp
  rw [after0_15]
  idx_vars y
  have hy : y0 = 0 := Subsingleton.elim _ _
  subst hy
  have e : DV (m ((c : Thread nD τ).loc main_arg0)) (m ((c : Thread nD τ).loc main_arg1)) (m ((c : Thread nD τ).loc main_arg2)) (m ((c : Thread nD τ).loc main_arg3)) (m ((c : Thread nD τ).loc main_arg4)) (ix3 0 y1 y2) = out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 y1 y2) := (stored15 m c t y1 y2).symm
  refine e.symm.trans ?_
  blk_ext [idx_out t]

/-- The array behind window 18 after the run. -/
theorem final18 : (dats m 0 c).arrAt 18 cfg0.N = NK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) := by
  refine (dats m 0 c).arrAt_eq_of_covers 18 _ (by decide +kernel) fun t _ y => ?_
  revert y
  show ∀ y : S1x32x256.Idx, _
  intro y
  blk_simp
  rw [after0_18]
  idx_vars y
  have hy : y0 = 0 := Subsingleton.elim _ _
  subst hy
  have e : NK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (ix3 0 y1 y2) = out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 y1 y2) := (stored18 m c t y1 y2).symm
  refine e.symm.trans ?_
  blk_ext [idx_out t]

/-- The array behind window 19 after the run. -/
theorem final19 : (dats m 0 c).arrAt 19 cfg0.N = NV (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 19 _ (by decide +kernel) fun t _ y => ?_
  revert y
  show ∀ y : S1x32x256.Idx, _
  intro y
  blk_simp
  rw [after0_19]
  idx_vars y
  have hy : y0 = 0 := Subsingleton.elim _ _
  subst hy
  have e : NV (m ((c : Thread nD τ).loc main_arg0)) (m ((c : Thread nD τ).loc main_arg1)) (m ((c : Thread nD τ).loc main_arg2)) (m ((c : Thread nD τ).loc main_arg3)) (m ((c : Thread nD τ).loc main_arg4)) (ix3 0 y1 y2) = out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 y1 y2) := (stored19 m c t y1 y2).symm
  refine e.symm.trans ?_
  blk_ext [idx_out t]

/-- The array behind window 20 after the run. -/
theorem final20 : (dats m 0 c).arrAt 20 cfg0.N = WIN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) := by
  refine (dats m 0 c).arrAt_eq_of_covers 20 _ (by decide +kernel) fun t _ y => ?_
  revert y
  show ∀ y : S1x32x256.Idx, _
  intro y
  blk_simp
  rw [after0_20]
  idx_vars y
  have hy : y0 = 0 := Subsingleton.elim _ _
  subst hy
  have e : WIN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (ix3 0 y1 y2) = out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 y1 y2) := (stored20 m c t y1 y2).symm
  refine e.symm.trans ?_
  blk_ext [idx_out t]

set_option maxHeartbeats 4000000 in
/-- The run, with its five results and its arguments. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v122_1) = DK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v122_3) = DV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v122_6) = NK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8))
      ∧ r.2.mem ((c.tc : Thread nD τ).loc main_v122_7) = NV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v122_8) = WIN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run (defs (F := Ideal)) _ _).mono (fun r h c => ?_) (run_main m ρ)
  exact ⟨((h c).1 (13 : Fin 24)).trans (final13 m c),
    ((h c).1 (15 : Fin 24)).trans (final15 m c),
    ((h c).1 (18 : Fin 24)).trans (final18 m c),
    ((h c).1 (19 : Fin 24)).trans (final19 m c),
    ((h c).1 (20 : Fin 24)).trans (final20 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

set_option maxHeartbeats 4000000 in
/-- The five results of the two runs agree. -/
theorem algebraic : @Cert.algebraic_Kernel4Ideal_Reference4Ideal Cert.Kernel4Ideal.Gen.facts Cert.Reference4Ideal.Gen.facts := by
  pair_intro
  · run_from run_value m g
  · run_from Cert.Reference4Ideal.Keys.run_value m' g'
    all_goals
      obtain ⟨e0, e1, e2, e3, e4, e5, e6, e7, e8⟩ := hagree c
    all_goals
      first
        | rw [e0, e1, e2, e3, e4, e6]
        | rw [e0, e1, e2, e3, e4, e8]
        | rw [e0, e1, e2, e3, e4]

end Cert.Kernel4Ideal.Keys
-- ==== Proof.Strips.lean ====
/- The kernel handles a chunk of 512 rows of scores as sixteen strips of 32 rows. Here: what the operations on one strip
   compute, read as a strip of one array over all the 512 rows, and the sixteen strips put together again. -/
module

public import proofs.«01_k».proof.Proof.Gen.KernelIdeal.Skeleton
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

/-- The running maxima after a chunk: of the ones before it and the chunk's scores, row by row. -/
def newMax (S : FVec Ideal S512x512 .f32) (M : FVec Ideal S512x128 .f32) : FVec Ideal S512x128 .f32 :=
  fun j => max (M j) (Finset.univ.fold max ⊥ fun k : Fin 512 => S (ix2 (j 0) k))

/-- The chunk's weights: two to the score less the row's maximum, which stands in every lane. -/
def weights (S : FVec Ideal S512x512 .f32) (M : FVec Ideal S512x128 .f32) : FVec Ideal S512x512 .bf16 :=
  fun j => Ideal.exp2 (S j - M (ix2 (j 0) (⟨(j 1).val % 128, Nat.mod_lt _ (by norm_num)⟩ : Fin 128)))

/-- The factors that carry the sums over to the new maxima. -/
def decay (M M' : FVec Ideal S512x128 .f32) : FVec Ideal S512x128 .f32 := fun j => Ideal.exp2 (M j - M' j)

/-- Thirty-two rows of the scores fit from any row up to 480 on. -/
theorem slices512 (o : Nat) (h : o + 32 ≤ 512) : S512x512.Slices ![o, 0] S32x512 :=
  ⟨rfl, fun a => by fin_cases a <;> simp <;> omega⟩
/-- Thirty-two rows of the maxima fit from any row up to 480 on. -/
theorem slices128 (o : Nat) (h : o + 32 ≤ 512) : S512x128.Slices ![o, 0] S32x128 :=
  ⟨rfl, fun a => by fin_cases a <;> simp <;> omega⟩

/-- The pattern the maximum starts from is minus infinity. -/
theorem ofBits_neg_inf : Ideal.ofBits .f32 0xFF800000#32 = ⊥ := by
  simp [Ideal.ofBits, Ideal.ieee]

/-- A strip's new maxima are the strip of the new maxima. -/
theorem strip_max (S : FVec Ideal S512x512 .f32) (M : FVec Ideal S512x128 .f32) (o : Nat)
    (h1 : S512x512.Slices ![o, 0] S32x512) (h2 : S512x128.Slices ![o, 0] S32x128) :
    maximumf (extractStridedSlice S32x128 ![o, 0] M h2) (broadcastTo S32x128 (shapeCast S32x1
        (multiReduction .maximumf [1] S32 (extractStridedSlice S32x512 ![o, 0] S h1) 0xFF800000#32 Facts₀.reduces_S32x512_S32 (.inl rfl) rfl)
        Facts₀.shapeCasts_S32_S32x1) Facts₀.broadcasts_S32x1_S32x128)
      = extractStridedSlice S32x128 ![o, 0] (newMax S M) h2 := by
  funext j
  idx_vars j
  pointwise [newMax]
  rw [ofBits_neg_inf]

/-- A strip's weights are the strip of the weights. -/
theorem strip_weights (S : FVec Ideal S512x512 .f32) (M : FVec Ideal S512x128 .f32) (o : Nat)
    (h1 : S512x512.Slices ![o, 0] S32x512) (h2 : S512x128.Slices ![o, 0] S32x128) (x : FVec Ideal S32x128 .f32)
    (hx : x = extractStridedSlice S32x128 ![o, 0] M h2) :
    truncf .bf16 (exp2 (subf (extractStridedSlice S32x512 ![o, 0] S h1)
        (concatenate S32x512 1 [⟨S32x128, x⟩, ⟨S32x128, x⟩, ⟨S32x128, x⟩, ⟨S32x128, x⟩]
          Facts₀.concatenates_S32x128_S32x128_S32x128_S32x128_S32x512_d1))) Facts₀.bitsLt_bf16_f32
      = extractStridedSlice S32x512 ![o, 0] (weights S M) h1 := by
  subst hx
  funext j
  idx_vars j
  pointwise [weights]
  show Ideal.exp2 _ = _
  congr 2
  split_ifs <;> (refine congrArg M ?_; idx_ext <;> omega)

/-- The scores with those after the row's own position set to minus infinity: `q` is the first row's position, `t` the
    first column's. -/
def masked (q t : BitVec 32) (S : FVec Ideal S512x512 .f32) : FVec Ideal S512x512 .f32 :=
  fun j => if (t + BitVec.ofNat 32 (j 1).val).sle (q + BitVec.ofNat 32 (j 0).val) then S j else ⊥

/-- A strip's mask leaves the strip of the masked scores. -/
theorem strip_masked (q t : BitVec 32) (S : FVec Ideal S512x512 .f32) (o : Nat) (h1 : S512x512.Slices ![o, 0] S32x512) :
    select (cmpi .sle (addi (broadcast S32x512 t) (iota .tc S32x512 32 [1] Facts₀.iota_S32x512_d1_w32))
        (addi (broadcast S32x512 (Scalar.addi q (BitVec.ofNat 32 o))) (iota .tc S32x512 32 [0] Facts₀.iota_S32x512_d0_w32)))
      (extractStridedSlice S32x512 ![o, 0] S h1) (broadcast S32x512 (Named.named (F := Ideal) κ "mask" (0xF149F2CA#32 : BitVec FTy.f32.bits)))
      = extractStridedSlice S32x512 ![o, 0] (masked q t S) h1 := by
  funext j
  idx_vars j
  pointwise [masked]
  rw [IdealRules.named_const.ideal_named_scalar κ "mask" _ ⊥ rfl]
  have e : Scalar.addi q (BitVec.ofNat 32 o) + BitVec.ofNat 32 ↑j0 = q + BitVec.ofNat 32 (o + ↑j0) := by
    rw [BitVec.ofNat_add, ← BitVec.add_assoc]; rfl
  simp only [IntOp.cmpi, IntOp.addi, e, Scalar.select]
  split_ifs <;> simp_all

/-- Sixteen strips of 32 rows, one after the other, are the array they are taken from. -/
theorem concat_rows (n : Nat) (G : (⟨2, ![512, n]⟩ : Shape).Idx → EReal) (f : Fin 16 → (⟨2, ![32, n]⟩ : Shape).Idx → EReal)
    (hf : ∀ (r : Fin 16) (i : Fin 32) (k : Fin n), f r (ix2 i k) = G (ix2 ⟨32 * r.val + i.val, by omega⟩ k))
    (h : Shape.Concatenates ((List.ofFn fun r : Fin 16 => (⟨⟨2, ![32, n]⟩, f r⟩ : (s : Shape) × (s.Idx → EReal))).map (·.1))
      ⟨2, ![512, n]⟩ 0) :
    concatenate ⟨2, ![512, n]⟩ 0 (List.ofFn fun r : Fin 16 => (⟨⟨2, ![32, n]⟩, f r⟩ : (s : Shape) × (s.Idx → EReal))) h = G := by
  funext j
  obtain ⟨j0, j1, rfl⟩ : ∃ (j0 : Fin 512) (j1 : Fin n), j = ix2 j0 j1 :=
    ⟨j 0, j 1, by funext a; fin_cases a <;> rfl⟩
  have h0 : (j0 : Nat) < 512 := j0.isLt
  rw [Idealize.ShloMosaic.concatenate_ofFn_apply (s₁ := ⟨2, ![32, n]⟩) 0 f h rfl 32 rfl (ix2 j0 j1)
    ⟨j0.val / 32, by omega⟩ rfl (ix2 ⟨j0.val % 32, Nat.mod_lt _ (by decide)⟩ j1) rfl
    (fun b hb => by fin_cases b; · exact absurd rfl hb
                    · rfl), hf]
  refine congrArg G ?_
  idx_ext

end Cert.KernelIdeal.Attn
-- ==== Proof.Trip.lean ====
/- One trip of the loop over the chunks before the diagonal, and the masked chunk after it, as the arithmetic on the four
   channels' running maxima and sums it is, strip by strip. -/
module

public import proofs.«01_k».proof.Proof.Strips
public import proofs.«01_k».proof.Proof.Gen.KernelIdeal.Loops

@[expose] public section

set_option maxRecDepth 16384

noncomputable section

namespace Cert.KernelIdeal.Attn

open Idealize.ShloMosaic Idealize.ShloMosaic.TcCoe Idealize.SL.Sem
open Cert.KernelIdeal Cert.KernelIdeal.Gen

variable {F : FTy → Type} [FloatOps F] [Named F]

/-- A strip's maxima: of the running ones and the strip's scores. -/
def rowMax (M : FVec F S512x128 .f32) (s : Fin 16 → FVec F S32x512 .f32) (r : Fin 16) : FVec F S32x128 .f32 :=
  maximumf (extractStridedSlice S32x128 ![32 * r.val, 0] M (slices128 _ (by omega))) (broadcastTo S32x128 (shapeCast S32x1
    (multiReduction .maximumf [1] S32 (s r) 0xFF800000#32 Facts₀.reduces_S32x512_S32 (.inl rfl) rfl)
    Facts₀.shapeCasts_S32_S32x1) Facts₀.broadcasts_S32x1_S32x128)

/-- A strip's weights. -/
def rowWeights (M : FVec F S512x128 .f32) (s : Fin 16 → FVec F S32x512 .f32) (r : Fin 16) : FVec F S32x512 .bf16 :=
  truncf .bf16 (exp2 (subf (s r) (concatenate S32x512 1 [⟨S32x128, rowMax M s r⟩, ⟨S32x128, rowMax M s r⟩,
    ⟨S32x128, rowMax M s r⟩, ⟨S32x128, rowMax M s r⟩] Facts₀.concatenates_S32x128_S32x128_S32x128_S32x128_S32x512_d1)))
    Facts₀.bitsLt_bf16_f32

/-- A strip's factors for the old sums. -/
def rowDecay (M : FVec F S512x128 .f32) (s : Fin 16 → FVec F S32x512 .f32) (r : Fin 16) : FVec F S32x128 .f32 :=
  exp2 (subf (extractStridedSlice S32x128 ![32 * r.val, 0] M (slices128 _ (by omega))) (rowMax M s r))

/-- Sixteen strips of 128 lanes under one another. -/
def stack (f : Fin 16 → FVec F S32x128 .f32) : FVec F S512x128 .f32 :=
  concatenate S512x128 0 (List.ofFn fun r : Fin 16 => (⟨S32x128, f r⟩ : (s : Shape) × (s.Idx → F .f32)))
    Facts₀.concatenates_S32x128_S32x128_S32x128_S32x128_S32x128_S32x128_S32x128_S32x128_S32x128_S32x128_S32x128_S32x128_S32x128_S32x128_S32x128_S32x128_S512x128_d0

/-- Sixteen strips of 512 columns under one another. -/
def stackW (f : Fin 16 → FVec F S32x512 .bf16) : FVec F S512x512 .bf16 :=
  concatenate S512x512 0 (List.ofFn fun r : Fin 16 => (⟨S32x512, f r⟩ : (s : Shape) × (s.Idx → F .bf16)))
    Facts₀.concatenates_S32x512_S32x512_S32x512_S32x512_S32x512_S32x512_S32x512_S32x512_S32x512_S32x512_S32x512_S32x512_S32x512_S32x512_S32x512_S32x512_S512x512_d0

/-- A channel's maxima after a chunk. -/
def stepMax (M : FVec F S512x128 .f32) (s : Fin 16 → FVec F S32x512 .f32) : FVec F S512x128 .f32 := stack (rowMax M s)

/-- A channel's sums after a chunk. -/
def stepAcc (M A : FVec F S512x128 .f32) (s : Fin 16 → FVec F S32x512 .f32) (v : FVec F S512x128 .bf16) : FVec F S512x128 .f32 :=
  addf (mulf (stack (rowDecay M s)) A)
    (matmul dot_S512x512_S512x128_S512x128_1_0_0_1_n_n none (stackW (rowWeights M s)) v (constant S512x128 .f32 0x00000000#32))

/-- A chunk's scores for a channel. -/
def scores (q : FVec F S512x128 .bf16) (k : Vec F S1x512x128 .bf16) : FVec F S512x512 .f32 :=
  matmul dot_S512x128_S512x128_S512x512_1_1_0_0_n_n none q (shapeCast S512x128 k Facts₀.shapeCasts_S1x512x128_S512x128)
    (constant S512x512 .f32 0x00000000#32)

/-- The scores' strips. -/
def strips (S : FVec F S512x512 .f32) (r : Fin 16) : FVec F S32x512 .f32 :=
  extractStridedSlice S32x512 ![32 * r.val, 0] S (slices512 _ (by omega))

/-- The eight carried values after a chunk, from the four channels' strips of scores and the two value operands. -/
def step (s0 s1 s2 s3 : Fin 16 → FVec F S32x512 .f32) (va vb : FVec F S512x128 .bf16)
    (acc : FVec F S512x128 .f32 × FVec F S512x128 .f32 × FVec F S512x128 .f32 × FVec F S512x128 .f32 ×
      FVec F S512x128 .f32 × FVec F S512x128 .f32 × FVec F S512x128 .f32 × FVec F S512x128 .f32) :
    FVec F S512x128 .f32 × FVec F S512x128 .f32 × FVec F S512x128 .f32 × FVec F S512x128 .f32 ×
      FVec F S512x128 .f32 × FVec F S512x128 .f32 × FVec F S512x128 .f32 × FVec F S512x128 .f32 :=
  (stepMax acc.1 s0, stepMax acc.2.1 s1, stepMax acc.2.2.1 s2, stepMax acc.2.2.2.1 s3,
    stepAcc acc.1 acc.2.2.2.2.1 s0 va, stepAcc acc.2.1 acc.2.2.2.2.2.1 s1 va,
    stepAcc acc.2.2.1 acc.2.2.2.2.2.2.1 s2 vb, stepAcc acc.2.2.2.1 acc.2.2.2.2.2.2.2 s3 vb)

/-- A trip of the loop is one step over its chunk. -/
theorem trip_eq (𝒱 : Variants) (c : Dev nD) (bd : Option 𝒱.V) (i : grid0.Coords) (arg3 : Memref sig .tc .vmem S4x32 .f32) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128 .f32) (harg7 : arg7.IsWhole) (arg8 : Memref sig .tc .vmem S1x512x128 .bf16) (harg8 : arg8.IsWhole) (v27 : FVec F S512x128 .bf16) (v35 : FVec F S512x128 .bf16) (v43 : FVec F S512x128 .bf16) (v51 : FVec F S512x128 .bf16) (v53 : IVec S1x128 1) (v54 : FVec F S512x128 .bf16) (v55 : BitVec 32) (v56 : FVec F S512x128 .f32) (v57 : FVec F S512x128 .f32) (v58 : FVec F S512x128 .f32) (v59 : FVec F S512x128 .f32) (v60 : FVec F S512x128 .f32) (v61 : FVec F S512x128 .f32) (v62 : FVec F S512x128 .f32) (v63 : FVec F S512x128 .f32) (v80 : BitVec 32) (c0_i32_26 : BitVec 32) (X_arg5 : BufTy.Contents (Elt F) arg5.view.ty) (X_arg6 : BufTy.Contents (Elt F) arg6.view.ty) (k : Fin (k0_t1_loop i).trips)
    (acc : FVec F S512x128 .f32 × FVec F S512x128 .f32 × FVec F S512x128 .f32 × FVec F S512x128 .f32 ×
      FVec F S512x128 .f32 × FVec F S512x128 .f32 × FVec F S512x128 .f32 × FVec F S512x128 .f32) :
    tripR_k0_t1 (F := F) 𝒱 c bd i arg3 harg3 arg4 harg4 arg5 harg5 arg6 harg6 arg7 harg7 arg8 harg8 v27 v35 v43 v51 v53 v54 v55 v56 v57 v58 v59 v60 v61 v62 v63 v80 c0_i32_26 X_arg5 X_arg6 k acc
      = step (strips (scores v27 (arg5.view.readAt (Elt F) (Rect.unit (s := S1x4096x128) (k0_off1 i k) S1x512x128.size (k0_off1_inb i k)).toLoadRect X_arg5)))
          (strips (scores v35 (arg5.view.readAt (Elt F) (Rect.unit (s := S1x4096x128) (k0_off1 i k) S1x512x128.size (k0_off1_inb i k)).toLoadRect X_arg5)))
          (strips (scores v43 (arg5.view.readAt (Elt F) (Rect.unit (s := S1x4096x128) (k0_off1 i k) S1x512x128.size (k0_off1_inb i k)).toLoadRect X_arg5)))
          (strips (scores v51 (arg5.view.readAt (Elt F) (Rect.unit (s := S1x4096x128) (k0_off1 i k) S1x512x128.size (k0_off1_inb i k)).toLoadRect X_arg5)))
          (k0_pay4 v53 v54 (arg6.view.readAt (Elt F) (Rect.unit (s := S1x4096x128) (k0_off1 i k) S1x512x128.size (k0_off1_inb i k)).toLoadRect X_arg6))
          (k0_pay5 v53 v54 (arg6.view.readAt (Elt F) (Rect.unit (s := S1x4096x128) (k0_off1 i k) S1x512x128.size (k0_off1_inb i k)).toLoadRect X_arg6)) acc := by
  unfold tripR_k0_t1 trip_k0_t1
  rfl

end Cert.KernelIdeal.Attn
-- ==== Proof.Out.lean ====
/- What the kernel's body leaves in the output block: the two loops' carried values, one masked step, and the closing
   arithmetic on the four sums. -/
module

public import proofs.«01_k».proof.Proof.Trip
public import proofs.«01_k».proof.Proof.Gen.KernelIdeal.Frame
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Cert.KernelIdeal Cert.KernelIdeal.Gen

variable {F : FTy → Type} [FloatOps F] [Named F]

/-- The first row of the point's queries. -/
def qstart (i : grid0.Coords) : BitVec 32 := Scalar.muli (BitVec.ofNat 32 (i 2).val) 512#32

/-- How many whole chunks lie before the diagonal, as the kernel divides. -/
def chunks (i : grid0.Coords) : BitVec 32 :=
  Scalar.select
    (Scalar.andi
      (Scalar.cmpi .ne (Scalar.subi (Scalar.extui (Scalar.cmpi .sgt (qstart i) 0#32)) (Scalar.extui (Scalar.cmpi .slt (qstart i) 0#32)))
        (Scalar.subi (Scalar.extui (Scalar.cmpi .sgt 512#32 0#32)) (Scalar.extui (Scalar.cmpi .slt 512#32 0#32))))
      (Scalar.cmpi .ne (Scalar.remsi (qstart i) 512#32) 0#32))
    (Scalar.subi (Scalar.divsi (qstart i) 512#32) 1#32) (Scalar.divsi (qstart i) 512#32)

/-- The four channels' queries: the block with the lanes of the other channels set to zero. -/
def query0 (v : Vec F S1x512x128 .bf16) : FVec F S512x128 .bf16 := k0_pay687 v
/-- The second channel's. -/
def query1 (v : Vec F S1x512x128 .bf16) : FVec F S512x128 .bf16 := k0_pay688 v
/-- The third channel's. -/
def query2 (v : Vec F S1x512x128 .bf16) : FVec F S512x128 .bf16 := k0_pay690 (k0_pay684 v) (k0_pay686 (F := F)) k0_pay689
/-- The fourth channel's. -/
def query3 (v : Vec F S1x512x128 .bf16) : FVec F S512x128 .bf16 :=
  k0_pay691 (k0_pay684 v) (iota .tc S1x128 32 [1] Facts₀.iota_S1x128_d1_w32) (k0_pay686 (F := F))

/-- The lanes of the block's first head. -/
def firstHead : IVec S1x128 1 := k0_pay692 (iota .tc S1x128 32 [1] Facts₀.iota_S1x128_d1_w32)

/-- The masked strips of a chunk's scores. -/
def maskedStrips (q t : BitVec 32) (S : FVec F S512x512 .f32) (r : Fin 16) : FVec F S32x512 .f32 :=
  select (cmpi .sle (addi (broadcast S32x512 t) (iota .tc S32x512 32 [1] Facts₀.iota_S32x512_d1_w32))
      (addi (broadcast S32x512 (Scalar.addi q (BitVec.ofNat 32 (32 * r.val)))) (iota .tc S32x512 32 [0] Facts₀.iota_S32x512_d0_w32)))
    (strips S r) (broadcast S32x512 (Named.named (F := F) κ "mask" (0xF149F2CA#32 : BitVec FTy.f32.bits)))

/-- The two attentions' difference, from the four channels' sums: each sum over its own weights' total. -/
def difference (l : FVec F S1x1 .f32) (a0 a1 a2 a3 : FVec F S512x128 .f32) : FVec F S512x128 .f32 :=
  subf
    (select (broadcastTo S512x128 (shapeCast S1x128 firstHead Facts₀.shapeCasts_S1x128_S1x128) Facts₀.broadcasts_S1x128_S512x128)
      (divf a0 (dynamicRotate 1 64#32 none a0 Facts₀.rotates_S512x128_d1)) (divf a2 (dynamicRotate 1 64#32 none a2 Facts₀.rotates_S512x128_d1)))
    (mulf (broadcastTo S512x128 l Facts₀.broadcasts_S1x1_S512x128)
      (select (broadcastTo S512x128 (shapeCast S1x128 firstHead Facts₀.shapeCasts_S1x128_S1x128) Facts₀.broadcasts_S1x128_S512x128)
        (divf a1 (dynamicRotate 1 64#32 none a1 Facts₀.rotates_S512x128_d1)) (divf a3 (dynamicRotate 1 64#32 none a3 Facts₀.rotates_S512x128_d1))))

/-- The block stored: the difference normalised over each head's lanes, times the weight and the constant factor. -/
def normalised (o : FVec F S512x128 .f32) (g : Vec F S1x128 .f32) : FVec F S1x512x128 .bf16 :=
  k0_pay1 (k0_pay1068 o (iota .tc S1x128 32 [1] Facts₀.iota_S1x128_d1_w32) (mulf o o) k0_pay1067 (Scalar.ofBits .f32 0x00000000#32))
    (k0_pay1069 (k0_pay1065 g))

/-- The block stored, from the eight values carried to the diagonal. -/
def closing (i : grid0.Coords) (V0 : Vec F S1x512x128 .bf16) (kc vc : Vec F S1x512x128 .bf16) (lp : Vec F S4x32 .f32) (g : Vec F S1x128 .f32)
    (acc : FVec F S512x128 .f32 × FVec F S512x128 .f32 × FVec F S512x128 .f32 × FVec F S512x128 .f32 × FVec F S512x128 .f32 × FVec F S512x128 .f32 × FVec F S512x128 .f32 × FVec F S512x128 .f32) : FVec F S1x512x128 .bf16 :=
  normalised (difference (k0_pay685 lp)
    (stepAcc acc.1 acc.2.2.2.2.1 (maskedStrips (qstart i) (Scalar.muli (chunks i) 512#32) (scores (query0 V0) kc)) (k0_pay4 firstHead (k0_pay693 (F := F)) vc))
    (stepAcc acc.2.1 acc.2.2.2.2.2.1 (maskedStrips (qstart i) (Scalar.muli (chunks i) 512#32) (scores (query1 V0) kc)) (k0_pay4 firstHead (k0_pay693 (F := F)) vc))
    (stepAcc acc.2.2.1 acc.2.2.2.2.2.2.1 (maskedStrips (qstart i) (Scalar.muli (chunks i) 512#32) (scores (query2 V0) kc)) (k0_pay5 firstHead (k0_pay693 (F := F)) vc))
    (stepAcc acc.2.2.2.1 acc.2.2.2.2.2.2.2 (maskedStrips (qstart i) (Scalar.muli (chunks i) 512#32) (scores (query3 V0) kc)) (k0_pay5 firstHead (k0_pay693 (F := F)) vc))) g

/-- The output block after the body, over the loops' carried values. -/
theorem out_eq (c : Dev nD) (i : grid0.Coords) (arg3 : Memref sig .tc .vmem S4x32 .f32) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128 .f32) (harg7 : arg7.IsWhole) (arg8 : Memref sig .tc .vmem S1x512x128 .bf16) (harg8 : arg8.IsWhole)
    (x0 : Vec F S4x32 .f32) (x1 : Vec F S1x512x128 .bf16) (x2 : Vec F S1x4096x128 .bf16) (x3 : Vec F S1x4096x128 .bf16) (x4 : Vec F S1x128 .f32) :
    out0_A_5 (F := F) c i arg3 harg3 arg4 harg4 arg5 harg5 arg6 harg6 arg7 harg7 arg8 harg8 x0 x1 x2 x3 x4
      = closing i (arg4.view.readAt (Elt F) (Rect.unit (s := S1x512x128) ![0, 0, 0] S1x512x128.size inb_S1x512x128_S1x512x128_0_0_0).toLoadRect (harg4.unread x1)) (arg5.view.readAt (Elt F) (Rect.unit (s := S1x4096x128) (k0_off3 i) S1x512x128.size (k0_off3_inb i)).toLoadRect (harg5.unread x2)) (arg6.view.readAt (Elt F) (Rect.unit (s := S1x4096x128) (k0_off3 i) S1x512x128.size (k0_off3_inb i)).toLoadRect (harg6.unread x3)) (arg3.view.readAt (Elt F) (Rect.unit (s := S4x32) ![0, 0] S4x32.size inb_S4x32_S4x32_0_0).toLoadRect (harg3.unread x0)) (arg7.view.readAt (Elt F) (Rect.unit (s := S1x128) ![0, 0] S1x128.size inb_S1x128_S1x128_0_0).toLoadRect (harg7.unread x4))
          (st_k0_t2 (F := F) Variants.none c none i arg3 harg3 arg4 harg4 arg5 harg5 arg6 harg6 arg7 harg7 arg8 harg8 (query0 (arg4.view.readAt (Elt F) (Rect.unit (s := S1x512x128) ![0, 0, 0] S1x512x128.size inb_S1x512x128_S1x512x128_0_0_0).toLoadRect (harg4.unread x1))) (query1 (arg4.view.readAt (Elt F) (Rect.unit (s := S1x512x128) ![0, 0, 0] S1x512x128.size inb_S1x512x128_S1x512x128_0_0_0).toLoadRect (harg4.unread x1))) (query2 (arg4.view.readAt (Elt F) (Rect.unit (s := S1x512x128) ![0, 0, 0] S1x512x128.size inb_S1x512x128_S1x512x128_0_0_0).toLoadRect (harg4.unread x1))) (query3 (arg4.view.readAt (Elt F) (Rect.unit (s := S1x512x128) ![0, 0, 0] S1x512x128.size inb_S1x512x128_S1x512x128_0_0_0).toLoadRect (harg4.unread x1))) firstHead (k0_pay693 (F := F)) (qstart i) (k0_pay694 (F := F)) (k0_pay695 (F := F)) (k0_pay696 (F := F)) (k0_pay697 (F := F)) (k0_pay698 (F := F)) (k0_pay699 (F := F)) (k0_pay700 (F := F)) (k0_pay701 (F := F)) (chunks i) 0#32 (Scalar.addi 0#32 (Scalar.muli (Scalar.divsi (Scalar.subi (chunks i) 0#32) 1#32) 1#32)) (harg5.unread x2) (harg6.unread x3)
            (st_k0_t1 (F := F) Variants.none c none i arg3 harg3 arg4 harg4 arg5 harg5 arg6 harg6 arg7 harg7 arg8 harg8 (query0 (arg4.view.readAt (Elt F) (Rect.unit (s := S1x512x128) ![0, 0, 0] S1x512x128.size inb_S1x512x128_S1x512x128_0_0_0).toLoadRect (harg4.unread x1))) (query1 (arg4.view.readAt (Elt F) (Rect.unit (s := S1x512x128) ![0, 0, 0] S1x512x128.size inb_S1x512x128_S1x512x128_0_0_0).toLoadRect (harg4.unread x1))) (query2 (arg4.view.readAt (Elt F) (Rect.unit (s := S1x512x128) ![0, 0, 0] S1x512x128.size inb_S1x512x128_S1x512x128_0_0_0).toLoadRect (harg4.unread x1))) (query3 (arg4.view.readAt (Elt F) (Rect.unit (s := S1x512x128) ![0, 0, 0] S1x512x128.size inb_S1x512x128_S1x512x128_0_0_0).toLoadRect (harg4.unread x1))) firstHead (k0_pay693 (F := F)) (qstart i) (k0_pay694 (F := F)) (k0_pay695 (F := F)) (k0_pay696 (F := F)) (k0_pay697 (F := F)) (k0_pay698 (F := F)) (k0_pay699 (F := F)) (k0_pay700 (F := F)) (k0_pay701 (F := F)) (chunks i) 0#32 (harg5.unread x2) (harg6.unread x3) (k0_pay694 (F := F), k0_pay695 (F := F), k0_pay696 (F := F), k0_pay697 (F := F), k0_pay698 (F := F), k0_pay699 (F := F), k0_pay700 (F := F), k0_pay701 (F := F)) (k0_t1_loop i).trips)
            (k0_t2_loop i).trips) := by
  unfold out0_A_5 kernelRun0_A
  rw [View.read_writes_junk_eq_canon]
  refine (View.canon_unit_zero (S := S1x512x128) (off := ![0, 0, 0]) (by decide) inb_S1x512x128_S1x512x128_0_0_0 _).trans ?_
  rfl

end Cert.KernelIdeal.Attn
-- ==== Proof.Step.lean ====
/- One step of the running softmax over whole chunks: the sixteen strips of each array put together. -/
module

public import proofs.«01_k».proof.Proof.Out

@[expose] public section

set_option maxRecDepth 16384

noncomputable section

namespace Cert.KernelIdeal.Attn

open Idealize.ShloMosaic Idealize.ShloMosaic.TcCoe Idealize.SL.Sem
open Cert.KernelIdeal Cert.KernelIdeal.Gen

/-- A strip's maxima are a strip of the chunk's. -/
theorem rowMax_strips (M : FVec Ideal S512x128 .f32) (S : FVec Ideal S512x512 .f32) (r : Fin 16) :
    rowMax M (strips S) r = extractStridedSlice S32x128 ![32 * r.val, 0] (newMax S M) (slices128 _ (by omega)) :=
  strip_max S M (32 * r.val) (slices512 _ (by omega)) (slices128 _ (by omega))

/-- A channel's maxima after a chunk of scores. -/
theorem stepMax_eq (M : FVec Ideal S512x128 .f32) (S : FVec Ideal S512x512 .f32) :
    stepMax M (strips S) = newMax S M := by
  unfold stepMax stack
  exact concat_rows 128 _ _ (fun r i k => by rw [rowMax_strips]; pointwise) _

/-- The weights of a chunk. -/
theorem weights_eq (M : FVec Ideal S512x128 .f32) (S : FVec Ideal S512x512 .f32) :
    stackW (rowWeights M (strips S)) = weights S (newMax S M) := by
  unfold stackW
  exact concat_rows 512 _ _ (fun r i k => by
    have e : rowWeights M (strips S) r = extractStridedSlice S32x512 ![32 * r.val, 0] (weights S (newMax S M)) (slices512 _ (by omega)) :=
      strip_weights S (newMax S M) (32 * r.val) (slices512 _ (by omega)) (slices128 _ (by omega)) _ (rowMax_strips M S r)
    rw [e]; pointwise) _

/-- The factors for the old sums. -/
theorem decay_eq (M : FVec Ideal S512x128 .f32) (S : FVec Ideal S512x512 .f32) :
    stack (rowDecay M (strips S)) = decay M (newMax S M) := by
  unfold stack
  exact concat_rows 128 _ _ (fun r i k => by
    unfold rowDecay; rw [rowMax_strips]; pointwise [decay]; rfl) _

/-- A channel's sums after a chunk of scores. -/
theorem stepAcc_eq (M A : FVec Ideal S512x128 .f32) (S : FVec Ideal S512x512 .f32) (v : FVec Ideal S512x128 .bf16) (r : Fin 512) (l : Fin 128) :
    stepAcc M A (strips S) v (ix2 r l)
      = Ideal.exp2 (M (ix2 r l) - newMax S M (ix2 r l)) * A (ix2 r l)
        + ∑ k : Fin 512, weights S (newMax S M) (ix2 r k) * v (ix2 k l) := by
  unfold stepAcc
  rw [weights_eq, decay_eq]
  pointwise [decay]

/-- Masked strips are the strips of the masked scores. -/
theorem maskedStrips_eq (q t : BitVec 32) (S : FVec Ideal S512x512 .f32) :
    maskedStrips q t S = strips (masked q t S) :=
  funext fun r => strip_masked q t S (32 * r.val) (slices512 _ (by omega))

end Cert.KernelIdeal.Attn
-- ==== Proof.Chunks.lean ====
/- The loops over the chunks before the diagonal: how often each runs, what each trip reads, and the carried values as a
   plain recursion on the number of chunks. -/
module

public import proofs.«01_k».proof.Proof.Step

@[expose] public section

set_option maxRecDepth 16384

noncomputable section

namespace Cert.KernelIdeal.Attn

open Idealize.ShloMosaic Idealize.ShloMosaic.TcCoe Idealize.SL.Sem
open Cert.KernelIdeal Cert.KernelIdeal.Gen

/-- The first loop runs once per chunk before the diagonal. -/
theorem trips1 : ∀ t : Fin grid0.N, (k0_t1_loop (grid0.coords t)).trips = (grid0.coords t 2).val := by decide +kernel

/-- The remainder loop does not run. -/
theorem trips2 : ∀ t : Fin grid0.N, (k0_t2_loop (grid0.coords t)).trips = 0 := by decide +kernel

/-- The masked chunk starts at the queries' first row. -/
theorem off3 : ∀ t : Fin grid0.N, k0_off3 (grid0.coords t) = ![0, 512 * (grid0.coords t 2).val, 0] := by decide +kernel

/-- The chunk's number times 512 and the first row's position are one word. -/
theorem starts : ∀ t : Fin grid0.N, qstart (grid0.coords t) = BitVec.ofNat 32 (512 * (grid0.coords t 2).val)
    ∧ Scalar.muli (chunks (grid0.coords t)) 512#32 = BitVec.ofNat 32 (512 * (grid0.coords t 2).val) := by decide +kernel

/-- A trip's chunk starts at 512 times its number. -/
theorem off1 (i : grid0.Coords) (k : Fin (k0_t1_loop i).trips) (hk : k.val < 8) : k0_off1 i k = ![0, 512 * k.val, 0] := by
  have h : ∀ n : Fin 8, (Scalar.indexCast (Scalar.muli (Scf.iv 0#32 1#32 n.val) 512#32) : Index).toNat = 512 * n.val := by decide
  unfold k0_off1
  exact congrArg (fun n => ![0, n, 0]) (h ⟨k.val, hk⟩)

/-- Rows 512 j to 512 j + 511 of the keys or values. -/
def chunkOf (K : Vec Ideal S1x4096x128 .bf16) (j : Nat) : Vec Ideal S1x512x128 .bf16 :=
  fun x => K (ix3 (0 : Fin 1) (⟨(512 * j + (x 1).val) % 4096, Nat.mod_lt _ (by norm_num)⟩ : Fin 4096) (x 2))

/-- A load of 512 rows from row 512 j on reads them. -/
theorem read_chunk (arg : Memref sig .tc .vmem S1x4096x128 .bf16) (harg : arg.IsWhole) (x : Vec Ideal S1x4096x128 .bf16)
    (off : Fin 3 → Nat) (inb : ∀ a, off a + S1x512x128.size a ≤ S1x4096x128.size a) (j : Nat) (hj : j < 8) (h : off = ![0, 512 * j, 0]) :
    arg.view.readAt (Elt Ideal) (Rect.unit (s := S1x4096x128) off S1x512x128.size inb).toLoadRect (harg.unread x) = chunkOf x j := by
  subst h
  rw [View.readAt_eq_ld, Memref.IsWhole.read_unread]
  funext y
  idx_vars y
  pointwise [chunkOf]
  congr 2
  exact Fin.ext (Nat.mod_eq_of_lt (by have := y1.isLt; omega)).symm

/-- The eight carried values after some chunks. -/
def run (q0 q1 q2 q3 : FVec Ideal S512x128 .bf16) (K V : Vec Ideal S1x4096x128 .bf16) : Nat → FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32
  | 0 => (k0_pay694 (F := Ideal), k0_pay695 (F := Ideal), k0_pay696 (F := Ideal), k0_pay697 (F := Ideal), k0_pay698 (F := Ideal), k0_pay699 (F := Ideal), k0_pay700 (F := Ideal), k0_pay701 (F := Ideal))
  | j + 1 => step (strips (scores q0 (chunkOf K j))) (strips (scores q1 (chunkOf K j))) (strips (scores q2 (chunkOf K j)))
      (strips (scores q3 (chunkOf K j))) (k0_pay4 firstHead (k0_pay693 (F := Ideal)) (chunkOf V j))
      (k0_pay5 firstHead (k0_pay693 (F := Ideal)) (chunkOf V j)) (run q0 q1 q2 q3 K V j)

/-- The first loop's carried values. -/
theorem carried1 (c : Dev nD) (i : grid0.Coords) (arg3 : Memref sig .tc .vmem S4x32 .f32) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128 .f32) (harg7 : arg7.IsWhole) (arg8 : Memref sig .tc .vmem S1x512x128 .bf16) (harg8 : arg8.IsWhole)  (q0 q1 q2 q3 : FVec Ideal S512x128 .bf16)
    (v55 : BitVec 32) (v56 v57 v58 v59 v60 v61 v62 v63 : FVec Ideal S512x128 .f32) (v80 c0 : BitVec 32)
    (x2 x3 : Vec Ideal S1x4096x128 .bf16) (h : (k0_t1_loop i).trips ≤ 8) (n : Nat) (hn : n ≤ (k0_t1_loop i).trips) :
    st_k0_t1 (F := Ideal) Variants.none c none i arg3 harg3 arg4 harg4 arg5 harg5 arg6 harg6 arg7 harg7 arg8 harg8 q0 q1 q2 q3 firstHead (k0_pay693 (F := Ideal)) v55 v56 v57 v58 v59 v60 v61 v62 v63 v80 c0
      (harg5.unread x2) (harg6.unread x3) (k0_pay694 (F := Ideal), k0_pay695 (F := Ideal), k0_pay696 (F := Ideal), k0_pay697 (F := Ideal), k0_pay698 (F := Ideal), k0_pay699 (F := Ideal), k0_pay700 (F := Ideal), k0_pay701 (F := Ideal)) n = run q0 q1 q2 q3 x2 x3 n := by
  induction n with
  | zero => exact st_k0_t1_zero ..
  | succ n ih =>
    have hk : n < (k0_t1_loop i).trips := hn
    refine (st_k0_t1_succ Variants.none c none i arg3 harg3 arg4 harg4 arg5 harg5 arg6 harg6 arg7 harg7 arg8 harg8 q0 q1 q2 q3 firstHead (k0_pay693 (F := Ideal)) v55 v56 v57 v58 v59 v60 v61 v62 v63 v80 c0
      (harg5.unread x2) (harg6.unread x3) (k0_pay694 (F := Ideal), k0_pay695 (F := Ideal), k0_pay696 (F := Ideal), k0_pay697 (F := Ideal), k0_pay698 (F := Ideal), k0_pay699 (F := Ideal), k0_pay700 (F := Ideal), k0_pay701 (F := Ideal)) ⟨n, hk⟩).trans ?_
    rw [ih (le_of_lt hk), trip_eq]
    have e5 := read_chunk arg5 harg5 x2 _ (k0_off1_inb i ⟨n, hk⟩) n (by omega) (off1 i ⟨n, hk⟩ (by show n < 8; omega))
    have e6 := read_chunk arg6 harg6 x3 _ (k0_off1_inb i ⟨n, hk⟩) n (by omega) (off1 i ⟨n, hk⟩ (by show n < 8; omega))
    rw [e5, e6]
    rfl

end Cert.KernelIdeal.Attn
-- ==== Proof.Channel.lean ====
/- One channel's running maximum and sum, row by row, as the largest score and the weighted sum over the positions seen. -/
module

public import proofs.«01_k».proof.Proof.Chunks
public import proofs.«01_k».proof.Proof.Softmax

@[expose] public section

set_option maxRecDepth 16384

noncomputable section

namespace Cert.KernelIdeal.Attn

open Idealize.ShloMosaic Idealize.ShloMosaic.TcCoe Idealize.SL.Sem
open Cert.KernelIdeal Cert.KernelIdeal.Gen Cert.Attn

/-- One channel's maxima and sums after some chunks. -/
def chan (q : FVec Ideal S512x128 .bf16) (K : Vec Ideal S1x4096x128 .bf16) (v : Nat → FVec Ideal S512x128 .bf16) :
    Nat → FVec Ideal S512x128 .f32 × FVec Ideal S512x128 .f32
  | 0 => (k0_pay694 (F := Ideal), k0_pay698 (F := Ideal))
  | j + 1 => (stepMax (chan q K v j).1 (strips (scores q (chunkOf K j))),
      stepAcc (chan q K v j).1 (chan q K v j).2 (strips (scores q (chunkOf K j))) (v j))

/-- The values' operand of the first two channels: the first head's values and ones. -/
def valA (V : Vec Ideal S1x4096x128 .bf16) (j : Nat) : FVec Ideal S512x128 .bf16 :=
  k0_pay4 firstHead (k0_pay693 (F := Ideal)) (chunkOf V j)

/-- The values' operand of the last two channels: ones and the second head's values. -/
def valB (V : Vec Ideal S1x4096x128 .bf16) (j : Nat) : FVec Ideal S512x128 .bf16 :=
  k0_pay5 firstHead (k0_pay693 (F := Ideal)) (chunkOf V j)

/-- The carried values are the four channels'. -/
theorem run_eq (q0 q1 q2 q3 : FVec Ideal S512x128 .bf16) (K V : Vec Ideal S1x4096x128 .bf16) (n : Nat) :
    run q0 q1 q2 q3 K V n = ((chan q0 K (valA V) n).1, (chan q1 K (valA V) n).1, (chan q2 K (valB V) n).1, (chan q3 K (valB V) n).1,
      (chan q0 K (valA V) n).2, (chan q1 K (valA V) n).2, (chan q2 K (valB V) n).2, (chan q3 K (valB V) n).2) := by
  induction n with
  | zero => rfl
  | succ n ih => unfold run; rw [ih]; rfl

variable (q : FVec Ideal S512x128 .bf16) (K : Vec Ideal S1x4096x128 .bf16) (v : Nat → FVec Ideal S512x128 .bf16)
  (f : ℕ → EReal) (u : ℕ → ℝ) (r : Fin 512) (l : Fin 128)

/-- The maximum over a chunk whose scores are listed. -/
theorem newMax_at (M : FVec Ideal S512x128 .f32) (S : FVec Ideal S512x512 .f32) (n : Nat) (hM : M (ix2 r l) = top f (512 * n))
    (hS : ∀ k : Fin 512, S (ix2 r k) = f (512 * n + k.val)) : newMax S M (ix2 r l) = top f (512 * (n + 1)) := by
  have e : newMax S M (ix2 r l) = max (M (ix2 r l)) (Finset.univ.fold max ⊥ fun k : Fin 512 => S (ix2 r k)) := rfl
  rw [e, hM, mul_add, mul_one, top_chunk]
  congr 2
  funext k; exact hS k

/-- The maximum after some chunks, in every lane. -/
theorem chan_max (n : Nat) (hs : ∀ j < n, ∀ k : Fin 512, scores q (chunkOf K j) (ix2 r k) = f (512 * j + k.val)) :
    (chan q K v n).1 (ix2 r l) = top f (512 * n) := by
  induction n with
  | zero =>
    show Named.named (F := Ideal) κ "mask" (0xF149F2CA#32 : BitVec FTy.f32.bits) = _
    rw [IdealRules.named_const.ideal_named_scalar κ "mask" _ ⊥ rfl]; rfl
  | succ n ih =>
    show stepMax (chan q K v n).1 (strips (scores q (chunkOf K n))) (ix2 r l) = _
    rw [stepMax_eq]
    exact newMax_at f r l _ _ n (ih fun j hj => hs j (by omega)) (hs n (by omega))

/-- The sum after one more chunk whose scores are listed. -/
theorem stepAcc_at (M A : FVec Ideal S512x128 .f32) (S : FVec Ideal S512x512 .f32) (w : FVec Ideal S512x128 .bf16) (n : Nat)
    (hf : ∀ t, f t ≠ ⊤) (hM : ∀ l, M (ix2 r l) = top f (512 * n))
    (hA : A (ix2 r l) = ∑ t ∈ Finset.range (512 * n), Ideal.exp2 (f t - top f (512 * n)) * (u t : EReal))
    (hS : ∀ k : Fin 512, S (ix2 r k) = f (512 * n + k.val)) (hv : ∀ k : Fin 512, w (ix2 k l) = (u (512 * n + k.val) : EReal)) :
    stepAcc M A (strips S) w (ix2 r l)
      = ∑ t ∈ Finset.range (512 * (n + 1)), Ideal.exp2 (f t - top f (512 * (n + 1))) * (u t : EReal) := by
  rw [stepAcc_eq, newMax_at f r l M S n (hM l) hS, hA, hM]
  have e : ∀ k : Fin 512, weights S (newMax S M) (ix2 r k) = Ideal.exp2 (f (512 * n + k.val) - top f (512 * (n + 1))) := fun k => by
    show Ideal.exp2 (S (ix2 r k) - newMax S M (ix2 r (⟨k.val % 128, _⟩ : Fin 128))) = _
    rw [newMax_at f r _ M S n (hM _) hS, hS]
  simp only [e, hv]
  rw [mul_add, mul_one]
  exact sum_chunk f hf u _ _

/-- The sum after some chunks. -/
theorem chan_sum (n : Nat) (hf : ∀ t, f t ≠ ⊤) (hs : ∀ j < n, ∀ k : Fin 512, scores q (chunkOf K j) (ix2 r k) = f (512 * j + k.val))
    (hv : ∀ j < n, ∀ k : Fin 512, v j (ix2 k l) = (u (512 * j + k.val) : EReal)) :
    (chan q K v n).2 (ix2 r l) = ∑ t ∈ Finset.range (512 * n), Ideal.exp2 (f t - top f (512 * n)) * (u t : EReal) := by
  induction n with
  | zero =>
    show Ideal.ofBits .f32 0x00000000#32 = _
    simp [Ideal.ofBits, Ideal.ieee]
  | succ n ih =>
    exact stepAcc_at f u r l _ _ _ _ n hf (fun l => chan_max q K v f r l n fun j hj => hs j (by omega))
      (ih (fun j hj => hs j (by omega)) fun j hj => hv j (by omega)) (hs n (by omega)) (hv n (by omega))

/-- The sum at the diagonal: the chunks before it, and the masked one. -/
theorem diag_sum (n : Nat) (a t : BitVec 32) (kc : Vec Ideal S1x512x128 .bf16) (w : FVec Ideal S512x128 .bf16)
    (hf : ∀ t, f t ≠ ⊤) (hs : ∀ j < n, ∀ k : Fin 512, scores q (chunkOf K j) (ix2 r k) = f (512 * j + k.val))
    (hv : ∀ j < n, ∀ k : Fin 512, v j (ix2 k l) = (u (512 * j + k.val) : EReal))
    (hS : ∀ k : Fin 512, masked a t (scores q kc) (ix2 r k) = f (512 * n + k.val))
    (hw : ∀ k : Fin 512, w (ix2 k l) = (u (512 * n + k.val) : EReal)) :
    stepAcc (chan q K v n).1 (chan q K v n).2 (maskedStrips a t (scores q kc)) w (ix2 r l)
      = ∑ t ∈ Finset.range (512 * (n + 1)), Ideal.exp2 (f t - top f (512 * (n + 1))) * (u t : EReal) := by
  rw [maskedStrips_eq]
  exact stepAcc_at f u r l _ _ _ _ n hf (fun l => chan_max q K v f r l n hs) (chan_sum q K v f u r l n hf hs hv) hS hw

end Cert.KernelIdeal.Attn
-- ==== Proof.Close.lean ====
/- The closing arithmetic of the body at one entry. -/
module

public import proofs.«01_k».proof.Proof.Channel

@[expose] public section

set_option maxRecDepth 16384

noncomputable section

namespace Cert.KernelIdeal.Attn

open Idealize.ShloMosaic Idealize.ShloMosaic.TcCoe Idealize.SL.Sem
open Cert.KernelIdeal Cert.KernelIdeal.Gen Cert.Attn

theorem below64 : ∀ l : Fin 128, IntOp.cmpi .slt (BitVec.ofNat 32 l.val) 64#32 = if l.val < 64 then 1#1 else 0#1 := by
  decide +kernel

theorem from64 : ∀ l : Fin 128, IntOp.cmpi .sge (BitVec.ofNat 32 l.val) 64#32 = if l.val < 64 then 0#1 else 1#1 := by
  decide +kernel

theorem in_band0 : ∀ l : Fin 128, IntOp.andi (IntOp.cmpi .sge (BitVec.ofNat 32 l.val) 0#32)
    (IntOp.cmpi .slt (BitVec.ofNat 32 l.val) 32#32) = if l.val / 32 = 0 then 1#1 else 0#1 := by
  decide +kernel

theorem in_band1 : ∀ l : Fin 128, IntOp.andi (IntOp.cmpi .sge (BitVec.ofNat 32 l.val) 32#32)
    (IntOp.cmpi .slt (BitVec.ofNat 32 l.val) 64#32) = if l.val / 32 = 1 then 1#1 else 0#1 := by
  decide +kernel

theorem in_band2 : ∀ l : Fin 128, IntOp.andi (IntOp.cmpi .sge (BitVec.ofNat 32 l.val) 64#32)
    (IntOp.cmpi .slt (BitVec.ofNat 32 l.val) 96#32) = if l.val / 32 = 2 then 1#1 else 0#1 := by
  decide +kernel

theorem in_band3 : ∀ l : Fin 128, IntOp.andi (IntOp.cmpi .sge (BitVec.ofNat 32 l.val) 96#32)
    (IntOp.cmpi .slt (BitVec.ofNat 32 l.val) 128#32) = if l.val / 32 = 3 then 1#1 else 0#1 := by
  decide +kernel

theorem select_ite {α : Type} (p : Prop) [Decidable p] (a b : α) :
    Scalar.select (if p then 1#1 else 0#1) a b = if p then a else b := by
  by_cases h : p <;> simp [h, Scalar.select]

theorem select_ite' {α : Type} (p : Prop) [Decidable p] (a b : α) :
    Scalar.select (if p then 0#1 else 1#1) a b = if p then b else a := by
  by_cases h : p <;> simp [h, Scalar.select]

/-- A sum over 128 lanes of what is kept in one half is the sum over that half. -/
theorem sum_half (f : Fin 128 → EReal) (l : Fin 128) :
    (if l.val < 64 then ∑ x : Fin 128, (if x.val < 64 then f x else 0) else ∑ x : Fin 128, (if x.val < 64 then 0 else f x))
      = ∑ e : Fin 64, f ⟨64 * (l.val / 64) + e.val, by omega⟩ := by
  have h1 : ∀ g : Fin 128 → EReal, ∑ x, g x
      = ∑ e : Fin 64, g ⟨e.val, by omega⟩ + ∑ e : Fin 64, g ⟨64 + e.val, by omega⟩ := fun g =>
    Fin.sum_univ_add (a := 64) (b := 64) g
  split
  · rename_i h
    rw [h1]
    have : l.val / 64 = 0 := by omega
    simp [this]
  · rename_i h
    rw [h1]
    have : l.val / 64 = 1 := by omega
    simp [this, Nat.not_lt]

/-- A sum over 128 lanes of what is kept in one of four bands is the sum over that band. -/
theorem sum_band (f : Fin 128 → EReal) (c : Fin 4) :
    ∑ x : Fin 128, (if x.val / 32 = c.val then f x else 0) = ∑ d : Fin 32, f ⟨32 * c.val + d.val, by omega⟩ := by
  rw [Fin.sum_univ_tiles 4 32 rfl]
  have : ∀ j : Fin 4, ∀ t : Fin 32, (j.val * 32 + t.val) / 32 = j.val := fun j t => by omega
  simp only [this]
  rw [Finset.sum_eq_single c]
  · simp [mul_comm]
  · intro j _ hj
    have : j.val ≠ c.val := fun h => hj (Fin.ext h)
    simp [this]
  · simp

/-- The lane 64 further round. -/
def opposite (l : Fin 128) : Fin 128 := ⟨(l.val + 64) % 128, Nat.mod_lt _ (by norm_num)⟩

theorem difference_at (lp : FVec Ideal S1x1 .f32) (a0 a1 a2 a3 : FVec Ideal S512x128 .f32) (r : Fin 512) (l : Fin 128) :
    difference lp a0 a1 a2 a3 (ix2 r l)
      = (if l.val < 64 then Ideal.div (a0 (ix2 r l)) (a0 (ix2 r (opposite l))) else Ideal.div (a2 (ix2 r l)) (a2 (ix2 r (opposite l))))
        - lp (ix2 0 0) * (if l.val < 64 then Ideal.div (a1 (ix2 r l)) (a1 (ix2 r (opposite l)))
            else Ideal.div (a3 (ix2 r l)) (a3 (ix2 r (opposite l)))) := by
  pointwise [difference, firstHead, k0_pay692]
  have ho : (⟨(l.val + 128 - 64) % 128, Nat.mod_lt _ (by norm_num)⟩ : Fin 128) = opposite l := Fin.ext (by simp only [opposite]; omega)
  simp only [below64, select_ite, ho]

theorem normalised_at (o : FVec Ideal S512x128 .f32) (g : Vec Ideal S1x128 .f32) (r : Fin 512) (l : Fin 128) :
    normalised o g (ix3 0 r l)
      = (o (ix2 r l) * Ideal.rsqrt ((∑ e : Fin 64, o (ix2 r ⟨64 * (l.val / 64) + e.val, by omega⟩) * o (ix2 r ⟨64 * (l.val / 64) + e.val, by omega⟩))
            * Ideal.ofBits .f32 0x3C800000#32 + Ideal.ofBits .f32 0x358637BD#32))
          * g (ix2 0 l) * Ideal.ofBits .f32 0x3F4CCCCD#32 := by
  pointwise [normalised, k0_pay1, k0_pay1068, k0_pay1067, k0_pay1069, k0_pay1065]
  simp only [below64, from64, select_ite, select_ite', sum_half (fun x => o (ix2 r x) * o (ix2 r x))]

theorem valA_at (V : Vec Ideal S1x4096x128 .bf16) (j : Nat) (k : Fin 512) (l : Fin 128) :
    valA V j (ix2 k l) = if l.val < 64 then V (ix3 0 ⟨(512 * j + k.val) % 4096, Nat.mod_lt _ (by norm_num)⟩ l) else 1 := by
  pointwise [valA, chunkOf, k0_pay4, k0_pay3, firstHead, k0_pay692, k0_pay693]
  simp only [below64, select_ite]

theorem valB_at (V : Vec Ideal S1x4096x128 .bf16) (j : Nat) (k : Fin 512) (l : Fin 128) :
    valB V j (ix2 k l) = if l.val < 64 then 1 else V (ix3 0 ⟨(512 * j + k.val) % 4096, Nat.mod_lt _ (by norm_num)⟩ l) := by
  pointwise [valB, chunkOf, k0_pay5, k0_pay3, firstHead, k0_pay692, k0_pay693]
  simp only [below64, select_ite]

theorem query0_at (Q : Vec Ideal S1x512x128 .bf16) (r : Fin 512) (l : Fin 128) :
    query0 Q (ix2 r l) = if l.val / 32 = 0 then Q (ix3 0 r l) else 0 := by
  pointwise [query0, k0_pay687, k0_pay684, k0_pay686]
  simp only [in_band0, select_ite]

theorem query1_at (Q : Vec Ideal S1x512x128 .bf16) (r : Fin 512) (l : Fin 128) :
    query1 Q (ix2 r l) = if l.val / 32 = 1 then Q (ix3 0 r l) else 0 := by
  pointwise [query1, k0_pay688, k0_pay684, k0_pay686]
  simp only [in_band1, select_ite]

theorem query2_at (Q : Vec Ideal S1x512x128 .bf16) (r : Fin 512) (l : Fin 128) :
    query2 Q (ix2 r l) = if l.val / 32 = 2 then Q (ix3 0 r l) else 0 := by
  pointwise [query2, k0_pay690, k0_pay684, k0_pay686, k0_pay689]
  simp only [in_band2, select_ite]

theorem query3_at (Q : Vec Ideal S1x512x128 .bf16) (r : Fin 512) (l : Fin 128) :
    query3 Q (ix2 r l) = if l.val / 32 = 3 then Q (ix3 0 r l) else 0 := by
  pointwise [query3, k0_pay691, k0_pay684, k0_pay686, k0_pay689]
  simp only [in_band3, select_ite]

theorem scores_at (q : FVec Ideal S512x128 .bf16) (K : Vec Ideal S1x4096x128 .bf16) (j : Nat) (r k : Fin 512) :
    scores q (chunkOf K j) (ix2 r k) = ∑ l : Fin 128, q (ix2 r l) * K (ix3 0 ⟨(512 * j + k.val) % 4096, Nat.mod_lt _ (by norm_num)⟩ l) := by
  pointwise [scores, chunkOf]

theorem lambda_at (lp : Vec Ideal S4x32 .f32) :
    k0_pay685 lp (ix2 0 0) = Ideal.exp (∑ d : Fin 32, lp (ix2 0 d) * lp (ix2 1 d)) - Ideal.exp (∑ d : Fin 32, lp (ix2 2 d) * lp (ix2 3 d))
      + Ideal.ofBits .f32 0x3E4CCCCD#32 := by
  pointwise [k0_pay685]

/-- The scores of one channel are the products over its 32 lanes. -/
theorem scores_band (q : Vec Ideal S1x512x128 .bf16 → FVec Ideal S512x128 .bf16) (c : Fin 4)
    (hq : ∀ Q r l, q Q (ix2 r l) = if l.val / 32 = c.val then Q (ix3 0 r l) else 0)
    (Q : Vec Ideal S1x512x128 .bf16) (K : Vec Ideal S1x4096x128 .bf16) (j : Nat) (r k : Fin 512) :
    scores (q Q) (chunkOf K j) (ix2 r k) = ∑ d : Fin 32, Q (ix3 0 r ⟨32 * c.val + d.val, by omega⟩)
        * K (ix3 0 ⟨(512 * j + k.val) % 4096, Nat.mod_lt _ (by norm_num)⟩ ⟨32 * c.val + d.val, by omega⟩) := by
  rw [scores_at, ← sum_band (fun l => Q (ix3 0 r l) * K (ix3 0 ⟨(512 * j + k.val) % 4096, Nat.mod_lt _ (by norm_num)⟩ l)) c]
  refine Finset.sum_congr rfl fun l _ => ?_
  rw [hq]
  split <;> simp

end Cert.KernelIdeal.Attn
-- ==== Proof.Block.lean ====
/- The stored block, from its operand blocks: differential attention over the causal positions, then the normalisation. -/
module

public import proofs.«01_k».proof.Proof.Close

@[expose] public section

set_option maxRecDepth 16384

noncomputable section

namespace Cert.KernelIdeal.Attn

open Idealize.ShloMosaic Idealize.ShloMosaic.TcCoe Idealize.SL.Sem
open Cert.KernelIdeal Cert.KernelIdeal.Gen Cert.Attn

/-- The block stored at a grid point. -/
theorem block_eq (m : (ℓ : Loc nD τ sig) → Buf (Elt Ideal) ℓ) (c : Dev nD) (t : Fin cfg0.N) (x0 : Vec Ideal S4x32 .f32) (x1 : Vec Ideal S1x512x128 .bf16)
    (x2 x3 : Vec Ideal S1x4096x128 .bf16) (x4 : Vec Ideal S1x128 .f32)
    (h0 : iblk m c 0 t = x0) (h1 : iblk m c 1 t = x1) (h2 : iblk m c 2 t = x2) (h3 : iblk m c 3 t = x3) (h4 : iblk m c 4 t = x4) :
    (outsAt0 m c t : FVec Ideal S1x512x128 .bf16) = closing (grid0.coords t) x1 (chunkOf x2 (grid0.coords t 2).val) (chunkOf x3 (grid0.coords t 2).val) x0 x4
      (run (query0 x1) (query1 x1) (query2 x1) (query3 x1) x2 x3 (grid0.coords t 2).val) := by
  unfold outsAt0
  rw [out_eq, trips2, trips1, h0, h1, h2, h3, h4]
  have e : ∀ (arg : Memref sig .tc .vmem S1x512x128 .bf16) (harg : arg.IsWhole) (x : Vec Ideal S1x512x128 .bf16),
      arg.view.readAt (Elt Ideal) (Rect.unit (s := S1x512x128) ![0, 0, 0] S1x512x128.size inb_S1x512x128_S1x512x128_0_0_0).toLoadRect (harg.unread x) = x :=
    fun arg harg x => by
      simp (disch := decide) only [View.readAt_eq_ld, Memref.IsWhole.read_unread, View.ld_unit_lit']
  have hn : (grid0.coords t 2).val < 8 := (grid0.coords t 2).isLt
  rw [e, read_chunk _ _ _ _ _ _ hn (off3 t), read_chunk _ _ _ _ _ _ hn (off3 t)]
  have e0 : ∀ (arg : Memref sig .tc .vmem S4x32 .f32) (harg : arg.IsWhole) (x : Vec Ideal S4x32 .f32),
      arg.view.readAt (Elt Ideal) (Rect.unit (s := S4x32) ![0, 0] S4x32.size inb_S4x32_S4x32_0_0).toLoadRect (harg.unread x) = x :=
    fun arg harg x => by
      simp (disch := decide) only [View.readAt_eq_ld, Memref.IsWhole.read_unread, View.ld_unit_lit']
  have e4 : ∀ (arg : Memref sig .tc .vmem S1x128 .f32) (harg : arg.IsWhole) (x : Vec Ideal S1x128 .f32),
      arg.view.readAt (Elt Ideal) (Rect.unit (s := S1x128) ![0, 0] S1x128.size inb_S1x128_S1x128_0_0).toLoadRect (harg.unread x) = x :=
    fun arg harg x => by
      simp (disch := decide) only [View.readAt_eq_ld, Memref.IsWhole.read_unread, View.ld_unit_lit']
  rw [e0, e4]
  congr 1
  refine (st_k0_t2_zero ..).trans ?_
  exact carried1 (h := by rw [trips1]; omega) (hn := le_of_eq (trips1 t).symm) ..

/-- The position compared under the diagonal's mask. -/
theorem mask_le (n : ℕ) (hn : n < 8) (r k : Fin 512) :
    (BitVec.ofNat 32 (512 * n) + BitVec.ofNat 32 k.val).sle (BitVec.ofNat 32 (512 * n) + BitVec.ofNat 32 r.val) = decide (k.val ≤ r.val) := by
  have e : ∀ k : Fin 512, (BitVec.ofNat 32 (512 * n) + BitVec.ofNat 32 k.val).toInt = 512 * n + k.val := fun k => by
    have h := k.isLt
    rw [← BitVec.ofNat_add, BitVec.toInt_eq_toNat_of_lt (by rw [BitVec.toNat_ofNat]; omega), BitVec.toNat_ofNat]
    omega
  unfold BitVec.sle
  rw [e, e]
  simp

/-- A channel's lane. -/
def band (c : Fin 4) (d : Fin 32) : Fin 128 := ⟨32 * c.val + d.val, by omega⟩

/-- A channel's scores of one query. -/
def dot (Qr : Fin 512 → Fin 128 → ℝ) (Kr : Fin 4096 → Fin 128 → ℝ) (c : Fin 4) (r : Fin 512) (t : ℕ) : ℝ :=
  ∑ d : Fin 32, Qr r (band c d) * Kr (pos t) (band c d)

variable (Q : Vec Ideal S1x512x128 .bf16) (K V : Vec Ideal S1x4096x128 .bf16) (Qr : Fin 512 → Fin 128 → ℝ)
  (Kr Vr : Fin 4096 → Fin 128 → ℝ) (hQ : ∀ r l, Q (ix3 0 r l) = (Qr r l : EReal)) (hK : ∀ t l, K (ix3 0 t l) = (Kr t l : EReal))
  (hV : ∀ t l, V (ix3 0 t l) = (Vr t l : EReal))

include hQ hK in
/-- A chunk's scores are real. -/
theorem scores_real (q : Vec Ideal S1x512x128 .bf16 → FVec Ideal S512x128 .bf16) (c : Fin 4)
    (hq : ∀ Q r l, q Q (ix2 r l) = if l.val / 32 = c.val then Q (ix3 0 r l) else 0) (j : ℕ) (r k : Fin 512) :
    scores (q Q) (chunkOf K j) (ix2 r k) = (dot Qr Kr c r (512 * j + k.val) : EReal) := by
  rw [scores_band q c hq]
  refine Eq.trans ?_ (map_sum coeHom _ _).symm
  refine Finset.sum_congr rfl fun d _ => ?_
  rw [hQ, hK]
  exact (EReal.coe_mul _ _).symm

include hQ hK in
/-- A channel's sum after the diagonal. -/
theorem channel_at (q : Vec Ideal S1x512x128 .bf16 → FVec Ideal S512x128 .bf16) (c : Fin 4)
    (hq : ∀ Q r l, q Q (ix2 r l) = if l.val / 32 = c.val then Q (ix3 0 r l) else 0) (v : ℕ → FVec Ideal S512x128 .bf16) (u : ℕ → ℝ)
    (n : ℕ) (hn : n < 8) (r : Fin 512) (l : Fin 128)
    (hv : ∀ j : ℕ, ∀ k : Fin 512, v j (ix2 k l) = (u (512 * j + k.val) : EReal)) :
    stepAcc (chan (q Q) K v n).1 (chan (q Q) K v n).2
        (maskedStrips (BitVec.ofNat 32 (512 * n)) (BitVec.ofNat 32 (512 * n)) (scores (q Q) (chunkOf K n))) (v n) (ix2 r l)
      = ∑ t ∈ Finset.range (512 * (n + 1)), Ideal.exp2 (causal (dot Qr Kr c r) (512 * n + r.val) t
          - top (causal (dot Qr Kr c r) (512 * n + r.val)) (512 * (n + 1))) * (u t : EReal) := by
  refine diag_sum (q Q) K v _ u r l n _ _ _ _ (causal_ne _ _) (fun j hj k => ?_) (fun j _ k => hv j k) (fun k => ?_) (hv n)
  · rw [scores_real Q K Qr Kr hQ hK q c hq, causal, if_pos (by omega)]
  · have e := mask_le n hn r k
    by_cases hk : k.val ≤ r.val
    · refine (if_pos (e.trans (decide_eq_true hk))).trans ?_
      rw [scores_real Q K Qr Kr hQ hK q c hq, causal, if_pos (by omega)]
    · refine (if_neg (fun h => hk (of_decide_eq_true (e.symm.trans h)))).trans ?_
      rw [causal, if_neg (by omega)]

/-- The channel of a lane's head, the first or the second. -/
def channel (l : Fin 128) (c : Fin 2) : Fin 4 := ⟨2 * (l.val / 64) + c.val, by omega⟩

/-- Differential attention at one query and lane. -/
def attn (lam : EReal) (n : ℕ) (r : Fin 512) (l : Fin 128) : EReal :=
  (attended (dot Qr Kr (channel l 0) r) (fun t => Vr (pos t) l) (512 * n + r.val) : EReal)
    - lam * (attended (dot Qr Kr (channel l 1) r) (fun t => Vr (pos t) l) (512 * n + r.val) : EReal)

include hQ hK hV in
/-- The block stored, at one entry. -/
theorem closing_at (i : grid0.Coords) (n : ℕ) (hn : n < 8) (h1 : qstart i = BitVec.ofNat 32 (512 * n))
    (h2 : Scalar.muli (chunks i) 512#32 = BitVec.ofNat 32 (512 * n)) (lp : Vec Ideal S4x32 .f32) (g : Vec Ideal S1x128 .f32)
    (r : Fin 512) (l : Fin 128) :
    closing i Q (chunkOf K n) (chunkOf V n) lp g (run (query0 Q) (query1 Q) (query2 Q) (query3 Q) K V n) (ix3 0 r l)
      = (attn Qr Kr Vr (k0_pay685 lp (ix2 0 0)) n r l * Ideal.rsqrt ((∑ e : Fin 64,
            attn Qr Kr Vr (k0_pay685 lp (ix2 0 0)) n r ⟨64 * (l.val / 64) + e.val, by omega⟩
              * attn Qr Kr Vr (k0_pay685 lp (ix2 0 0)) n r ⟨64 * (l.val / 64) + e.val, by omega⟩)
            * Ideal.ofBits .f32 0x3C800000#32 + Ideal.ofBits .f32 0x358637BD#32))
          * g (ix2 0 l) * Ideal.ofBits .f32 0x3F4CCCCD#32 := by
  unfold closing
  rw [run_eq, h1, h2]
  generalize hD : difference (F := Ideal) _ _ _ _ _ = o
  rw [normalised_at]
  have one : ((1 : ℝ) : EReal) = 1 := rfl
  have hA : ∀ l : Fin 128, l.val < 64 → ∀ (j : ℕ) (k : Fin 512), valA V j (ix2 k l) = ((fun t => Vr (pos t) l) (512 * j + k.val) : EReal) :=
    fun l hl j k => by rw [valA_at, if_pos hl, hV]; rfl
  have hA' : ∀ l : Fin 128, l.val < 64 → ∀ (j : ℕ) (k : Fin 512), valA V j (ix2 k (opposite l)) = (((fun _ => 1) (512 * j + k.val) : ℝ) : EReal) :=
    fun l hl j k => by rw [valA_at, if_neg (by simp only [opposite]; omega)]; rfl
  have hB : ∀ l : Fin 128, ¬ l.val < 64 → ∀ (j : ℕ) (k : Fin 512), valB V j (ix2 k l) = ((fun t => Vr (pos t) l) (512 * j + k.val) : EReal) :=
    fun l hl j k => by rw [valB_at, if_neg hl, hV]; rfl
  have hB' : ∀ l : Fin 128, ¬ l.val < 64 → ∀ (j : ℕ) (k : Fin 512), valB V j (ix2 k (opposite l)) = (((fun _ => 1) (512 * j + k.val) : ℝ) : EReal) :=
    fun l hl j k => by rw [valB_at, if_pos (by simp only [opposite]; omega)]; rfl
  have key : ∀ l : Fin 128, o (ix2 r l) = attn Qr Kr Vr (k0_pay685 lp (ix2 0 0)) n r l := fun l => by
    rw [← hD]
    refine (difference_at (k0_pay685 lp) _ _ _ _ r l).trans ?_
    unfold attn
    by_cases hl : l.val < 64
    · rw [if_pos hl, if_pos hl]
      have c0 : channel l 0 = 0 := Fin.ext (by simp only [channel]; omega)
      have c1 : channel l 1 = 1 := Fin.ext (by simp only [channel]; omega)
      rw [c0, c1]
      congr 1
      · exact (congrArg₂ Ideal.div (channel_at Q K Qr Kr hQ hK query0 0 query0_at _ _ n hn r l (hA l hl))
          (channel_at Q K Qr Kr hQ hK query0 0 query0_at _ _ n hn r _ (hA' l hl))).trans (ratio _ _ _ _ (by omega))
      · congr 1
        exact (congrArg₂ Ideal.div (channel_at Q K Qr Kr hQ hK query1 1 query1_at _ _ n hn r l (hA l hl))
          (channel_at Q K Qr Kr hQ hK query1 1 query1_at _ _ n hn r _ (hA' l hl))).trans (ratio _ _ _ _ (by omega))
    · rw [if_neg hl, if_neg hl]
      have c0 : channel l 0 = 2 := Fin.ext (by simp only [channel]; omega)
      have c1 : channel l 1 = 3 := Fin.ext (by simp only [channel]; omega)
      rw [c0, c1]
      congr 1
      · exact (congrArg₂ Ideal.div (channel_at Q K Qr Kr hQ hK query2 2 query2_at _ _ n hn r l (hB l hl))
          (channel_at Q K Qr Kr hQ hK query2 2 query2_at _ _ n hn r _ (hB' l hl))).trans (ratio _ _ _ _ (by omega))
      · congr 1
        exact (congrArg₂ Ideal.div (channel_at Q K Qr Kr hQ hK query3 3 query3_at _ _ n hn r l (hB l hl))
          (channel_at Q K Qr Kr hQ hK query3 3 query3_at _ _ n hn r _ (hB' l hl))).trans (ratio _ _ _ _ (by omega))
  simp only [key]

end Cert.KernelIdeal.Attn
-- ==== Proof.Reads.lean ====
/- The operand blocks of a grid point, read from the argument arrays. -/
module

public import proofs.«01_k».proof.Proof.Block
public import Idealize.ShloMosaic.Lib.Pipeline.ValueKit
public import Idealize.ShloMosaic.Lib.Claim

@[expose] public section

set_option maxRecDepth 16384

noncomputable section

namespace Cert.KernelIdeal.Attn

open Idealize.ShloMosaic Idealize.ShloMosaic.TcCoe Idealize.SL.Sem
open Cert.KernelIdeal Cert.KernelIdeal.Gen Cert.Attn

variable (m : (ℓ : Loc nD τ sig) → Buf (Elt Ideal) ℓ)

/-- Where each window's block lies at each grid point. -/
theorem idx : ∀ t : Fin cfg0.N, win0_0.index t = ![0, 0]
    ∧ win0_1.index t = ![(grid0.coords t 0).val, (grid0.coords t 2).val, (grid0.coords t 1).val]
    ∧ win0_2.index t = ![(grid0.coords t 0).val, 0, (grid0.coords t 1).val]
    ∧ win0_3.index t = ![(grid0.coords t 0).val, 0, (grid0.coords t 1).val]
    ∧ win0_4.index t = ![0, 0]
    ∧ win0_5.index t = ![(grid0.coords t 0).val, (grid0.coords t 2).val, (grid0.coords t 1).val]
    ∧ (grid0.coords t 0).val < 8 ∧ (grid0.coords t 1).val < 4 ∧ (grid0.coords t 2).val < 8 :=
  (by decide +kernel : ∀ t : Fin grid0.N, _)

/-- The batch row of a grid point. -/
def row (t : Fin cfg0.N) : Fin 8 := ⟨(grid0.coords t 0).val, (idx t).2.2.2.2.2.2.1⟩

/-- The position in the sequence of a block's row. -/
def place (t : Fin cfg0.N) (r : Fin 512) : Fin 4096 :=
  ⟨512 * (grid0.coords t 2).val + r.val, by have := (idx t).2.2.2.2.2.2.2.2; omega⟩

/-- The lane of the whole array of a block's lane. -/
def lane (t : Fin cfg0.N) (l : Fin 128) : Fin 512 :=
  ⟨128 * (grid0.coords t 1).val + l.val, by have := (idx t).2.2.2.2.2.2.2.1; omega⟩

/-- A lane's head. -/
def headOf (j : Fin 512) : Fin 8 := ⟨j.val / 64, by omega⟩

/-- A lane's component. -/
def compOf (j : Fin 512) : Fin 2 := ⟨j.val % 64 / 32, by omega⟩

/-- A lane's place in its component. -/
def depthOf (j : Fin 512) : Fin 32 := ⟨j.val % 32, by omega⟩

/-- A lane's place in its head. -/
def chanOf (j : Fin 512) : Fin 64 := ⟨j.val % 64, by omega⟩

/-- The factor of the queries. -/
def factor : EReal := Ideal.div (Ideal.ofBits .f32 0x3E3504F3#32) (Ideal.log (Ideal.ofBits .f32 0x40000000#32))

theorem read_lambda (c : Dev nD) (t : Fin cfg0.N) (i : Fin 4) (d : Fin 32) :
    iblk m c 0 t (ix2 i d) = m ((c : Thread nD τ).loc main_arg3) (ix2 i d) := by
  blk_ext [iblk, V, idx t]

theorem read_query (c : Dev nD) (t : Fin cfg0.N) (r : Fin 512) (l : Fin 128) (X : FVec Ideal S8x4096x8x2x32 .f32)
    (hX : m ((c : Thread nD τ).loc main_arg0) = X) :
    iblk m c 1 t (ix3 0 r l) = X (ix5 (row t) (place t r) (headOf (lane t l)) (compOf (lane t l)) (depthOf (lane t l))) * factor := by
  subst hX
  blk_simp [iblk, idx t]
  entry_read
  pointwise [factor]
  congr 1
  blk_ext [idx t, row, place, lane, headOf, compOf, depthOf, chanOf]

theorem read_key (c : Dev nD) (t : Fin cfg0.N) (s : Fin 4096) (l : Fin 128) :
    iblk m c 2 t (ix3 0 s l) = m ((c : Thread nD τ).loc main_arg1)
      (ix5 (row t) s (headOf (lane t l)) (compOf (lane t l)) (depthOf (lane t l))) := by
  blk_simp [iblk, idx t]
  entry_read
  pointwise
  blk_ext [idx t, row, place, lane, headOf, compOf, depthOf, chanOf]

theorem read_value (c : Dev nD) (t : Fin cfg0.N) (s : Fin 4096) (l : Fin 128) :
    iblk m c 3 t (ix3 0 s l) = m ((c : Thread nD τ).loc main_arg2) (ix4 (row t) s (headOf (lane t l)) (chanOf (lane t l))) := by
  blk_simp [iblk, idx t]
  entry_read
  pointwise
  blk_ext [idx t, row, place, lane, headOf, compOf, depthOf, chanOf]

theorem read_weight (c : Dev nD) (t : Fin cfg0.N) (l : Fin 128) :
    iblk m c 4 t (ix2 0 l) = m ((c : Thread nD τ).loc main_arg4) (ix1 (chanOf (lane t l))) := by
  blk_simp [iblk, idx t]
  entry_read
  pointwise
  blk_ext [idx t, row, place, lane, headOf, compOf, depthOf, chanOf]

end Cert.KernelIdeal.Attn
-- ==== Proof.Ref.lean ====
/- The reference's arithmetic in steps, and each step at one entry. -/
module

public import proofs.«01_k».proof.Proof.Gen.ReferenceIdeal.Run
public import proofs.«01_k».proof.Proof.Softmax

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.Attn

/-- The causal mask, for every batch row, head and component. -/
def kept : IVec S8x8x2x4096x4096 1 :=
  broadcastInDim S8x8x2x4096x4096 ![0, 1, 2, 3, 4] bcast_S1x1x1x4096x4096_S8x8x2x4096x4096_0_1_2_3_4 (broadcastInDim S1x1x1x4096x4096 ![3, 4] bcast_S4096x4096_S1x1x1x4096x4096_3_4 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))

/-- The scaled scores under the mask. -/
def scored (Q K : FVec Ideal S8x4096x8x2x32 .f32) : FVec Ideal S8x8x2x4096x4096 .f32 :=
  select kept (mulf (Host.dotGeneral dot_S8x4096x8x2x32_S8x4096x8x2x32_S8x8x2x4096x4096_4_4_1_1_023_023 none Q K) (broadcastInDim S8x8x2x4096x4096 ![] bcast_S_S8x8x2x4096x4096 (constant S_ .f32 0x3E3504F3#32))) (broadcastInDim S8x8x2x4096x4096 ![] bcast_S_S8x8x2x4096x4096 (id (constant S_ .f32 0xFF800000#32)))

/-- Their exponentials against each row's maximum. -/
def exps (s : FVec Ideal S8x8x2x4096x4096 .f32) : FVec Ideal S8x8x2x4096x4096 .f32 :=
  select kept (Host.exp (subf s (broadcastInDim S8x8x2x4096x4096 ![0, 1, 2, 3, 4] bcast_S8x8x2x4096x1_S8x8x2x4096x4096_0_1_2_3_4 (broadcastInDim S8x8x2x4096x1 ![0, 1, 2, 3] bcast_S8x8x2x4096_S8x8x2x4096x1_0_1_2_3 (Host.reduce FloatOps.maximumf s (constant S_ .f32 0xFF800000#32) reducesTo_S8x8x2x4096x4096_S8x8x2x4096_d4 h_S_))))) (broadcastInDim S8x8x2x4096x4096 ![] bcast_S_S8x8x2x4096x4096 (id (constant S_ .f32 0x00000000#32)))

/-- Divided by their sums. -/
def probs (e : FVec Ideal S8x8x2x4096x4096 .f32) : FVec Ideal S8x8x2x4096x4096 .f32 :=
  Host.divf e (broadcastInDim S8x8x2x4096x4096 ![0, 1, 2, 3, 4] bcast_S8x8x2x4096x1_S8x8x2x4096x4096_0_1_2_3_4 (maximumf (broadcastInDim S8x8x2x4096x1 ![0, 1, 2, 3] bcast_S8x8x2x4096_S8x8x2x4096x1_0_1_2_3 (Host.reduceAdd e (constant S_ .f32 0x00000000#32) reducesTo_S8x8x2x4096x4096_S8x8x2x4096_d4 h_S_)) (broadcastInDim S8x8x2x4096x1 ![] bcast_S_S8x8x2x4096x1 (constant S_ .f32 0x0DA24260#32))))

/-- Lambda. -/
def lam (L : FVec Ideal S4x32 .f32) : FVec Ideal S_ .f32 :=
  addf (subf (Host.exp (Host.reduceAdd (mulf (shapeCast _ (extractStridedSlice S1x32 ![0, 0] L slices_S4x32_S1x32_0_0) shapeCasts_S1x32_S32) (shapeCast _ (extractStridedSlice S1x32 ![1, 0] L slices_S4x32_S1x32_1_0) shapeCasts_S1x32_S32)) (constant S_ .f32 0x00000000#32) reducesTo_S32_S_d0 h_S_)) (Host.exp (Host.reduceAdd (mulf (shapeCast _ (extractStridedSlice S1x32 ![2, 0] L slices_S4x32_S1x32_2_0) shapeCasts_S1x32_S32) (shapeCast _ (extractStridedSlice S1x32 ![3, 0] L slices_S4x32_S1x32_3_0) shapeCasts_S1x32_S32)) (constant S_ .f32 0x00000000#32) reducesTo_S32_S_d0 h_S_))) (constant S_ .f32 0x3E4CCCCD#32)

/-- The values weighed by the difference of the two components' probabilities. -/
def mixed (V : FVec Ideal S8x4096x8x64 .f32) (l : FVec Ideal S_ .f32) (p : FVec Ideal S8x8x2x4096x4096 .f32) : FVec Ideal S8x4096x8x64 .f32 :=
  transpose S8x4096x8x64 [0, 3, 1, 2] (Host.dotGeneral dot_S8x4096x8x64_S8x8x4096x4096_S8x8x64x4096_1_3_3_2_02_01 none V (subf (shapeCast _ (extractStridedSlice S8x8x1x4096x4096 ![0, 0, 0, 0, 0] p slices_S8x8x2x4096x4096_S8x8x1x4096x4096_0_0_0_0_0) shapeCasts_S8x8x1x4096x4096_S8x8x4096x4096) (mulf (broadcastInDim S8x8x4096x4096 ![] bcast_S_S8x8x4096x4096 l) (shapeCast _ (extractStridedSlice S8x8x1x4096x4096 ![0, 0, 1, 0, 0] p slices_S8x8x2x4096x4096_S8x8x1x4096x4096_0_0_1_0_0) shapeCasts_S8x8x1x4096x4096_S8x8x4096x4096)))) transposes_S8x8x64x4096_S8x4096x8x64_0_3_1_2

/-- Normalised over each head, weighed and scaled. -/
def finish (o : FVec Ideal S8x4096x8x64 .f32) (g : FVec Ideal S64 .f32) : FVec Ideal S8x4096x512 .bf16 :=
  truncf .bf16 (shapeCast _ (mulf (mulf (mulf o (broadcastInDim S8x4096x8x64 ![0, 1, 2, 3] bcast_S8x4096x8x1_S8x4096x8x64_0_1_2_3 (Host.rsqrt (addf (Host.divf (broadcastInDim S8x4096x8x1 ![0, 1, 2] bcast_S8x4096x8_S8x4096x8x1_0_1_2 (Host.reduceAdd (mulf o o) (constant S_ .f32 0x00000000#32) reducesTo_S8x4096x8x64_S8x4096x8_d3 h_S_)) (broadcastInDim S8x4096x8x1 ![] bcast_S_S8x4096x8x1 (constant S_ .f32 0x42800000#32))) (broadcastInDim S8x4096x8x1 ![] bcast_S_S8x4096x8x1 (constant S_ .f32 0x358637BD#32)))))) (broadcastInDim S8x4096x8x64 ![0, 1, 2, 3] bcast_S1x1x1x64_S8x4096x8x64_0_1_2_3 (broadcastInDim S1x1x1x64 ![3] bcast_S64_S1x1x1x64_3 g))) (broadcastInDim S8x4096x8x64 ![] bcast_S_S8x4096x8x64 (constant S_ .f32 0x3F4CCCCD#32))) shapeCasts_S8x4096x8x64_S8x4096x512) bitsLt_bf16_f32

/-- The reference's result over its arguments. -/
def REF (Q K : FVec Ideal S8x4096x8x2x32 .f32) (V : FVec Ideal S8x4096x8x64 .f32) (L : FVec Ideal S4x32 .f32) (g : FVec Ideal S64 .f32) :
    FVec Ideal S8x4096x512 .bf16 :=
  finish (mixed V (lam L) (probs (exps (scored Q K)))) g

/-- The run's result is these steps. -/
theorem res_eq (m : (ℓ : Loc nD τ sig) → Buf (Elt Ideal) ℓ) (c : Dev nD) :
    Value.res_out0 (F := Ideal) m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v64
  rfl

/-- Positions compare as numbers. -/
theorem pos_le (k q : Fin 4096) : IntOp.cmpi .sle (BitVec.ofNat 32 k.val) (BitVec.ofNat 32 q.val) = if k.val ≤ q.val then 1#1 else 0#1 := by
  have e : ∀ k : Fin 4096, (BitVec.ofNat 32 k.val).toInt = k.val := fun k => by
    have h := k.isLt
    rw [BitVec.toInt_eq_toNat_of_lt (by rw [BitVec.toNat_ofNat]; omega), BitVec.toNat_ofNat]
    omega
  by_cases h : k.val ≤ q.val <;> simp [IntOp.cmpi, BitVec.sle, e, h]

theorem select_ite {α : Type} (p : Prop) [Decidable p] (a b : α) :
    Scalar.select (if p then 1#1 else 0#1) a b = if p then a else b := by
  by_cases h : p <;> simp [h, Scalar.select]

theorem neg_inf : Ideal.ofBits .f32 0xFF800000#32 = ⊥ := by simp [Ideal.ofBits, Ideal.ieee]

theorem zero_bits : Ideal.ofBits .f32 0x00000000#32 = 0 := by simp [Ideal.ofBits, Ideal.ieee]

theorem kept_at (b : Fin 8) (h : Fin 8) (c : Fin 2) (q k : Fin 4096) : kept (ix5 b h c q k) = if k.val ≤ q.val then 1#1 else 0#1 := by
  rw [← pos_le]
  pointwise [kept]

theorem scored_at (Q K : FVec Ideal S8x4096x8x2x32 .f32) (b : Fin 8) (h : Fin 8) (c : Fin 2) (q k : Fin 4096) :
    scored Q K (ix5 b h c q k) = if k.val ≤ q.val then (∑ d : Fin 32, Q (ix5 b q h c d) * K (ix5 b k h c d)) * Ideal.ofBits .f32 0x3E3504F3#32 else ⊥ := by
  pointwise [scored]
  rw [kept_at, select_ite, show id (constant (F := Ideal) S_ .f32 0xFF800000#32) ix0 = ⊥ from neg_inf]

theorem exps_at (s : FVec Ideal S8x8x2x4096x4096 .f32) (b : Fin 8) (h : Fin 8) (c : Fin 2) (q k : Fin 4096) :
    exps s (ix5 b h c q k) = if k.val ≤ q.val then Ideal.exp (s (ix5 b h c q k) - Finset.univ.fold max ⊥ fun t : Fin 4096 => s (ix5 b h c q t)) else 0 := by
  pointwise [exps]
  rw [kept_at, select_ite, neg_inf, show id (constant (F := Ideal) S_ .f32 0x00000000#32) ix0 = 0 from zero_bits]

theorem probs_at (e : FVec Ideal S8x8x2x4096x4096 .f32) (b : Fin 8) (h : Fin 8) (c : Fin 2) (q k : Fin 4096) :
    probs e (ix5 b h c q k) = Ideal.div (e (ix5 b h c q k)) (max (∑ t : Fin 4096, e (ix5 b h c q t)) (Ideal.ofBits .f32 0x0DA24260#32)) := by
  pointwise [probs]

theorem lam_at (L : FVec Ideal S4x32 .f32) :
    lam L ix0 = Ideal.exp (∑ d : Fin 32, L (ix2 0 d) * L (ix2 1 d)) - Ideal.exp (∑ d : Fin 32, L (ix2 2 d) * L (ix2 3 d))
      + Ideal.ofBits .f32 0x3E4CCCCD#32 := by
  pointwise [lam]

theorem mixed_at (V : FVec Ideal S8x4096x8x64 .f32) (l : FVec Ideal S_ .f32) (p : FVec Ideal S8x8x2x4096x4096 .f32)
    (b : Fin 8) (q : Fin 4096) (h : Fin 8) (e : Fin 64) :
    mixed V l p (ix4 b q h e) = ∑ k : Fin 4096, V (ix4 b k h e) * (p (ix5 b h 0 q k) - l ix0 * p (ix5 b h 1 q k)) := by
  pointwise [mixed]

theorem finish_at (o : FVec Ideal S8x4096x8x64 .f32) (g : FVec Ideal S64 .f32) (b : Fin 8) (q : Fin 4096) (j : Fin 512) :
    finish o g (ix3 b q j) = o (ix4 b q ⟨j.val / 64, by omega⟩ ⟨j.val % 64, Nat.mod_lt _ (by norm_num)⟩)
      * Ideal.rsqrt (Ideal.div (∑ e : Fin 64, o (ix4 b q ⟨j.val / 64, by omega⟩ e) * o (ix4 b q ⟨j.val / 64, by omega⟩ e))
          (Ideal.ofBits .f32 0x42800000#32) + Ideal.ofBits .f32 0x358637BD#32)
      * g (ix1 ⟨j.val % 64, Nat.mod_lt _ (by norm_num)⟩) * Ideal.ofBits .f32 0x3F4CCCCD#32 := by
  pointwise [finish]

variable (Q K : FVec Ideal S8x4096x8x2x32 .f32) (V : FVec Ideal S8x4096x8x64 .f32)
  (Qr Kr : Fin 8 → Fin 4096 → Fin 8 → Fin 2 → Fin 32 → ℝ) (Vr : Fin 8 → Fin 4096 → Fin 8 → Fin 64 → ℝ)
  (hQ : ∀ b t h c d, Q (ix5 b t h c d) = (Qr b t h c d : EReal)) (hK : ∀ b t h c d, K (ix5 b t h c d) = (Kr b t h c d : EReal))
  (hV : ∀ b t h e, V (ix4 b t h e) = (Vr b t h e : EReal))

/-- The scale of the scores, as a real. -/
def scale : ℝ := (Ideal.ofBits .f32 0x3E3504F3#32).toReal

theorem scale_eq : Ideal.ofBits .f32 0x3E3504F3#32 = (scale : EReal) := by
  have e : Ideal.ofBits .f32 0x3E3504F3#32 = ((11863283 * 2 ^ (-26 : ℤ) : ℝ) : EReal) := by
    simp [Ideal.ofBits, Ideal.ieee]
  unfold scale
  rw [e, EReal.toReal_coe]

theorem tiny_le (S : ℝ) (h : 1 ≤ S) : max (S : EReal) (Ideal.ofBits .f32 0x0DA24260#32) = (S : EReal) := by
  refine max_eq_left (le_trans ?_ (EReal.coe_le_coe_iff.mpr h))
  have e : Ideal.ofBits .f32 0x0DA24260#32 = ((10633824 * 2 ^ (-123 : ℤ) : ℝ) : EReal) := by
    simp [Ideal.ofBits, Ideal.ieee]
  rw [e]
  exact EReal.coe_le_coe_iff.mpr (by norm_num)

/-- A query's real scaled scores. -/
def score (b h : Fin 8) (c : Fin 2) (q : Fin 4096) (t : ℕ) : ℝ := (∑ d : Fin 32, Qr b q h c d * Kr b (pos t) h c d) * scale

include hQ hK in
theorem scored_real (b h : Fin 8) (c : Fin 2) (q k : Fin 4096) :
    scored Q K (ix5 b h c q k) = causal (score Qr Kr b h c q) q.val k.val := by
  rw [scored_at]
  unfold causal
  refine if_congr Iff.rfl ?_ rfl
  have e : ∑ d : Fin 32, Q (ix5 b q h c d) * K (ix5 b k h c d) = ((∑ d : Fin 32, Qr b q h c d * Kr b k h c d : ℝ) : EReal) := by
    refine Eq.trans ?_ (map_sum coeHom _ _).symm
    exact Finset.sum_congr rfl fun d _ => by rw [hQ, hK]; exact (EReal.coe_mul _ _).symm
  rw [e, scale_eq, ← EReal.coe_mul]
  unfold score
  rw [pos_val]

include hQ hK in
/-- A row's probabilities are real. -/
theorem probs_real (b h : Fin 8) (c : Fin 2) (q : Fin 4096) : ∃ μ S : ℝ,
    S = (∑ t ∈ Finset.range (q.val + 1), Real.exp (score Qr Kr b h c q t)) * Real.exp (-μ)
    ∧ ∀ k, probs (exps (scored Q K)) (ix5 b h c q k) = ((expWeight (score Qr Kr b h c q) q.val μ k.val / S : ℝ) : EReal) := by
  obtain ⟨μ, hμ⟩ := top_causal (score Qr Kr b h c q) q.val 4096 q.isLt
  have he : ∀ k, exps (scored Q K) (ix5 b h c q k) = (expWeight (score Qr Kr b h c q) q.val μ k.val : EReal) := fun k => by
    rw [exps_at]
    simp only [scored_real Q K Qr Kr hQ hK]
    rw [top_fin, hμ]
    unfold expWeight causal
    split
    · rw [← EReal.coe_sub, Ideal.exp_coe, sub_eq_add_neg, Real.exp_add]
    · rfl
  refine ⟨μ, _, rfl, fun k => ?_⟩
  have hS : ∑ t : Fin 4096, exps (scored Q K) (ix5 b h c q t)
      = (((∑ t ∈ Finset.range (q.val + 1), Real.exp (score Qr Kr b h c q t)) * Real.exp (-μ) : ℝ) : EReal) := by
    simp only [he]
    refine (map_sum coeHom _ _).symm.trans (congrArg _ ?_)
    have := sum_expWeight (score Qr Kr b h c q) (fun _ => 1) q.val q.isLt μ
    simpa using this
  have h1 := one_le_sum _ q.val 4096 q.isLt μ hμ
  rw [probs_at, hS, tiny_le _ h1, he, Ideal.div_coe (ne_of_gt (lt_of_lt_of_le one_pos h1)), ← EReal.coe_mul, mul_one_div]

include hQ hK hV in
/-- The weighed values are the difference of two softmaxes. -/
theorem mixed_real (l : FVec Ideal S_ .f32) (lr : ℝ) (hl : l ix0 = (lr : EReal)) (b : Fin 8) (q : Fin 4096) (h : Fin 8) (e : Fin 64) :
    mixed V l (probs (exps (scored Q K))) (ix4 b q h e)
      = ((softmax (score Qr Kr b h 0 q) (fun t => Vr b (pos t) h e) q.val
          - lr * softmax (score Qr Kr b h 1 q) (fun t => Vr b (pos t) h e) q.val : ℝ) : EReal) := by
  obtain ⟨μ0, S0, h0, p0⟩ := probs_real Q K Qr Kr hQ hK b h 0 q
  obtain ⟨μ1, S1, h1, p1⟩ := probs_real Q K Qr Kr hQ hK b h 1 q
  rw [mixed_at, ← mix _ _ (fun t => Vr b (pos t) h e) q.val q.isLt μ0 μ1 lr S0 S1 h0 h1]
  refine Eq.trans ?_ (map_sum coeHom _ _).symm
  refine Finset.sum_congr rfl fun k _ => ?_
  rw [p0, p1, hl, hV, pos_val, ← EReal.coe_mul, ← EReal.coe_sub, ← EReal.coe_mul]
  rfl

end Cert.ReferenceIdeal.Attn
-- ==== Proof.Final.lean ====
/- The kernel's result array is the reference's term, for finite queries, keys, values and lambda parameters. -/
module

public import proofs.«01_k».proof.Proof.Reads
public import proofs.«01_k».proof.Proof.Ref

@[expose] public section

set_option maxRecDepth 16384

noncomputable section

namespace Cert.KernelIdeal.Attn

open Idealize.ShloMosaic Idealize.ShloMosaic.TcCoe Idealize.SL.Sem
open Cert.KernelIdeal Cert.KernelIdeal.Gen Cert.Attn
open Cert.ReferenceIdeal.Attn (REF scale scale_eq score mixed finish lam probs exps scored)

/-- The factor of the queries is the scale over log 2. -/
theorem factor_eq : factor = ((scale * (1 / Real.log 2) : ℝ) : EReal) := by
  have e : Ideal.ofBits .f32 0x40000000#32 = (((2) : ℝ) : EReal) := by
    have h : Ideal.ofBits .f32 0x40000000#32 = ((8388608 * 2 ^ (-22 : ℤ) : ℝ) : EReal) := by
      simp [Ideal.ofBits, Ideal.ieee]
    rw [h]; congr 1; norm_num
  have hl : Ideal.log ((2 : ℝ) : EReal) = ((Real.log 2 : ℝ) : EReal) :=
    (Ideal.log_coe 2).trans (if_neg (by norm_num))
  unfold factor
  rw [e, hl, scale_eq, Ideal.div_coe (ne_of_gt (Real.log_pos (by norm_num))), ← EReal.coe_mul]

variable (Q K : FVec Ideal S8x4096x8x2x32 .f32) (V : FVec Ideal S8x4096x8x64 .f32) (L : FVec Ideal S4x32 .f32) (g : FVec Ideal S64 .f32)
  (Qr Kr : Fin 8 → Fin 4096 → Fin 8 → Fin 2 → Fin 32 → ℝ) (Vr : Fin 8 → Fin 4096 → Fin 8 → Fin 64 → ℝ) (Lr : Fin 4 → Fin 32 → ℝ)
  (hQ : ∀ b t h c d, Q (ix5 b t h c d) = (Qr b t h c d : EReal)) (hK : ∀ b t h c d, K (ix5 b t h c d) = (Kr b t h c d : EReal))
  (hV : ∀ b t h e, V (ix4 b t h e) = (Vr b t h e : EReal)) (hL : ∀ i d, L (ix2 i d) = (Lr i d : EReal))

include hL in
/-- Lambda is real. -/
theorem lam_real : ∃ lr : ℝ, lam L ix0 = (lr : EReal) := by
  have hs : ∀ i j : Fin 4, ∑ d : Fin 32, L (ix2 i d) * L (ix2 j d) = ((∑ d : Fin 32, Lr i d * Lr j d : ℝ) : EReal) := fun i j => by
    refine Eq.trans ?_ (map_sum coeHom _ _).symm
    exact Finset.sum_congr rfl fun d _ => by rw [hL, hL]; exact (EReal.coe_mul _ _).symm
  have hc : Ideal.ofBits .f32 0x3E4CCCCD#32 = ((13421773 * 2 ^ (-26 : ℤ) : ℝ) : EReal) := by
    simp [Ideal.ofBits, Ideal.ieee]
  rw [Cert.ReferenceIdeal.Attn.lam_at, hs, hs, Ideal.exp_coe, Ideal.exp_coe, hc, ← EReal.coe_sub, ← EReal.coe_add]
  exact ⟨_, rfl⟩

/-- A block's real queries, scaled. -/
def qBlock (t : Fin cfg0.N) (r : Fin 512) (l : Fin 128) : ℝ :=
  Qr (row t) (place t r) (headOf (lane t l)) (compOf (lane t l)) (depthOf (lane t l)) * (scale * (1 / Real.log 2))

/-- A block's real keys. -/
def kBlock (t : Fin cfg0.N) (s : Fin 4096) (l : Fin 128) : ℝ :=
  Kr (row t) s (headOf (lane t l)) (compOf (lane t l)) (depthOf (lane t l))

/-- A block's real values. -/
def vBlock (t : Fin cfg0.N) (s : Fin 4096) (l : Fin 128) : ℝ := Vr (row t) s (headOf (lane t l)) (chanOf (lane t l))

/-- A channel's scores, over log 2, are the reference's. -/
theorem dot_eq (t : Fin cfg0.N) (r : Fin 512) (l : Fin 128) (ci : Fin 2) (s : ℕ) :
    Real.log 2 * dot (qBlock Qr t) (kBlock Kr t) (channel l ci) r s
      = score Qr Kr (row t) (headOf (lane t l)) ci (place t r) s := by
  have hne : Real.log 2 ≠ 0 := ne_of_gt (Real.log_pos (by norm_num))
  have e1 : ∀ d : Fin 32, headOf (lane t (band (channel l ci) d)) = headOf (lane t l) := fun d =>
    Fin.ext (by simp only [headOf, lane, band, channel]; omega)
  have e2 : ∀ d : Fin 32, compOf (lane t (band (channel l ci) d)) = ci := fun d =>
    Fin.ext (by simp only [compOf, lane, band, channel]; omega)
  have e3 : ∀ d : Fin 32, depthOf (lane t (band (channel l ci) d)) = d := fun d =>
    Fin.ext (by simp only [depthOf, lane, band, channel]; omega)
  unfold dot score qBlock kBlock
  simp only [e1, e2, e3]
  rw [Finset.mul_sum, Finset.sum_mul]
  refine Finset.sum_congr rfl fun d _ => ?_
  field_simp

include hQ hK hV in
/-- The difference of the two softmaxes, on both sides. -/
theorem attn_eq (lr : ℝ) (hl : lam L ix0 = (lr : EReal)) (t : Fin cfg0.N) (r : Fin 512) (l : Fin 128) :
    attn (qBlock Qr t) (kBlock Kr t) (vBlock Vr t) (lr : EReal) (grid0.coords t 2).val r l
      = mixed V (lam L) (probs (exps (scored Q K))) (ix4 (row t) (place t r) (headOf (lane t l)) (chanOf (lane t l))) := by
  rw [Cert.ReferenceIdeal.Attn.mixed_real Q K V Qr Kr Vr hQ hK hV (lam L) lr hl]
  unfold attn
  rw [attended_eq _ _ _ _ (dot_eq Qr Kr t r l 0), attended_eq _ _ _ _ (dot_eq Qr Kr t r l 1), ← EReal.coe_mul, ← EReal.coe_sub]
  rfl

/-- Dividing by 64 is multiplying by its reciprocal. -/
theorem div64 (S : EReal) : Ideal.div S (Ideal.ofBits .f32 0x42800000#32) = S * Ideal.ofBits .f32 0x3C800000#32 := by
  have e : Ideal.ofBits .f32 0x42800000#32 = (((64) : ℝ) : EReal) := by
    have h : Ideal.ofBits .f32 0x42800000#32 = ((8388608 * 2 ^ (-17 : ℤ) : ℝ) : EReal) := by
      simp [Ideal.ofBits, Ideal.ieee]
    rw [h]; congr 1; norm_num
  have e' : Ideal.ofBits .f32 0x3C800000#32 = (((1 / 64) : ℝ) : EReal) := by
    have h : Ideal.ofBits .f32 0x3C800000#32 = ((8388608 * 2 ^ (-29 : ℤ) : ℝ) : EReal) := by
      simp [Ideal.ofBits, Ideal.ieee]
    rw [h]; congr 1; norm_num
  rw [e, e', Ideal.div_coe (by norm_num)]

include hQ hK hV hL in
/-- The block stored at a grid point is the reference's term there. -/
theorem stored (m : (ℓ : Loc nD τ sig) → Buf (Elt Ideal) ℓ) (c : Dev nD) (h0 : m ((c : Thread nD τ).loc main_arg0) = Q)
    (h1 : m ((c : Thread nD τ).loc main_arg1) = K) (h2 : m ((c : Thread nD τ).loc main_arg2) = V)
    (h3 : m ((c : Thread nD τ).loc main_arg3) = L) (h4 : m ((c : Thread nD τ).loc main_arg4) = g)
    (t : Fin cfg0.N) (r : Fin 512) (l : Fin 128) :
    outsAt0 m c t (ix3 0 r l) = REF Q K V L g (ix3 (row t) (place t r) (lane t l)) := by
  obtain ⟨lr, hl⟩ := lam_real L Lr hL
  have hn : (grid0.coords t 2).val < 8 := (idx t).2.2.2.2.2.2.2.2
  have hq : ∀ r l, iblk m c 1 t (ix3 0 r l) = (qBlock Qr t r l : EReal) := fun r l => by
    rw [read_query m c t r l Q h0, hQ, factor_eq, ← EReal.coe_mul]; rfl
  have hk : ∀ s l, iblk m c 2 t (ix3 0 s l) = (kBlock Kr t s l : EReal) := fun s l => by
    rw [read_key m c t s l, h1]; exact hK _ _ _ _ _
  have hv : ∀ s l, iblk m c 3 t (ix3 0 s l) = (vBlock Vr t s l : EReal) := fun s l => by
    rw [read_value m c t s l, h2]; exact hV _ _ _ _
  have hlam : k0_pay685 (iblk m c 0 t) (ix2 0 0) = (lr : EReal) := by
    rw [← hl, Cert.ReferenceIdeal.Attn.lam_at, lambda_at]
    simp only [read_lambda, h3]
  have hg : iblk m c 4 t (ix2 0 l) = g (ix1 (chanOf (lane t l))) := by rw [read_weight, h4]
  refine (congrFun (block_eq m c t _ _ _ _ _ rfl rfl rfl rfl rfl) _).trans ?_
  refine (closing_at _ _ _ (qBlock Qr t) (kBlock Kr t) (vBlock Vr t) hq hk hv (grid0.coords t) _ hn (starts t).1 (starts t).2 _ _ r l).trans ?_
  rw [hlam, hg]
  unfold REF
  rw [Cert.ReferenceIdeal.Attn.finish_at, div64]
  have ha := attn_eq Q K V L Qr Kr Vr hQ hK hV lr hl t r
  have e : ∀ e : Fin 64, attn (qBlock Qr t) (kBlock Kr t) (vBlock Vr t) (lr : EReal) (grid0.coords t 2).val r ⟨64 * (l.val / 64) + e.val, by omega⟩
      = mixed V (lam L) (probs (exps (scored Q K))) (ix4 (row t) (place t r) (headOf (lane t l)) e) := fun e => by
    rw [ha]
    congr 2
    · exact Fin.ext (by simp only [headOf, lane]; omega)
    · exact Fin.ext (by simp only [chanOf, lane]; omega)
  simp only [e]
  rw [ha]
  rfl

include hQ hK hV hL in
/-- The result array after the run. -/
theorem final (m : (ℓ : Loc nD τ sig) → Buf (Elt Ideal) ℓ) (c : Dev nD) (h0 : m ((c : Thread nD τ).loc main_arg0) = Q)
    (h1 : m ((c : Thread nD τ).loc main_arg1) = K) (h2 : m ((c : Thread nD τ).loc main_arg2) = V)
    (h3 : m ((c : Thread nD τ).loc main_arg3) = L) (h4 : m ((c : Thread nD τ).loc main_arg4) = g) :
    (dats m 0 c).arrAt 5 cfg0.N = REF Q K V L g := by
  refine (dats m 0 c).arrAt_eq_of_covers 5 _ (by decide +kernel) fun t _ y => ?_
  blk_simp
  rw [after0_5]
  idx_vars y
  have hy : y0 = 0 := Subsingleton.elim _ _
  subst hy
  refine (stored Q K V L g Qr Kr Vr Lr hQ hK hV hL m c h0 h1 h2 h3 h4 t y1 y2).trans ?_
  blk_ext [idx t, row, place, lane]

end Cert.KernelIdeal.Attn
-- ==== Proof.Finite.lean ====
/- The precondition, entry by entry: what it holds of is real. -/
module

public import proofs.«01_k».proof.Defs
public import Idealize.ShloMosaic.Lib.Pointwise

@[expose] public section

set_option maxRecDepth 16384

noncomputable section

namespace Cert.Attn

open Idealize.ShloMosaic

/-- The shape facts the precondition states. -/
theorem finite_facts : Cert.Pre_finite_inputs.Facts where
  bcast_S_S8x4096x8x2x32 := by decide
  bcast_S_S8x4096x8x64 := by decide
  bcast_S_S4x32 := by decide

/-- An absolute value below plus infinity is a real number's. -/
theorem real_of_abs {x : EReal} (h : FloatOps.cmpf (F := Ideal) (φ := .f32) .olt (FloatOps.absf (F := Ideal) (φ := .f32) x) (Ideal.ofBits .f32 0x7F800000#32) = 1#1) :
    ∃ r : ℝ, x = (r : EReal) := by
  have h' : Ideal.cmp .olt (max x (-x)) (Ideal.ofBits .f32 0x7F800000#32) = 1#1 := h
  have e : Ideal.ofBits .f32 0x7F800000#32 = ⊤ := by simp [Ideal.ofBits, Ideal.ieee]
  rw [e] at h'
  induction x with
  | bot => simp [Ideal.cmp] at h'
  | top => simp [Ideal.cmp] at h'
  | coe r => exact ⟨r, rfl⟩

/-- An array whose absolute values are below plus infinity is real. -/
theorem real_of_finite (S : Shape) (X : FVec Ideal S .f32) (B : FVec Ideal S .f32) (hB : ∀ i, B i = Ideal.ofBits .f32 0x7F800000#32)
    (h : cmpf .olt (Host.absf X) B = fun _ => 1#1) (i : S.Idx) : ∃ r : ℝ, X i = (r : EReal) := by
  have := congrFun h i
  have e : cmpf .olt (Host.absf X) B i = FloatOps.cmpf (F := Ideal) (φ := .f32) .olt (FloatOps.absf (F := Ideal) (φ := .f32) (X i)) (B i) := rfl
  rw [e, hB] at this
  exact real_of_abs this

end Cert.Attn
-- ==== Proof.lean ====
/- Every program of the certificate runs, ends with its arguments unchanged and its counters at zero; the constant that
   the kernel masks with is named minus infinity; and over extended reals the kernel returns what the reference returns. -/
module

public import proofs.«01_k».proof.Proof.Gen.ReferenceIdeal.Run
public import proofs.«01_k».proof.Defs
public import proofs.«01_k».proof.Proof.Gen.Kernel.Frame
public import proofs.«01_k».proof.Proof.Gen.KernelIdeal.Frame
public import proofs.«01_k».proof.Proof.Gen.Reference2Ideal.Run
public import proofs.«01_k».proof.Proof.ExpertValue
public import proofs.«01_k».proof.Proof.Gen.Kernel3.Frame
public import proofs.«01_k».proof.Proof.Gen.Reference3Ideal.Run
public import proofs.«01_k».proof.Proof.ProjValue
public import proofs.«01_k».proof.Proof.Gen.Kernel4.Frame
public import proofs.«01_k».proof.Proof.Gen.Reference4Ideal.Run
public import proofs.«01_k».proof.Proof.StepValue
public import proofs.«01_k».proof.Proof.Final
public import proofs.«01_k».proof.Proof.Finite
public import Idealize.ShloMosaic.Adequacy
public import Idealize.ShloMosaic.Init

@[expose] public section

set_option maxRecDepth 16384

noncomputable section

namespace Cert.Proof

open Idealize.ShloMosaic Idealize.SL.Sem

/-- The reference runs and leaves its arguments as they were; it has no counters. -/
theorem frame_reference : @Cert.quiescent_ReferenceIdeal Cert.ReferenceIdeal.Gen.facts :=
  letI := Cert.ReferenceIdeal.Gen.facts
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- The mask constant of the kernel names minus infinity. -/
theorem preserves : Cert.preserves_Kernel_KernelIdeal := IdealRules.named_const.statement _ _ _ _ _ rfl

/-- For finite queries, keys, values and lambda parameters, the kernel's result is the reference's. -/
theorem algebraic : @Cert.algebraic_KernelIdeal_ReferenceIdeal_pre_finite_inputs Cert.KernelIdeal.Gen.facts Cert.ReferenceIdeal.Gen.facts
    Cert.Attn.finite_facts := by
  pair_intro
  · run_from Cert.KernelIdeal.Gen.run_main m g
  · run_from Cert.ReferenceIdeal.Value.run m' g'
    obtain ⟨e0, e1, e2, e3, e4⟩ := hagree c
    obtain ⟨p0, p1, p2, p3⟩ := hpre c
    have f0 := Cert.Attn.real_of_finite _ _ _ (fun _ => rfl) p0
    have f1 := Cert.Attn.real_of_finite _ _ _ (fun _ => rfl) p1
    have f2 := Cert.Attn.real_of_finite _ _ _ (fun _ => rfl) p2
    have f3 := Cert.Attn.real_of_finite _ _ _ (fun _ => rfl) p3
    choose Qr hQ using f0
    choose Kr hK using f1
    choose Vr hV using f2
    choose Lr hL using f3
    refine (Cert.ReferenceIdeal.Attn.res_eq m' c).trans ?_
    rw [e0, e1, e2, e3, e4]
    exact (Cert.KernelIdeal.Attn.final _ _ _ _ _ (fun b t h c d => Qr (ix5 b t h c d)) (fun b t h c d => Kr (ix5 b t h c d))
      (fun b t h e => Vr (ix4 b t h e)) (fun i d => Lr (ix2 i d)) (fun _ _ _ _ _ => hQ _) (fun _ _ _ _ _ => hK _)
      (fun _ _ _ _ => hV _) (fun _ _ => hL _) m c rfl rfl rfl rfl rfl).symm

/-- The experts' reference runs and leaves its arguments as they were; it has no counters. -/
theorem frame_reference2 : @Cert.quiescent_Reference2Ideal Cert.Reference2Ideal.Gen.facts :=
  letI := Cert.Reference2Ideal.Gen.facts
  fun m ρ _ => (θ_run Cert.Reference2Ideal.defs _ _).mono
    (fun r h => ⟨fun c => (h c).2, sem_eq_zero_of_no_sems (by decide) r.2⟩)
    (Cert.Reference2Ideal.Value.run (F := Ideal) m ρ)

/-- The projection's reference runs and leaves its arguments as they were; it has no counters. -/
theorem frame_reference3 : @Cert.quiescent_Reference3Ideal Cert.Reference3Ideal.Gen.facts :=
  letI := Cert.Reference3Ideal.Gen.facts
  fun m ρ _ => (θ_run Cert.Reference3Ideal.defs _ _).mono
    (fun r h => ⟨fun c => (h c).2.2.2.2.2, sem_eq_zero_of_no_sems (by decide) r.2⟩)
    (Cert.Reference3Ideal.Value.run (F := Ideal) m ρ)

/-- The reference of the decoding step's projection runs and leaves its arguments as they were; it has no counters. -/
theorem frame_reference4 : @Cert.quiescent_Reference4Ideal Cert.Reference4Ideal.Gen.facts :=
  letI := Cert.Reference4Ideal.Gen.facts
  fun m ρ _ => (θ_run Cert.Reference4Ideal.defs _ _).mono
    (fun r h => ⟨fun c => (h c).2.2.2.2.2, sem_eq_zero_of_no_sems (by decide) r.2⟩)
    (Cert.Reference4Ideal.Value.run (F := Ideal) m ρ)

/-- Everything stated, of the attention, of the experts and of the two projections. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Attn.finite_facts, Cert.Pre_routed.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  Cert.Kernel2Ideal.Experts.frame_bits, Cert.Kernel2Ideal.Experts.frame_ideal, frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  preserves, algebraic, trivial, Cert.Kernel2Ideal.Experts.algebraic, trivial, Cert.Kernel3Ideal.Keys.algebraic,
  trivial, Cert.Kernel4Ideal.Keys.algebraic⟩

end Cert.Proof

end
